-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelHeads (m : (ℓ : Loc Cert.KernelHeads.nD Cert.KernelHeads.τ Cert.KernelHeads.sig) → Buf (Elt Bits) ℓ) : Prop :=
  True

def Pre_KernelHeadsIdeal (m : (ℓ : Loc Cert.KernelHeadsIdeal.nD Cert.KernelHeadsIdeal.τ Cert.KernelHeadsIdeal.sig) → Buf (Elt Ideal) ℓ) : Prop :=
  True

def Pre_ReferenceHeadsIdeal (m : (ℓ : Loc Cert.ReferenceHeadsIdeal.nD Cert.ReferenceHeadsIdeal.τ Cert.ReferenceHeadsIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelSampleK (m : (ℓ : Loc Cert.KernelSampleK.nD Cert.KernelSampleK.τ Cert.KernelSampleK.sig) → Buf (Elt Bits) ℓ) : Prop :=
  True

def Pre_KernelSampleKIdeal (m : (ℓ : Loc Cert.KernelSampleKIdeal.nD Cert.KernelSampleKIdeal.τ Cert.KernelSampleKIdeal.sig) → Buf (Elt Ideal) ℓ) : Prop :=
  True

def Pre_ReferenceSampleKIdeal (m : (ℓ : Loc Cert.ReferenceSampleKIdeal.nD Cert.ReferenceSampleKIdeal.τ Cert.ReferenceSampleKIdeal.sig) → Buf (Elt Ideal) ℓ) : Prop :=
  True

def Pre_KernelSampleV (m : (ℓ : Loc Cert.KernelSampleV.nD Cert.KernelSampleV.τ Cert.KernelSampleV.sig) → Buf (Elt Bits) ℓ) : Prop :=
  True

def Pre_KernelSampleVIdeal (m : (ℓ : Loc Cert.KernelSampleVIdeal.nD Cert.KernelSampleVIdeal.τ Cert.KernelSampleVIdeal.sig) → Buf (Elt Ideal) ℓ) : Prop :=
  True

def Pre_ReferenceSampleVIdeal (m : (ℓ : Loc Cert.ReferenceSampleVIdeal.nD Cert.ReferenceSampleVIdeal.τ Cert.ReferenceSampleVIdeal.sig) → Buf (Elt Ideal) ℓ) : Prop :=
  True

def Pre_KernelSampleForget (m : (ℓ : Loc Cert.KernelSampleForget.nD Cert.KernelSampleForget.τ Cert.KernelSampleForget.sig) → Buf (Elt Bits) ℓ) : Prop :=
  True

def Pre_KernelSampleForgetIdeal (m : (ℓ : Loc Cert.KernelSampleForgetIdeal.nD Cert.KernelSampleForgetIdeal.τ Cert.KernelSampleForgetIdeal.sig) → Buf (Elt Ideal) ℓ) : Prop :=
  True

def Pre_ReferenceSampleForgetIdeal (m : (ℓ : Loc Cert.ReferenceSampleForgetIdeal.nD Cert.ReferenceSampleForgetIdeal.τ Cert.ReferenceSampleForgetIdeal.sig) → Buf (Elt Ideal) ℓ) : Prop :=
  True

def Pre_KernelSampleIn (m : (ℓ : Loc Cert.KernelSampleIn.nD Cert.KernelSampleIn.τ Cert.KernelSampleIn.sig) → Buf (Elt Bits) ℓ) : Prop :=
  True

def Pre_KernelSampleInIdeal (m : (ℓ : Loc Cert.KernelSampleInIdeal.nD Cert.KernelSampleInIdeal.τ Cert.KernelSampleInIdeal.sig) → Buf (Elt Ideal) ℓ) : Prop :=
  True

def Pre_ReferenceSampleInIdeal (m : (ℓ : Loc Cert.ReferenceSampleInIdeal.nD Cert.ReferenceSampleInIdeal.τ Cert.ReferenceSampleInIdeal.sig) → Buf (Elt Ideal) ℓ) : Prop :=
  True

def Pre_KernelSampleLn (m : (ℓ : Loc Cert.KernelSampleLn.nD Cert.KernelSampleLn.τ Cert.KernelSampleLn.sig) → Buf (Elt Bits) ℓ) : Prop :=
  True

def Pre_KernelSampleLnIdeal (m : (ℓ : Loc Cert.KernelSampleLnIdeal.nD Cert.KernelSampleLnIdeal.τ Cert.KernelSampleLnIdeal.sig) → Buf (Elt Ideal) ℓ) : Prop :=
  True

def Pre_ReferenceSampleLnIdeal (m : (ℓ : Loc Cert.ReferenceSampleLnIdeal.nD Cert.ReferenceSampleLnIdeal.τ Cert.ReferenceSampleLnIdeal.sig) → Buf (Elt Ideal) ℓ) : Prop :=
  True

def Pre_KernelSampleHeads (m : (ℓ : Loc Cert.KernelSampleHeads.nD Cert.KernelSampleHeads.τ Cert.KernelSampleHeads.sig) → Buf (Elt Bits) ℓ) : Prop :=
  True

def Pre_KernelSampleHeadsIdeal (m : (ℓ : Loc Cert.KernelSampleHeadsIdeal.nD Cert.KernelSampleHeadsIdeal.τ Cert.KernelSampleHeadsIdeal.sig) → Buf (Elt Ideal) ℓ) : Prop :=
  True

def Pre_ReferenceSampleHeadsIdeal (m : (ℓ : Loc Cert.ReferenceSampleHeadsIdeal.nD Cert.ReferenceSampleHeadsIdeal.τ Cert.ReferenceSampleHeadsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1)
      ∧ r.2.mem ((c.tc : Thread Cert.KernelForget.nD Cert.KernelForget.τ).loc Cert.KernelForget.main_arg2) = m ((c.tc : Thread Cert.KernelForget.nD Cert.KernelForget.τ).loc Cert.KernelForget.main_arg2))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelHeads [hKernelHeads : Cert.KernelHeads.Facts] : Prop :=
  ∀ (m : (ℓ : Loc Cert.KernelHeads.nD Cert.KernelHeads.τ Cert.KernelHeads.sig) → Buf (Elt Bits) ℓ) (g : Dev Cert.KernelHeads.nD → PrngReg), Pre_KernelHeads m →
    θ_run (Cert.KernelHeads.defs (F := Bits)) (onTc (τ := Cert.KernelHeads.τ) (Cert.KernelHeads.main (F := Bits))) ⟨m, fun _ => 0, g⟩ (fun r => (∀ c : Dev Cert.KernelHeads.nD,
      r.2.mem ((c.tc : Thread Cert.KernelHeads.nD Cert.KernelHeads.τ).loc Cert.KernelHeads.main_arg0) = m ((c.tc : Thread Cert.KernelHeads.nD Cert.KernelHeads.τ).loc Cert.KernelHeads.main_arg0))
      ∧ r.2.sem = fun _ => 0)

def quiescent_KernelHeadsIdeal [hKernelHeadsIdeal : Cert.KernelHeadsIdeal.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg), Pre_KernelHeadsIdeal m →
    θ_run (Cert.KernelHeadsIdeal.defs (F := Ideal)) (onTc (τ := Cert.KernelHeadsIdeal.τ) (Cert.KernelHeadsIdeal.main (F := Ideal))) ⟨m, fun _ => 0, g⟩ (fun r => (∀ c : Dev Cert.KernelHeadsIdeal.nD,
      r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0))
      ∧ r.2.sem = fun _ => 0)

def quiescent_ReferenceHeadsIdeal [hReferenceHeadsIdeal : Cert.ReferenceHeadsIdeal.Facts] : Prop :=
  ∀ (m : (ℓ : Loc Cert.ReferenceHeadsIdeal.nD Cert.ReferenceHeadsIdeal.τ Cert.ReferenceHeadsIdeal.sig) → Buf (Elt Ideal) ℓ) (g : Dev Cert.ReferenceHeadsIdeal.nD → PrngReg), Pre_ReferenceHeadsIdeal m →
    θ_run (Cert.ReferenceHeadsIdeal.defs (F := Ideal)) (onTc (τ := Cert.ReferenceHeadsIdeal.τ) (Cert.ReferenceHeadsIdeal.main (F := Ideal))) ⟨m, fun _ => 0, g⟩ (fun r => (∀ c : Dev Cert.ReferenceHeadsIdeal.nD,
      r.2.mem ((c.tc : Thread Cert.ReferenceHeadsIdeal.nD Cert.ReferenceHeadsIdeal.τ).loc Cert.ReferenceHeadsIdeal.main_arg0) = m ((c.tc : Thread Cert.ReferenceHeadsIdeal.nD Cert.ReferenceHeadsIdeal.τ).loc Cert.ReferenceHeadsIdeal.main_arg0))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelSampleK [hKernelSampleK : Cert.KernelSampleK.Facts] : Prop :=
  ∀ (m : (ℓ : Loc Cert.KernelSampleK.nD Cert.KernelSampleK.τ Cert.KernelSampleK.sig) → Buf (Elt Bits) ℓ) (g : Dev Cert.KernelSampleK.nD → PrngReg), Pre_KernelSampleK m →
    θ_run (Cert.KernelSampleK.defs (F := Bits)) (onTc (τ := Cert.KernelSampleK.τ) (Cert.KernelSampleK.main (F := Bits))) ⟨m, fun _ => 0, g⟩ (fun r => (∀ c : Dev Cert.KernelSampleK.nD,
      r.2.mem ((c.tc : Thread Cert.KernelSampleK.nD Cert.KernelSampleK.τ).loc Cert.KernelSampleK.main_arg0) = m ((c.tc : Thread Cert.KernelSampleK.nD Cert.KernelSampleK.τ).loc Cert.KernelSampleK.main_arg0)
      ∧ r.2.mem ((c.tc : Thread Cert.KernelSampleK.nD Cert.KernelSampleK.τ).loc Cert.KernelSampleK.main_arg1) = m ((c.tc : Thread Cert.KernelSampleK.nD Cert.KernelSampleK.τ).loc Cert.KernelSampleK.main_arg1))
      ∧ r.2.sem = fun _ => 0)

def quiescent_KernelSampleKIdeal [hKernelSampleKIdeal : Cert.KernelSampleKIdeal.Facts] : Prop :=
  ∀ (m : (ℓ : Loc Cert.KernelSampleKIdeal.nD Cert.KernelSampleKIdeal.τ Cert.KernelSampleKIdeal.sig) → Buf (Elt Ideal) ℓ) (g : Dev Cert.KernelSampleKIdeal.nD → PrngReg), Pre_KernelSampleKIdeal m →
    θ_run (Cert.KernelSampleKIdeal.defs (F := Ideal)) (onTc (τ := Cert.KernelSampleKIdeal.τ) (Cert.KernelSampleKIdeal.main (F := Ideal))) ⟨m, fun _ => 0, g⟩ (fun r => (∀ c : Dev Cert.KernelSampleKIdeal.nD,
      r.2.mem ((c.tc : Thread Cert.KernelSampleKIdeal.nD Cert.KernelSampleKIdeal.τ).loc Cert.KernelSampleKIdeal.main_arg0) = m ((c.tc : Thread Cert.KernelSampleKIdeal.nD Cert.KernelSampleKIdeal.τ).loc Cert.KernelSampleKIdeal.main_arg0)
      ∧ r.2.mem ((c.tc : Thread Cert.KernelSampleKIdeal.nD Cert.KernelSampleKIdeal.τ).loc Cert.KernelSampleKIdeal.main_arg1) = m ((c.tc : Thread Cert.KernelSampleKIdeal.nD Cert.KernelSampleKIdeal.τ).loc Cert.KernelSampleKIdeal.main_arg1))
      ∧ r.2.sem = fun _ => 0)

def quiescent_ReferenceSampleKIdeal [hReferenceSampleKIdeal : Cert.ReferenceSampleKIdeal.Facts] : Prop :=
  ∀ (m : (ℓ : Loc Cert.ReferenceSampleKIdeal.nD Cert.ReferenceSampleKIdeal.τ Cert.ReferenceSampleKIdeal.sig) → Buf (Elt Ideal) ℓ) (g : Dev Cert.ReferenceSampleKIdeal.nD → PrngReg), Pre_ReferenceSampleKIdeal m →
    θ_run (Cert.ReferenceSampleKIdeal.defs (F := Ideal)) (onTc (τ := Cert.ReferenceSampleKIdeal.τ) (Cert.ReferenceSampleKIdeal.main (F := Ideal))) ⟨m, fun _ => 0, g⟩ (fun r => (∀ c : Dev Cert.ReferenceSampleKIdeal.nD,
      r.2.mem ((c.tc : Thread Cert.ReferenceSampleKIdeal.nD Cert.ReferenceSampleKIdeal.τ).loc Cert.ReferenceSampleKIdeal.main_arg0) = m ((c.tc : Thread Cert.ReferenceSampleKIdeal.nD Cert.ReferenceSampleKIdeal.τ).loc Cert.ReferenceSampleKIdeal.main_arg0)
      ∧ r.2.mem ((c.tc : Thread Cert.ReferenceSampleKIdeal.nD Cert.ReferenceSampleKIdeal.τ).loc Cert.ReferenceSampleKIdeal.main_arg1) = m ((c.tc : Thread Cert.ReferenceSampleKIdeal.nD Cert.ReferenceSampleKIdeal.τ).loc Cert.ReferenceSampleKIdeal.main_arg1))
      ∧ r.2.sem = fun _ => 0)

def quiescent_KernelSampleV [hKernelSampleV : Cert.KernelSampleV.Facts] : Prop :=
  ∀ (m : (ℓ : Loc Cert.KernelSampleV.nD Cert.KernelSampleV.τ Cert.KernelSampleV.sig) → Buf (Elt Bits) ℓ) (g : Dev Cert.KernelSampleV.nD → PrngReg), Pre_KernelSampleV m →
    θ_run (Cert.KernelSampleV.defs (F := Bits)) (onTc (τ := Cert.KernelSampleV.τ) (Cert.KernelSampleV.main (F := Bits))) ⟨m, fun _ => 0, g⟩ (fun r => (∀ c : Dev Cert.KernelSampleV.nD,
      r.2.mem ((c.tc : Thread Cert.KernelSampleV.nD Cert.KernelSampleV.τ).loc Cert.KernelSampleV.main_arg0) = m ((c.tc : Thread Cert.KernelSampleV.nD Cert.KernelSampleV.τ).loc Cert.KernelSampleV.main_arg0)
      ∧ r.2.mem ((c.tc : Thread Cert.KernelSampleV.nD Cert.KernelSampleV.τ).loc Cert.KernelSampleV.main_arg1) = m ((c.tc : Thread Cert.KernelSampleV.nD Cert.KernelSampleV.τ).loc Cert.KernelSampleV.main_arg1))
      ∧ r.2.sem = fun _ => 0)

def quiescent_KernelSampleVIdeal [hKernelSampleVIdeal : Cert.KernelSampleVIdeal.Facts] : Prop :=
  ∀ (m : (ℓ : Loc Cert.KernelSampleVIdeal.nD Cert.KernelSampleVIdeal.τ Cert.KernelSampleVIdeal.sig) → Buf (Elt Ideal) ℓ) (g : Dev Cert.KernelSampleVIdeal.nD → PrngReg), Pre_KernelSampleVIdeal m →
    θ_run (Cert.KernelSampleVIdeal.defs (F := Ideal)) (onTc (τ := Cert.KernelSampleVIdeal.τ) (Cert.KernelSampleVIdeal.main (F := Ideal))) ⟨m, fun _ => 0, g⟩ (fun r => (∀ c : Dev Cert.KernelSampleVIdeal.nD,
      r.2.mem ((c.tc : Thread Cert.KernelSampleVIdeal.nD Cert.KernelSampleVIdeal.τ).loc Cert.KernelSampleVIdeal.main_arg0) = m ((c.tc : Thread Cert.KernelSampleVIdeal.nD Cert.KernelSampleVIdeal.τ).loc Cert.KernelSampleVIdeal.main_arg0)
      ∧ r.2.mem ((c.tc : Thread Cert.KernelSampleVIdeal.nD Cert.KernelSampleVIdeal.τ).loc Cert.KernelSampleVIdeal.main_arg1) = m ((c.tc : Thread Cert.KernelSampleVIdeal.nD Cert.KernelSampleVIdeal.τ).loc Cert.KernelSampleVIdeal.main_arg1))
      ∧ r.2.sem = fun _ => 0)

def quiescent_ReferenceSampleVIdeal [hReferenceSampleVIdeal : Cert.ReferenceSampleVIdeal.Facts] : Prop :=
  ∀ (m : (ℓ : Loc Cert.ReferenceSampleVIdeal.nD Cert.ReferenceSampleVIdeal.τ Cert.ReferenceSampleVIdeal.sig) → Buf (Elt Ideal) ℓ) (g : Dev Cert.ReferenceSampleVIdeal.nD → PrngReg), Pre_ReferenceSampleVIdeal m →
    θ_run (Cert.ReferenceSampleVIdeal.defs (F := Ideal)) (onTc (τ := Cert.ReferenceSampleVIdeal.τ) (Cert.ReferenceSampleVIdeal.main (F := Ideal))) ⟨m, fun _ => 0, g⟩ (fun r => (∀ c : Dev Cert.ReferenceSampleVIdeal.nD,
      r.2.mem ((c.tc : Thread Cert.ReferenceSampleVIdeal.nD Cert.ReferenceSampleVIdeal.τ).loc Cert.ReferenceSampleVIdeal.main_arg0) = m ((c.tc : Thread Cert.ReferenceSampleVIdeal.nD Cert.ReferenceSampleVIdeal.τ).loc Cert.ReferenceSampleVIdeal.main_arg0)
      ∧ r.2.mem ((c.tc : Thread Cert.ReferenceSampleVIdeal.nD Cert.ReferenceSampleVIdeal.τ).loc Cert.ReferenceSampleVIdeal.main_arg1) = m ((c.tc : Thread Cert.ReferenceSampleVIdeal.nD Cert.ReferenceSampleVIdeal.τ).loc Cert.ReferenceSampleVIdeal.main_arg1))
      ∧ r.2.sem = fun _ => 0)

def quiescent_KernelSampleForget [hKernelSampleForget : Cert.KernelSampleForget.Facts] : Prop :=
  ∀ (m : (ℓ : Loc Cert.KernelSampleForget.nD Cert.KernelSampleForget.τ Cert.KernelSampleForget.sig) → Buf (Elt Bits) ℓ) (g : Dev Cert.KernelSampleForget.nD → PrngReg), Pre_KernelSampleForget m →
    θ_run (Cert.KernelSampleForget.defs (F := Bits)) (onTc (τ := Cert.KernelSampleForget.τ) (Cert.KernelSampleForget.main (F := Bits))) ⟨m, fun _ => 0, g⟩ (fun r => (∀ c : Dev Cert.KernelSampleForget.nD,
      r.2.mem ((c.tc : Thread Cert.KernelSampleForget.nD Cert.KernelSampleForget.τ).loc Cert.KernelSampleForget.main_arg0) = m ((c.tc : Thread Cert.KernelSampleForget.nD Cert.KernelSampleForget.τ).loc Cert.KernelSampleForget.main_arg0)
      ∧ r.2.mem ((c.tc : Thread Cert.KernelSampleForget.nD Cert.KernelSampleForget.τ).loc Cert.KernelSampleForget.main_arg1) = m ((c.tc : Thread Cert.KernelSampleForget.nD Cert.KernelSampleForget.τ).loc Cert.KernelSampleForget.main_arg1)
      ∧ r.2.mem ((c.tc : Thread Cert.KernelSampleForget.nD Cert.KernelSampleForget.τ).loc Cert.KernelSampleForget.main_arg2) = m ((c.tc : Thread Cert.KernelSampleForget.nD Cert.KernelSampleForget.τ).loc Cert.KernelSampleForget.main_arg2))
      ∧ r.2.sem = fun _ => 0)

def quiescent_KernelSampleForgetIdeal [hKernelSampleForgetIdeal : Cert.KernelSampleForgetIdeal.Facts] : Prop :=
  ∀ (m : (ℓ : Loc Cert.KernelSampleForgetIdeal.nD Cert.KernelSampleForgetIdeal.τ Cert.KernelSampleForgetIdeal.sig) → Buf (Elt Ideal) ℓ) (g : Dev Cert.KernelSampleForgetIdeal.nD → PrngReg), Pre_KernelSampleForgetIdeal m →
    θ_run (Cert.KernelSampleForgetIdeal.defs (F := Ideal)) (onTc (τ := Cert.KernelSampleForgetIdeal.τ) (Cert.KernelSampleForgetIdeal.main (F := Ideal))) ⟨m, fun _ => 0, g⟩ (fun r => (∀ c : Dev Cert.KernelSampleForgetIdeal.nD,
      r.2.mem ((c.tc : Thread Cert.KernelSampleForgetIdeal.nD Cert.KernelSampleForgetIdeal.τ).loc Cert.KernelSampleForgetIdeal.main_arg0) = m ((c.tc : Thread Cert.KernelSampleForgetIdeal.nD Cert.KernelSampleForgetIdeal.τ).loc Cert.KernelSampleForgetIdeal.main_arg0)
      ∧ r.2.mem ((c.tc : Thread Cert.KernelSampleForgetIdeal.nD Cert.KernelSampleForgetIdeal.τ).loc Cert.KernelSampleForgetIdeal.main_arg1) = m ((c.tc : Thread Cert.KernelSampleForgetIdeal.nD Cert.KernelSampleForgetIdeal.τ).loc Cert.KernelSampleForgetIdeal.main_arg1)
      ∧ r.2.mem ((c.tc : Thread Cert.KernelSampleForgetIdeal.nD Cert.KernelSampleForgetIdeal.τ).loc Cert.KernelSampleForgetIdeal.main_arg2) = m ((c.tc : Thread Cert.KernelSampleForgetIdeal.nD Cert.KernelSampleForgetIdeal.τ).loc Cert.KernelSampleForgetIdeal.main_arg2))
      ∧ r.2.sem = fun _ => 0)

def quiescent_ReferenceSampleForgetIdeal [hReferenceSampleForgetIdeal : Cert.ReferenceSampleForgetIdeal.Facts] : Prop :=
  ∀ (m : (ℓ : Loc Cert.ReferenceSampleForgetIdeal.nD Cert.ReferenceSampleForgetIdeal.τ Cert.ReferenceSampleForgetIdeal.sig) → Buf (Elt Ideal) ℓ) (g : Dev Cert.ReferenceSampleForgetIdeal.nD → PrngReg), Pre_ReferenceSampleForgetIdeal m →
    θ_run (Cert.ReferenceSampleForgetIdeal.defs (F := Ideal)) (onTc (τ := Cert.ReferenceSampleForgetIdeal.τ) (Cert.ReferenceSampleForgetIdeal.main (F := Ideal))) ⟨m, fun _ => 0, g⟩ (fun r => (∀ c : Dev Cert.ReferenceSampleForgetIdeal.nD,
      r.2.mem ((c.tc : Thread Cert.ReferenceSampleForgetIdeal.nD Cert.ReferenceSampleForgetIdeal.τ).loc Cert.ReferenceSampleForgetIdeal.main_arg0) = m ((c.tc : Thread Cert.ReferenceSampleForgetIdeal.nD Cert.ReferenceSampleForgetIdeal.τ).loc Cert.ReferenceSampleForgetIdeal.main_arg0)
      ∧ r.2.mem ((c.tc : Thread Cert.ReferenceSampleForgetIdeal.nD Cert.ReferenceSampleForgetIdeal.τ).loc Cert.ReferenceSampleForgetIdeal.main_arg1) = m ((c.tc : Thread Cert.ReferenceSampleForgetIdeal.nD Cert.ReferenceSampleForgetIdeal.τ).loc Cert.ReferenceSampleForgetIdeal.main_arg1)
      ∧ r.2.mem ((c.tc : Thread Cert.ReferenceSampleForgetIdeal.nD Cert.ReferenceSampleForgetIdeal.τ).loc Cert.ReferenceSampleForgetIdeal.main_arg2) = m ((c.tc : Thread Cert.ReferenceSampleForgetIdeal.nD Cert.ReferenceSampleForgetIdeal.τ).loc Cert.ReferenceSampleForgetIdeal.main_arg2))
      ∧ r.2.sem = fun _ => 0)

def quiescent_KernelSampleIn [hKernelSampleIn : Cert.KernelSampleIn.Facts] : Prop :=
  ∀ (m : (ℓ : Loc Cert.KernelSampleIn.nD Cert.KernelSampleIn.τ Cert.KernelSampleIn.sig) → Buf (Elt Bits) ℓ) (g : Dev Cert.KernelSampleIn.nD → PrngReg), Pre_KernelSampleIn m →
    θ_run (Cert.KernelSampleIn.defs (F := Bits)) (onTc (τ := Cert.KernelSampleIn.τ) (Cert.KernelSampleIn.main (F := Bits))) ⟨m, fun _ => 0, g⟩ (fun r => (∀ c : Dev Cert.KernelSampleIn.nD,
      r.2.mem ((c.tc : Thread Cert.KernelSampleIn.nD Cert.KernelSampleIn.τ).loc Cert.KernelSampleIn.main_arg0) = m ((c.tc : Thread Cert.KernelSampleIn.nD Cert.KernelSampleIn.τ).loc Cert.KernelSampleIn.main_arg0)
      ∧ r.2.mem ((c.tc : Thread Cert.KernelSampleIn.nD Cert.KernelSampleIn.τ).loc Cert.KernelSampleIn.main_arg1) = m ((c.tc : Thread Cert.KernelSampleIn.nD Cert.KernelSampleIn.τ).loc Cert.KernelSampleIn.main_arg1))
      ∧ r.2.sem = fun _ => 0)

def quiescent_KernelSampleInIdeal [hKernelSampleInIdeal : Cert.KernelSampleInIdeal.Facts] : Prop :=
  ∀ (m : (ℓ : Loc Cert.KernelSampleInIdeal.nD Cert.KernelSampleInIdeal.τ Cert.KernelSampleInIdeal.sig) → Buf (Elt Ideal) ℓ) (g : Dev Cert.KernelSampleInIdeal.nD → PrngReg), Pre_KernelSampleInIdeal m →
    θ_run (Cert.KernelSampleInIdeal.defs (F := Ideal)) (onTc (τ := Cert.KernelSampleInIdeal.τ) (Cert.KernelSampleInIdeal.main (F := Ideal))) ⟨m, fun _ => 0, g⟩ (fun r => (∀ c : Dev Cert.KernelSampleInIdeal.nD,
      r.2.mem ((c.tc : Thread Cert.KernelSampleInIdeal.nD Cert.KernelSampleInIdeal.τ).loc Cert.KernelSampleInIdeal.main_arg0) = m ((c.tc : Thread Cert.KernelSampleInIdeal.nD Cert.KernelSampleInIdeal.τ).loc Cert.KernelSampleInIdeal.main_arg0)
      ∧ r.2.mem ((c.tc : Thread Cert.KernelSampleInIdeal.nD Cert.KernelSampleInIdeal.τ).loc Cert.KernelSampleInIdeal.main_arg1) = m ((c.tc : Thread Cert.KernelSampleInIdeal.nD Cert.KernelSampleInIdeal.τ).loc Cert.KernelSampleInIdeal.main_arg1))
      ∧ r.2.sem = fun _ => 0)

def quiescent_ReferenceSampleInIdeal [hReferenceSampleInIdeal : Cert.ReferenceSampleInIdeal.Facts] : Prop :=
  ∀ (m : (ℓ : Loc Cert.ReferenceSampleInIdeal.nD Cert.ReferenceSampleInIdeal.τ Cert.ReferenceSampleInIdeal.sig) → Buf (Elt Ideal) ℓ) (g : Dev Cert.ReferenceSampleInIdeal.nD → PrngReg), Pre_ReferenceSampleInIdeal m →
    θ_run (Cert.ReferenceSampleInIdeal.defs (F := Ideal)) (onTc (τ := Cert.ReferenceSampleInIdeal.τ) (Cert.ReferenceSampleInIdeal.main (F := Ideal))) ⟨m, fun _ => 0, g⟩ (fun r => (∀ c : Dev Cert.ReferenceSampleInIdeal.nD,
      r.2.mem ((c.tc : Thread Cert.ReferenceSampleInIdeal.nD Cert.ReferenceSampleInIdeal.τ).loc Cert.ReferenceSampleInIdeal.main_arg0) = m ((c.tc : Thread Cert.ReferenceSampleInIdeal.nD Cert.ReferenceSampleInIdeal.τ).loc Cert.ReferenceSampleInIdeal.main_arg0)
      ∧ r.2.mem ((c.tc : Thread Cert.ReferenceSampleInIdeal.nD Cert.ReferenceSampleInIdeal.τ).loc Cert.ReferenceSampleInIdeal.main_arg1) = m ((c.tc : Thread Cert.ReferenceSampleInIdeal.nD Cert.ReferenceSampleInIdeal.τ).loc Cert.ReferenceSampleInIdeal.main_arg1))
      ∧ r.2.sem = fun _ => 0)

def quiescent_KernelSampleLn [hKernelSampleLn : Cert.KernelSampleLn.Facts] : Prop :=
  ∀ (m : (ℓ : Loc Cert.KernelSampleLn.nD Cert.KernelSampleLn.τ Cert.KernelSampleLn.sig) → Buf (Elt Bits) ℓ) (g : Dev Cert.KernelSampleLn.nD → PrngReg), Pre_KernelSampleLn m →
    θ_run (Cert.KernelSampleLn.defs (F := Bits)) (onTc (τ := Cert.KernelSampleLn.τ) (Cert.KernelSampleLn.main (F := Bits))) ⟨m, fun _ => 0, g⟩ (fun r => (∀ c : Dev Cert.KernelSampleLn.nD,
      r.2.mem ((c.tc : Thread Cert.KernelSampleLn.nD Cert.KernelSampleLn.τ).loc Cert.KernelSampleLn.main_arg0) = m ((c.tc : Thread Cert.KernelSampleLn.nD Cert.KernelSampleLn.τ).loc Cert.KernelSampleLn.main_arg0)
      ∧ r.2.mem ((c.tc : Thread Cert.KernelSampleLn.nD Cert.KernelSampleLn.τ).loc Cert.KernelSampleLn.main_arg1) = m ((c.tc : Thread Cert.KernelSampleLn.nD Cert.KernelSampleLn.τ).loc Cert.KernelSampleLn.main_arg1)
      ∧ r.2.mem ((c.tc : Thread Cert.KernelSampleLn.nD Cert.KernelSampleLn.τ).loc Cert.KernelSampleLn.main_arg2) = m ((c.tc : Thread Cert.KernelSampleLn.nD Cert.KernelSampleLn.τ).loc Cert.KernelSampleLn.main_arg2)
      ∧ r.2.mem ((c.tc : Thread Cert.KernelSampleLn.nD Cert.KernelSampleLn.τ).loc Cert.KernelSampleLn.main_arg3) = m ((c.tc : Thread Cert.KernelSampleLn.nD Cert.KernelSampleLn.τ).loc Cert.KernelSampleLn.main_arg3))
      ∧ r.2.sem = fun _ => 0)

def quiescent_KernelSampleLnIdeal [hKernelSampleLnIdeal : Cert.KernelSampleLnIdeal.Facts] : Prop :=
  ∀ (m : (ℓ : Loc Cert.KernelSampleLnIdeal.nD Cert.KernelSampleLnIdeal.τ Cert.KernelSampleLnIdeal.sig) → Buf (Elt Ideal) ℓ) (g : Dev Cert.KernelSampleLnIdeal.nD → PrngReg), Pre_KernelSampleLnIdeal m →
    θ_run (Cert.KernelSampleLnIdeal.defs (F := Ideal)) (onTc (τ := Cert.KernelSampleLnIdeal.τ) (Cert.KernelSampleLnIdeal.main (F := Ideal))) ⟨m, fun _ => 0, g⟩ (fun r => (∀ c : Dev Cert.KernelSampleLnIdeal.nD,
      r.2.mem ((c.tc : Thread Cert.KernelSampleLnIdeal.nD Cert.KernelSampleLnIdeal.τ).loc Cert.KernelSampleLnIdeal.main_arg0) = m ((c.tc : Thread Cert.KernelSampleLnIdeal.nD Cert.KernelSampleLnIdeal.τ).loc Cert.KernelSampleLnIdeal.main_arg0)
      ∧ r.2.mem ((c.tc : Thread Cert.KernelSampleLnIdeal.nD Cert.KernelSampleLnIdeal.τ).loc Cert.KernelSampleLnIdeal.main_arg1) = m ((c.tc : Thread Cert.KernelSampleLnIdeal.nD Cert.KernelSampleLnIdeal.τ).loc Cert.KernelSampleLnIdeal.main_arg1)
      ∧ r.2.mem ((c.tc : Thread Cert.KernelSampleLnIdeal.nD Cert.KernelSampleLnIdeal.τ).loc Cert.KernelSampleLnIdeal.main_arg2) = m ((c.tc : Thread Cert.KernelSampleLnIdeal.nD Cert.KernelSampleLnIdeal.τ).loc Cert.KernelSampleLnIdeal.main_arg2)
      ∧ r.2.mem ((c.tc : Thread Cert.KernelSampleLnIdeal.nD Cert.KernelSampleLnIdeal.τ).loc Cert.KernelSampleLnIdeal.main_arg3) = m ((c.tc : Thread Cert.KernelSampleLnIdeal.nD Cert.KernelSampleLnIdeal.τ).loc Cert.KernelSampleLnIdeal.main_arg3))
      ∧ r.2.sem = fun _ => 0)

def quiescent_ReferenceSampleLnIdeal [hReferenceSampleLnIdeal : Cert.ReferenceSampleLnIdeal.Facts] : Prop :=
  ∀ (m : (ℓ : Loc Cert.ReferenceSampleLnIdeal.nD Cert.ReferenceSampleLnIdeal.τ Cert.ReferenceSampleLnIdeal.sig) → Buf (Elt Ideal) ℓ) (g : Dev Cert.ReferenceSampleLnIdeal.nD → PrngReg), Pre_ReferenceSampleLnIdeal m →
    θ_run (Cert.ReferenceSampleLnIdeal.defs (F := Ideal)) (onTc (τ := Cert.ReferenceSampleLnIdeal.τ) (Cert.ReferenceSampleLnIdeal.main (F := Ideal))) ⟨m, fun _ => 0, g⟩ (fun r => (∀ c : Dev Cert.ReferenceSampleLnIdeal.nD,
      r.2.mem ((c.tc : Thread Cert.ReferenceSampleLnIdeal.nD Cert.ReferenceSampleLnIdeal.τ).loc Cert.ReferenceSampleLnIdeal.main_arg0) = m ((c.tc : Thread Cert.ReferenceSampleLnIdeal.nD Cert.ReferenceSampleLnIdeal.τ).loc Cert.ReferenceSampleLnIdeal.main_arg0)
      ∧ r.2.mem ((c.tc : Thread Cert.ReferenceSampleLnIdeal.nD Cert.ReferenceSampleLnIdeal.τ).loc Cert.ReferenceSampleLnIdeal.main_arg1) = m ((c.tc : Thread Cert.ReferenceSampleLnIdeal.nD Cert.ReferenceSampleLnIdeal.τ).loc Cert.ReferenceSampleLnIdeal.main_arg1)
      ∧ r.2.mem ((c.tc : Thread Cert.ReferenceSampleLnIdeal.nD Cert.ReferenceSampleLnIdeal.τ).loc Cert.ReferenceSampleLnIdeal.main_arg2) = m ((c.tc : Thread Cert.ReferenceSampleLnIdeal.nD Cert.ReferenceSampleLnIdeal.τ).loc Cert.ReferenceSampleLnIdeal.main_arg2)
      ∧ r.2.mem ((c.tc : Thread Cert.ReferenceSampleLnIdeal.nD Cert.ReferenceSampleLnIdeal.τ).loc Cert.ReferenceSampleLnIdeal.main_arg3) = m ((c.tc : Thread Cert.ReferenceSampleLnIdeal.nD Cert.ReferenceSampleLnIdeal.τ).loc Cert.ReferenceSampleLnIdeal.main_arg3))
      ∧ r.2.sem = fun _ => 0)

def quiescent_KernelSampleHeads [hKernelSampleHeads : Cert.KernelSampleHeads.Facts] : Prop :=
  ∀ (m : (ℓ : Loc Cert.KernelSampleHeads.nD Cert.KernelSampleHeads.τ Cert.KernelSampleHeads.sig) → Buf (Elt Bits) ℓ) (g : Dev Cert.KernelSampleHeads.nD → PrngReg), Pre_KernelSampleHeads m →
    θ_run (Cert.KernelSampleHeads.defs (F := Bits)) (onTc (τ := Cert.KernelSampleHeads.τ) (Cert.KernelSampleHeads.main (F := Bits))) ⟨m, fun _ => 0, g⟩ (fun r => (∀ c : Dev Cert.KernelSampleHeads.nD,
      r.2.mem ((c.tc : Thread Cert.KernelSampleHeads.nD Cert.KernelSampleHeads.τ).loc Cert.KernelSampleHeads.main_arg0) = m ((c.tc : Thread Cert.KernelSampleHeads.nD Cert.KernelSampleHeads.τ).loc Cert.KernelSampleHeads.main_arg0))
      ∧ r.2.sem = fun _ => 0)

def quiescent_KernelSampleHeadsIdeal [hKernelSampleHeadsIdeal : Cert.KernelSampleHeadsIdeal.Facts] : Prop :=
  ∀ (m : (ℓ : Loc Cert.KernelSampleHeadsIdeal.nD Cert.KernelSampleHeadsIdeal.τ Cert.KernelSampleHeadsIdeal.sig) → Buf (Elt Ideal) ℓ) (g : Dev Cert.KernelSampleHeadsIdeal.nD → PrngReg), Pre_KernelSampleHeadsIdeal m →
    θ_run (Cert.KernelSampleHeadsIdeal.defs (F := Ideal)) (onTc (τ := Cert.KernelSampleHeadsIdeal.τ) (Cert.KernelSampleHeadsIdeal.main (F := Ideal))) ⟨m, fun _ => 0, g⟩ (fun r => (∀ c : Dev Cert.KernelSampleHeadsIdeal.nD,
      r.2.mem ((c.tc : Thread Cert.KernelSampleHeadsIdeal.nD Cert.KernelSampleHeadsIdeal.τ).loc Cert.KernelSampleHeadsIdeal.main_arg0) = m ((c.tc : Thread Cert.KernelSampleHeadsIdeal.nD Cert.KernelSampleHeadsIdeal.τ).loc Cert.KernelSampleHeadsIdeal.main_arg0))
      ∧ r.2.sem = fun _ => 0)

def quiescent_ReferenceSampleHeadsIdeal [hReferenceSampleHeadsIdeal : Cert.ReferenceSampleHeadsIdeal.Facts] : Prop :=
  ∀ (m : (ℓ : Loc Cert.ReferenceSampleHeadsIdeal.nD Cert.ReferenceSampleHeadsIdeal.τ Cert.ReferenceSampleHeadsIdeal.sig) → Buf (Elt Ideal) ℓ) (g : Dev Cert.ReferenceSampleHeadsIdeal.nD → PrngReg), Pre_ReferenceSampleHeadsIdeal m →
    θ_run (Cert.ReferenceSampleHeadsIdeal.defs (F := Ideal)) (onTc (τ := Cert.ReferenceSampleHeadsIdeal.τ) (Cert.ReferenceSampleHeadsIdeal.main (F := Ideal))) ⟨m, fun _ => 0, g⟩ (fun r => (∀ c : Dev Cert.ReferenceSampleHeadsIdeal.nD,
      r.2.mem ((c.tc : Thread Cert.ReferenceSampleHeadsIdeal.nD Cert.ReferenceSampleHeadsIdeal.τ).loc Cert.ReferenceSampleHeadsIdeal.main_arg0) = m ((c.tc : Thread Cert.ReferenceSampleHeadsIdeal.nD Cert.ReferenceSampleHeadsIdeal.τ).loc Cert.ReferenceSampleHeadsIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v4) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)) →
    ∃ (v0 : (c : Dev Cert.KernelKIdeal.nD) → Buf (Elt Ideal) ((c.tc : Thread Cert.KernelKIdeal.nD Cert.KernelKIdeal.τ).loc Cert.KernelKIdeal.main_v0_0)) (v1 : (c : Dev Cert.KernelKIdeal.nD) → Buf (Elt Ideal) ((c.tc : Thread Cert.KernelKIdeal.nD Cert.KernelKIdeal.τ).loc Cert.KernelKIdeal.main_v0_1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0_0) = v0 c
          ∧ r.2.mem ((c.tc : Thread Cert.KernelKIdeal.nD Cert.KernelKIdeal.τ).loc Cert.KernelKIdeal.main_v0_1) = v1 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v2) = v0 c
          ∧ r.2.mem ((c.tc : Thread Cert.ReferenceKIdeal.nD Cert.ReferenceKIdeal.τ).loc Cert.ReferenceKIdeal.main_v4) = v1 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v0_0)) (v1 : (c : Dev Cert.KernelVIdeal.nD) → Buf (Elt Ideal) ((c.tc : Thread Cert.KernelVIdeal.nD Cert.KernelVIdeal.τ).loc Cert.KernelVIdeal.main_v0_1)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v0_0) = v0 c
          ∧ r.2.mem ((c.tc : Thread Cert.KernelVIdeal.nD Cert.KernelVIdeal.τ).loc Cert.KernelVIdeal.main_v0_1) = v1 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v3) = v0 c
          ∧ r.2.mem ((c.tc : Thread Cert.ReferenceVIdeal.nD Cert.ReferenceVIdeal.τ).loc Cert.ReferenceVIdeal.main_v4) = v1 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)
      ∧ m' ((c.tc : Thread Cert.ReferenceForgetIdeal.nD Cert.ReferenceForgetIdeal.τ).loc Cert.ReferenceForgetIdeal.main_arg2) = m ((c.tc : Thread Cert.KernelForgetIdeal.nD Cert.KernelForgetIdeal.τ).loc Cert.KernelForgetIdeal.main_arg2)) →
    ∃ (v0 : (c : Dev Cert.KernelForgetIdeal.nD) → Buf (Elt Ideal) ((c.tc : Thread Cert.KernelForgetIdeal.nD Cert.KernelForgetIdeal.τ).loc Cert.KernelForgetIdeal.main_v1)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v1) = v0 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
          ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v5) = v0 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1)
          ∧ r.2.mem ((c.tc : Thread Cert.ReferenceForgetIdeal.nD Cert.ReferenceForgetIdeal.τ).loc Cert.ReferenceForgetIdeal.main_arg2) = m' ((c.tc : Thread Cert.ReferenceForgetIdeal.nD Cert.ReferenceForgetIdeal.τ).loc Cert.ReferenceForgetIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_v7) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)) →
    ∃ (v0 : (c : Dev Cert.KernelPleIdeal.nD) → Buf (Elt Ideal) ((c.tc : Thread Cert.KernelPleIdeal.nD Cert.KernelPleIdeal.τ).loc Cert.KernelPleIdeal.main_v0)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v13) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v2_0)) (v1 : (c : Dev Cert.KernelLnIdeal.nD) → Buf (Elt Ideal) ((c.tc : Thread Cert.KernelLnIdeal.nD Cert.KernelLnIdeal.τ).loc Cert.KernelLnIdeal.main_v2_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2_0) = v0 c
          ∧ r.2.mem ((c.tc : Thread Cert.KernelLnIdeal.nD Cert.KernelLnIdeal.τ).loc Cert.KernelLnIdeal.main_v2_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v28) = v0 c
          ∧ r.2.mem ((c.tc : Thread Cert.ReferenceLnIdeal.nD Cert.ReferenceLnIdeal.τ).loc Cert.ReferenceLnIdeal.main_v29) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelHeads_KernelHeadsIdeal : Prop :=
  True

def algebraic_KernelHeadsIdeal_ReferenceHeadsIdeal [hKernelHeadsIdeal : Cert.KernelHeadsIdeal.Facts] [hReferenceHeadsIdeal : Cert.ReferenceHeadsIdeal.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg)
    (m' : (ℓ : Loc Cert.ReferenceHeadsIdeal.nD Cert.ReferenceHeadsIdeal.τ Cert.ReferenceHeadsIdeal.sig) → Buf (Elt Ideal) ℓ) (g' : Dev Cert.ReferenceHeadsIdeal.nD → PrngReg), Pre_KernelHeadsIdeal m →
    (∀ c : Dev Cert.KernelHeadsIdeal.nD,
      m' ((c.tc : Thread Cert.ReferenceHeadsIdeal.nD Cert.ReferenceHeadsIdeal.τ).loc Cert.ReferenceHeadsIdeal.main_arg0) = m ((c.tc : Thread Cert.KernelHeadsIdeal.nD Cert.KernelHeadsIdeal.τ).loc Cert.KernelHeadsIdeal.main_arg0)) →
    ∃ (v0 : (c : Dev Cert.KernelHeadsIdeal.nD) → Buf (Elt Ideal) ((c.tc : Thread Cert.KernelHeadsIdeal.nD Cert.KernelHeadsIdeal.τ).loc Cert.KernelHeadsIdeal.main_v0)),
      θ_run (Cert.KernelHeadsIdeal.defs (F := Ideal)) (onTc (τ := Cert.KernelHeadsIdeal.τ) (Cert.KernelHeadsIdeal.main (F := Ideal))) ⟨m, fun _ => 0, g⟩ (fun r => ∀ c : Dev Cert.KernelHeadsIdeal.nD,
          r.2.mem ((c.tc : Thread Cert.KernelHeadsIdeal.nD Cert.KernelHeadsIdeal.τ).loc Cert.KernelHeadsIdeal.main_v0) = v0 c
          ∧ r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0))
      ∧ θ_run (Cert.ReferenceHeadsIdeal.defs (F := Ideal)) (onTc (τ := Cert.ReferenceHeadsIdeal.τ) (Cert.ReferenceHeadsIdeal.main (F := Ideal))) ⟨m', fun _ => 0, g'⟩ (fun r => ∀ c : Dev Cert.ReferenceHeadsIdeal.nD,
          r.2.mem ((c.tc : Thread Cert.ReferenceHeadsIdeal.nD Cert.ReferenceHeadsIdeal.τ).loc Cert.ReferenceHeadsIdeal.main_v0) = v0 c
          ∧ r.2.mem ((c.tc : Thread Cert.ReferenceHeadsIdeal.nD Cert.ReferenceHeadsIdeal.τ).loc Cert.ReferenceHeadsIdeal.main_arg0) = m' ((c.tc : Thread Cert.ReferenceHeadsIdeal.nD Cert.ReferenceHeadsIdeal.τ).loc Cert.ReferenceHeadsIdeal.main_arg0))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v15)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v15) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v30) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelSampleK_KernelSampleKIdeal : Prop :=
  True

def algebraic_KernelSampleKIdeal_ReferenceSampleKIdeal [hKernelSampleKIdeal : Cert.KernelSampleKIdeal.Facts] [hReferenceSampleKIdeal : Cert.ReferenceSampleKIdeal.Facts] : Prop :=
  ∀ (m : (ℓ : Loc Cert.KernelSampleKIdeal.nD Cert.KernelSampleKIdeal.τ Cert.KernelSampleKIdeal.sig) → Buf (Elt Ideal) ℓ) (g : Dev Cert.KernelSampleKIdeal.nD → PrngReg)
    (m' : (ℓ : Loc Cert.ReferenceSampleKIdeal.nD Cert.ReferenceSampleKIdeal.τ Cert.ReferenceSampleKIdeal.sig) → Buf (Elt Ideal) ℓ) (g' : Dev Cert.ReferenceSampleKIdeal.nD → PrngReg), Pre_KernelSampleKIdeal m →
    (∀ c : Dev Cert.KernelSampleKIdeal.nD,
      m' ((c.tc : Thread Cert.ReferenceSampleKIdeal.nD Cert.ReferenceSampleKIdeal.τ).loc Cert.ReferenceSampleKIdeal.main_arg0) = m ((c.tc : Thread Cert.KernelSampleKIdeal.nD Cert.KernelSampleKIdeal.τ).loc Cert.KernelSampleKIdeal.main_arg0)
      ∧ m' ((c.tc : Thread Cert.ReferenceSampleKIdeal.nD Cert.ReferenceSampleKIdeal.τ).loc Cert.ReferenceSampleKIdeal.main_arg1) = m ((c.tc : Thread Cert.KernelSampleKIdeal.nD Cert.KernelSampleKIdeal.τ).loc Cert.KernelSampleKIdeal.main_arg1)) →
    ∃ (v0 : (c : Dev Cert.KernelSampleKIdeal.nD) → Buf (Elt Ideal) ((c.tc : Thread Cert.KernelSampleKIdeal.nD Cert.KernelSampleKIdeal.τ).loc Cert.KernelSampleKIdeal.main_v0_0)) (v1 : (c : Dev Cert.KernelSampleKIdeal.nD) → Buf (Elt Ideal) ((c.tc : Thread Cert.KernelSampleKIdeal.nD Cert.KernelSampleKIdeal.τ).loc Cert.KernelSampleKIdeal.main_v0_1)),
      θ_run (Cert.KernelSampleKIdeal.defs (F := Ideal)) (onTc (τ := Cert.KernelSampleKIdeal.τ) (Cert.KernelSampleKIdeal.main (F := Ideal))) ⟨m, fun _ => 0, g⟩ (fun r => ∀ c : Dev Cert.KernelSampleKIdeal.nD,
          r.2.mem ((c.tc : Thread Cert.KernelSampleKIdeal.nD Cert.KernelSampleKIdeal.τ).loc Cert.KernelSampleKIdeal.main_v0_0) = v0 c
          ∧ r.2.mem ((c.tc : Thread Cert.KernelSampleKIdeal.nD Cert.KernelSampleKIdeal.τ).loc Cert.KernelSampleKIdeal.main_v0_1) = v1 c
          ∧ r.2.mem ((c.tc : Thread Cert.KernelSampleKIdeal.nD Cert.KernelSampleKIdeal.τ).loc Cert.KernelSampleKIdeal.main_arg0) = m ((c.tc : Thread Cert.KernelSampleKIdeal.nD Cert.KernelSampleKIdeal.τ).loc Cert.KernelSampleKIdeal.main_arg0)
          ∧ r.2.mem ((c.tc : Thread Cert.KernelSampleKIdeal.nD Cert.KernelSampleKIdeal.τ).loc Cert.KernelSampleKIdeal.main_arg1) = m ((c.tc : Thread Cert.KernelSampleKIdeal.nD Cert.KernelSampleKIdeal.τ).loc Cert.KernelSampleKIdeal.main_arg1))
      ∧ θ_run (Cert.ReferenceSampleKIdeal.defs (F := Ideal)) (onTc (τ := Cert.ReferenceSampleKIdeal.τ) (Cert.ReferenceSampleKIdeal.main (F := Ideal))) ⟨m', fun _ => 0, g'⟩ (fun r => ∀ c : Dev Cert.ReferenceSampleKIdeal.nD,
          r.2.mem ((c.tc : Thread Cert.ReferenceSampleKIdeal.nD Cert.ReferenceSampleKIdeal.τ).loc Cert.ReferenceSampleKIdeal.main_v2) = v0 c
          ∧ r.2.mem ((c.tc : Thread Cert.ReferenceSampleKIdeal.nD Cert.ReferenceSampleKIdeal.τ).loc Cert.ReferenceSampleKIdeal.main_v4) = v1 c
          ∧ r.2.mem ((c.tc : Thread Cert.ReferenceSampleKIdeal.nD Cert.ReferenceSampleKIdeal.τ).loc Cert.ReferenceSampleKIdeal.main_arg0) = m' ((c.tc : Thread Cert.ReferenceSampleKIdeal.nD Cert.ReferenceSampleKIdeal.τ).loc Cert.ReferenceSampleKIdeal.main_arg0)
          ∧ r.2.mem ((c.tc : Thread Cert.ReferenceSampleKIdeal.nD Cert.ReferenceSampleKIdeal.τ).loc Cert.ReferenceSampleKIdeal.main_arg1) = m' ((c.tc : Thread Cert.ReferenceSampleKIdeal.nD Cert.ReferenceSampleKIdeal.τ).loc Cert.ReferenceSampleKIdeal.main_arg1))

def preserves_KernelSampleV_KernelSampleVIdeal : Prop :=
  True

def algebraic_KernelSampleVIdeal_ReferenceSampleVIdeal [hKernelSampleVIdeal : Cert.KernelSampleVIdeal.Facts] [hReferenceSampleVIdeal : Cert.ReferenceSampleVIdeal.Facts] : Prop :=
  ∀ (m : (ℓ : Loc Cert.KernelSampleVIdeal.nD Cert.KernelSampleVIdeal.τ Cert.KernelSampleVIdeal.sig) → Buf (Elt Ideal) ℓ) (g : Dev Cert.KernelSampleVIdeal.nD → PrngReg)
    (m' : (ℓ : Loc Cert.ReferenceSampleVIdeal.nD Cert.ReferenceSampleVIdeal.τ Cert.ReferenceSampleVIdeal.sig) → Buf (Elt Ideal) ℓ) (g' : Dev Cert.ReferenceSampleVIdeal.nD → PrngReg), Pre_KernelSampleVIdeal m →
    (∀ c : Dev Cert.KernelSampleVIdeal.nD,
      m' ((c.tc : Thread Cert.ReferenceSampleVIdeal.nD Cert.ReferenceSampleVIdeal.τ).loc Cert.ReferenceSampleVIdeal.main_arg0) = m ((c.tc : Thread Cert.KernelSampleVIdeal.nD Cert.KernelSampleVIdeal.τ).loc Cert.KernelSampleVIdeal.main_arg0)
      ∧ m' ((c.tc : Thread Cert.ReferenceSampleVIdeal.nD Cert.ReferenceSampleVIdeal.τ).loc Cert.ReferenceSampleVIdeal.main_arg1) = m ((c.tc : Thread Cert.KernelSampleVIdeal.nD Cert.KernelSampleVIdeal.τ).loc Cert.KernelSampleVIdeal.main_arg1)) →
    ∃ (v0 : (c : Dev Cert.KernelSampleVIdeal.nD) → Buf (Elt Ideal) ((c.tc : Thread Cert.KernelSampleVIdeal.nD Cert.KernelSampleVIdeal.τ).loc Cert.KernelSampleVIdeal.main_v0_0)) (v1 : (c : Dev Cert.KernelSampleVIdeal.nD) → Buf (Elt Ideal) ((c.tc : Thread Cert.KernelSampleVIdeal.nD Cert.KernelSampleVIdeal.τ).loc Cert.KernelSampleVIdeal.main_v0_1)),
      θ_run (Cert.KernelSampleVIdeal.defs (F := Ideal)) (onTc (τ := Cert.KernelSampleVIdeal.τ) (Cert.KernelSampleVIdeal.main (F := Ideal))) ⟨m, fun _ => 0, g⟩ (fun r => ∀ c : Dev Cert.KernelSampleVIdeal.nD,
          r.2.mem ((c.tc : Thread Cert.KernelSampleVIdeal.nD Cert.KernelSampleVIdeal.τ).loc Cert.KernelSampleVIdeal.main_v0_0) = v0 c
          ∧ r.2.mem ((c.tc : Thread Cert.KernelSampleVIdeal.nD Cert.KernelSampleVIdeal.τ).loc Cert.KernelSampleVIdeal.main_v0_1) = v1 c
          ∧ r.2.mem ((c.tc : Thread Cert.KernelSampleVIdeal.nD Cert.KernelSampleVIdeal.τ).loc Cert.KernelSampleVIdeal.main_arg0) = m ((c.tc : Thread Cert.KernelSampleVIdeal.nD Cert.KernelSampleVIdeal.τ).loc Cert.KernelSampleVIdeal.main_arg0)
          ∧ r.2.mem ((c.tc : Thread Cert.KernelSampleVIdeal.nD Cert.KernelSampleVIdeal.τ).loc Cert.KernelSampleVIdeal.main_arg1) = m ((c.tc : Thread Cert.KernelSampleVIdeal.nD Cert.KernelSampleVIdeal.τ).loc Cert.KernelSampleVIdeal.main_arg1))
      ∧ θ_run (Cert.ReferenceSampleVIdeal.defs (F := Ideal)) (onTc (τ := Cert.ReferenceSampleVIdeal.τ) (Cert.ReferenceSampleVIdeal.main (F := Ideal))) ⟨m', fun _ => 0, g'⟩ (fun r => ∀ c : Dev Cert.ReferenceSampleVIdeal.nD,
          r.2.mem ((c.tc : Thread Cert.ReferenceSampleVIdeal.nD Cert.ReferenceSampleVIdeal.τ).loc Cert.ReferenceSampleVIdeal.main_v3) = v0 c
          ∧ r.2.mem ((c.tc : Thread Cert.ReferenceSampleVIdeal.nD Cert.ReferenceSampleVIdeal.τ).loc Cert.ReferenceSampleVIdeal.main_v4) = v1 c
          ∧ r.2.mem ((c.tc : Thread Cert.ReferenceSampleVIdeal.nD Cert.ReferenceSampleVIdeal.τ).loc Cert.ReferenceSampleVIdeal.main_arg0) = m' ((c.tc : Thread Cert.ReferenceSampleVIdeal.nD Cert.ReferenceSampleVIdeal.τ).loc Cert.ReferenceSampleVIdeal.main_arg0)
          ∧ r.2.mem ((c.tc : Thread Cert.ReferenceSampleVIdeal.nD Cert.ReferenceSampleVIdeal.τ).loc Cert.ReferenceSampleVIdeal.main_arg1) = m' ((c.tc : Thread Cert.ReferenceSampleVIdeal.nD Cert.ReferenceSampleVIdeal.τ).loc Cert.ReferenceSampleVIdeal.main_arg1))

def preserves_KernelSampleForget_KernelSampleForgetIdeal : Prop :=
  True

def algebraic_KernelSampleForgetIdeal_ReferenceSampleForgetIdeal [hKernelSampleForgetIdeal : Cert.KernelSampleForgetIdeal.Facts] [hReferenceSampleForgetIdeal : Cert.ReferenceSampleForgetIdeal.Facts] : Prop :=
  ∀ (m : (ℓ : Loc Cert.KernelSampleForgetIdeal.nD Cert.KernelSampleForgetIdeal.τ Cert.KernelSampleForgetIdeal.sig) → Buf (Elt Ideal) ℓ) (g : Dev Cert.KernelSampleForgetIdeal.nD → PrngReg)
    (m' : (ℓ : Loc Cert.ReferenceSampleForgetIdeal.nD Cert.ReferenceSampleForgetIdeal.τ Cert.ReferenceSampleForgetIdeal.sig) → Buf (Elt Ideal) ℓ) (g' : Dev Cert.ReferenceSampleForgetIdeal.nD → PrngReg), Pre_KernelSampleForgetIdeal m →
    (∀ c : Dev Cert.KernelSampleForgetIdeal.nD,
      m' ((c.tc : Thread Cert.ReferenceSampleForgetIdeal.nD Cert.ReferenceSampleForgetIdeal.τ).loc Cert.ReferenceSampleForgetIdeal.main_arg0) = m ((c.tc : Thread Cert.KernelSampleForgetIdeal.nD Cert.KernelSampleForgetIdeal.τ).loc Cert.KernelSampleForgetIdeal.main_arg0)
      ∧ m' ((c.tc : Thread Cert.ReferenceSampleForgetIdeal.nD Cert.ReferenceSampleForgetIdeal.τ).loc Cert.ReferenceSampleForgetIdeal.main_arg1) = m ((c.tc : Thread Cert.KernelSampleForgetIdeal.nD Cert.KernelSampleForgetIdeal.τ).loc Cert.KernelSampleForgetIdeal.main_arg1)
      ∧ m' ((c.tc : Thread Cert.ReferenceSampleForgetIdeal.nD Cert.ReferenceSampleForgetIdeal.τ).loc Cert.ReferenceSampleForgetIdeal.main_arg2) = m ((c.tc : Thread Cert.KernelSampleForgetIdeal.nD Cert.KernelSampleForgetIdeal.τ).loc Cert.KernelSampleForgetIdeal.main_arg2)) →
    ∃ (v0 : (c : Dev Cert.KernelSampleForgetIdeal.nD) → Buf (Elt Ideal) ((c.tc : Thread Cert.KernelSampleForgetIdeal.nD Cert.KernelSampleForgetIdeal.τ).loc Cert.KernelSampleForgetIdeal.main_v1)),
      θ_run (Cert.KernelSampleForgetIdeal.defs (F := Ideal)) (onTc (τ := Cert.KernelSampleForgetIdeal.τ) (Cert.KernelSampleForgetIdeal.main (F := Ideal))) ⟨m, fun _ => 0, g⟩ (fun r => ∀ c : Dev Cert.KernelSampleForgetIdeal.nD,
          r.2.mem ((c.tc : Thread Cert.KernelSampleForgetIdeal.nD Cert.KernelSampleForgetIdeal.τ).loc Cert.KernelSampleForgetIdeal.main_v1) = v0 c
          ∧ r.2.mem ((c.tc : Thread Cert.KernelSampleForgetIdeal.nD Cert.KernelSampleForgetIdeal.τ).loc Cert.KernelSampleForgetIdeal.main_arg0) = m ((c.tc : Thread Cert.KernelSampleForgetIdeal.nD Cert.KernelSampleForgetIdeal.τ).loc Cert.KernelSampleForgetIdeal.main_arg0)
          ∧ r.2.mem ((c.tc : Thread Cert.KernelSampleForgetIdeal.nD Cert.KernelSampleForgetIdeal.τ).loc Cert.KernelSampleForgetIdeal.main_arg1) = m ((c.tc : Thread Cert.KernelSampleForgetIdeal.nD Cert.KernelSampleForgetIdeal.τ).loc Cert.KernelSampleForgetIdeal.main_arg1)
          ∧ r.2.mem ((c.tc : Thread Cert.KernelSampleForgetIdeal.nD Cert.KernelSampleForgetIdeal.τ).loc Cert.KernelSampleForgetIdeal.main_arg2) = m ((c.tc : Thread Cert.KernelSampleForgetIdeal.nD Cert.KernelSampleForgetIdeal.τ).loc Cert.KernelSampleForgetIdeal.main_arg2))
      ∧ θ_run (Cert.ReferenceSampleForgetIdeal.defs (F := Ideal)) (onTc (τ := Cert.ReferenceSampleForgetIdeal.τ) (Cert.ReferenceSampleForgetIdeal.main (F := Ideal))) ⟨m', fun _ => 0, g'⟩ (fun r => ∀ c : Dev Cert.ReferenceSampleForgetIdeal.nD,
          r.2.mem ((c.tc : Thread Cert.ReferenceSampleForgetIdeal.nD Cert.ReferenceSampleForgetIdeal.τ).loc Cert.ReferenceSampleForgetIdeal.main_v5) = v0 c
          ∧ r.2.mem ((c.tc : Thread Cert.ReferenceSampleForgetIdeal.nD Cert.ReferenceSampleForgetIdeal.τ).loc Cert.ReferenceSampleForgetIdeal.main_arg0) = m' ((c.tc : Thread Cert.ReferenceSampleForgetIdeal.nD Cert.ReferenceSampleForgetIdeal.τ).loc Cert.ReferenceSampleForgetIdeal.main_arg0)
          ∧ r.2.mem ((c.tc : Thread Cert.ReferenceSampleForgetIdeal.nD Cert.ReferenceSampleForgetIdeal.τ).loc Cert.ReferenceSampleForgetIdeal.main_arg1) = m' ((c.tc : Thread Cert.ReferenceSampleForgetIdeal.nD Cert.ReferenceSampleForgetIdeal.τ).loc Cert.ReferenceSampleForgetIdeal.main_arg1)
          ∧ r.2.mem ((c.tc : Thread Cert.ReferenceSampleForgetIdeal.nD Cert.ReferenceSampleForgetIdeal.τ).loc Cert.ReferenceSampleForgetIdeal.main_arg2) = m' ((c.tc : Thread Cert.ReferenceSampleForgetIdeal.nD Cert.ReferenceSampleForgetIdeal.τ).loc Cert.ReferenceSampleForgetIdeal.main_arg2))

def preserves_KernelSampleIn_KernelSampleInIdeal : Prop :=
  True

def algebraic_KernelSampleInIdeal_ReferenceSampleInIdeal [hKernelSampleInIdeal : Cert.KernelSampleInIdeal.Facts] [hReferenceSampleInIdeal : Cert.ReferenceSampleInIdeal.Facts] : Prop :=
  ∀ (m : (ℓ : Loc Cert.KernelSampleInIdeal.nD Cert.KernelSampleInIdeal.τ Cert.KernelSampleInIdeal.sig) → Buf (Elt Ideal) ℓ) (g : Dev Cert.KernelSampleInIdeal.nD → PrngReg)
    (m' : (ℓ : Loc Cert.ReferenceSampleInIdeal.nD Cert.ReferenceSampleInIdeal.τ Cert.ReferenceSampleInIdeal.sig) → Buf (Elt Ideal) ℓ) (g' : Dev Cert.ReferenceSampleInIdeal.nD → PrngReg), Pre_KernelSampleInIdeal m →
    (∀ c : Dev Cert.KernelSampleInIdeal.nD,
      m' ((c.tc : Thread Cert.ReferenceSampleInIdeal.nD Cert.ReferenceSampleInIdeal.τ).loc Cert.ReferenceSampleInIdeal.main_arg0) = m ((c.tc : Thread Cert.KernelSampleInIdeal.nD Cert.KernelSampleInIdeal.τ).loc Cert.KernelSampleInIdeal.main_arg0)
      ∧ m' ((c.tc : Thread Cert.ReferenceSampleInIdeal.nD Cert.ReferenceSampleInIdeal.τ).loc Cert.ReferenceSampleInIdeal.main_arg1) = m ((c.tc : Thread Cert.KernelSampleInIdeal.nD Cert.KernelSampleInIdeal.τ).loc Cert.KernelSampleInIdeal.main_arg1)) →
    ∃ (v0 : (c : Dev Cert.KernelSampleInIdeal.nD) → Buf (Elt Ideal) ((c.tc : Thread Cert.KernelSampleInIdeal.nD Cert.KernelSampleInIdeal.τ).loc Cert.KernelSampleInIdeal.main_v0_0)) (v1 : (c : Dev Cert.KernelSampleInIdeal.nD) → Buf (Elt Ideal) ((c.tc : Thread Cert.KernelSampleInIdeal.nD Cert.KernelSampleInIdeal.τ).loc Cert.KernelSampleInIdeal.main_v0_1)),
      θ_run (Cert.KernelSampleInIdeal.defs (F := Ideal)) (onTc (τ := Cert.KernelSampleInIdeal.τ) (Cert.KernelSampleInIdeal.main (F := Ideal))) ⟨m, fun _ => 0, g⟩ (fun r => ∀ c : Dev Cert.KernelSampleInIdeal.nD,
          r.2.mem ((c.tc : Thread Cert.KernelSampleInIdeal.nD Cert.KernelSampleInIdeal.τ).loc Cert.KernelSampleInIdeal.main_v0_0) = v0 c
          ∧ r.2.mem ((c.tc : Thread Cert.KernelSampleInIdeal.nD Cert.KernelSampleInIdeal.τ).loc Cert.KernelSampleInIdeal.main_v0_1) = v1 c
          ∧ r.2.mem ((c.tc : Thread Cert.KernelSampleInIdeal.nD Cert.KernelSampleInIdeal.τ).loc Cert.KernelSampleInIdeal.main_arg0) = m ((c.tc : Thread Cert.KernelSampleInIdeal.nD Cert.KernelSampleInIdeal.τ).loc Cert.KernelSampleInIdeal.main_arg0)
          ∧ r.2.mem ((c.tc : Thread Cert.KernelSampleInIdeal.nD Cert.KernelSampleInIdeal.τ).loc Cert.KernelSampleInIdeal.main_arg1) = m ((c.tc : Thread Cert.KernelSampleInIdeal.nD Cert.KernelSampleInIdeal.τ).loc Cert.KernelSampleInIdeal.main_arg1))
      ∧ θ_run (Cert.ReferenceSampleInIdeal.defs (F := Ideal)) (onTc (τ := Cert.ReferenceSampleInIdeal.τ) (Cert.ReferenceSampleInIdeal.main (F := Ideal))) ⟨m', fun _ => 0, g'⟩ (fun r => ∀ c : Dev Cert.ReferenceSampleInIdeal.nD,
          r.2.mem ((c.tc : Thread Cert.ReferenceSampleInIdeal.nD Cert.ReferenceSampleInIdeal.τ).loc Cert.ReferenceSampleInIdeal.main_v4) = v0 c
          ∧ r.2.mem ((c.tc : Thread Cert.ReferenceSampleInIdeal.nD Cert.ReferenceSampleInIdeal.τ).loc Cert.ReferenceSampleInIdeal.main_v7) = v1 c
          ∧ r.2.mem ((c.tc : Thread Cert.ReferenceSampleInIdeal.nD Cert.ReferenceSampleInIdeal.τ).loc Cert.ReferenceSampleInIdeal.main_arg0) = m' ((c.tc : Thread Cert.ReferenceSampleInIdeal.nD Cert.ReferenceSampleInIdeal.τ).loc Cert.ReferenceSampleInIdeal.main_arg0)
          ∧ r.2.mem ((c.tc : Thread Cert.ReferenceSampleInIdeal.nD Cert.ReferenceSampleInIdeal.τ).loc Cert.ReferenceSampleInIdeal.main_arg1) = m' ((c.tc : Thread Cert.ReferenceSampleInIdeal.nD Cert.ReferenceSampleInIdeal.τ).loc Cert.ReferenceSampleInIdeal.main_arg1))

def preserves_KernelSampleLn_KernelSampleLnIdeal : Prop :=
  True

def algebraic_KernelSampleLnIdeal_ReferenceSampleLnIdeal [hKernelSampleLnIdeal : Cert.KernelSampleLnIdeal.Facts] [hReferenceSampleLnIdeal : Cert.ReferenceSampleLnIdeal.Facts] : Prop :=
  ∀ (m : (ℓ : Loc Cert.KernelSampleLnIdeal.nD Cert.KernelSampleLnIdeal.τ Cert.KernelSampleLnIdeal.sig) → Buf (Elt Ideal) ℓ) (g : Dev Cert.KernelSampleLnIdeal.nD → PrngReg)
    (m' : (ℓ : Loc Cert.ReferenceSampleLnIdeal.nD Cert.ReferenceSampleLnIdeal.τ Cert.ReferenceSampleLnIdeal.sig) → Buf (Elt Ideal) ℓ) (g' : Dev Cert.ReferenceSampleLnIdeal.nD → PrngReg), Pre_KernelSampleLnIdeal m →
    (∀ c : Dev Cert.KernelSampleLnIdeal.nD,
      m' ((c.tc : Thread Cert.ReferenceSampleLnIdeal.nD Cert.ReferenceSampleLnIdeal.τ).loc Cert.ReferenceSampleLnIdeal.main_arg0) = m ((c.tc : Thread Cert.KernelSampleLnIdeal.nD Cert.KernelSampleLnIdeal.τ).loc Cert.KernelSampleLnIdeal.main_arg0)
      ∧ m' ((c.tc : Thread Cert.ReferenceSampleLnIdeal.nD Cert.ReferenceSampleLnIdeal.τ).loc Cert.ReferenceSampleLnIdeal.main_arg1) = m ((c.tc : Thread Cert.KernelSampleLnIdeal.nD Cert.KernelSampleLnIdeal.τ).loc Cert.KernelSampleLnIdeal.main_arg1)
      ∧ m' ((c.tc : Thread Cert.ReferenceSampleLnIdeal.nD Cert.ReferenceSampleLnIdeal.τ).loc Cert.ReferenceSampleLnIdeal.main_arg2) = m ((c.tc : Thread Cert.KernelSampleLnIdeal.nD Cert.KernelSampleLnIdeal.τ).loc Cert.KernelSampleLnIdeal.main_arg2)
      ∧ m' ((c.tc : Thread Cert.ReferenceSampleLnIdeal.nD Cert.ReferenceSampleLnIdeal.τ).loc Cert.ReferenceSampleLnIdeal.main_arg3) = m ((c.tc : Thread Cert.KernelSampleLnIdeal.nD Cert.KernelSampleLnIdeal.τ).loc Cert.KernelSampleLnIdeal.main_arg3)) →
    ∃ (v0 : (c : Dev Cert.KernelSampleLnIdeal.nD) → Buf (Elt Ideal) ((c.tc : Thread Cert.KernelSampleLnIdeal.nD Cert.KernelSampleLnIdeal.τ).loc Cert.KernelSampleLnIdeal.main_v2_0)) (v1 : (c : Dev Cert.KernelSampleLnIdeal.nD) → Buf (Elt Ideal) ((c.tc : Thread Cert.KernelSampleLnIdeal.nD Cert.KernelSampleLnIdeal.τ).loc Cert.KernelSampleLnIdeal.main_v2_1)),
      θ_run (Cert.KernelSampleLnIdeal.defs (F := Ideal)) (onTc (τ := Cert.KernelSampleLnIdeal.τ) (Cert.KernelSampleLnIdeal.main (F := Ideal))) ⟨m, fun _ => 0, g⟩ (fun r => ∀ c : Dev Cert.KernelSampleLnIdeal.nD,
          r.2.mem ((c.tc : Thread Cert.KernelSampleLnIdeal.nD Cert.KernelSampleLnIdeal.τ).loc Cert.KernelSampleLnIdeal.main_v2_0) = v0 c
          ∧ r.2.mem ((c.tc : Thread Cert.KernelSampleLnIdeal.nD Cert.KernelSampleLnIdeal.τ).loc Cert.KernelSampleLnIdeal.main_v2_1) = v1 c
          ∧ r.2.mem ((c.tc : Thread Cert.KernelSampleLnIdeal.nD Cert.KernelSampleLnIdeal.τ).loc Cert.KernelSampleLnIdeal.main_arg0) = m ((c.tc : Thread Cert.KernelSampleLnIdeal.nD Cert.KernelSampleLnIdeal.τ).loc Cert.KernelSampleLnIdeal.main_arg0)
          ∧ r.2.mem ((c.tc : Thread Cert.KernelSampleLnIdeal.nD Cert.KernelSampleLnIdeal.τ).loc Cert.KernelSampleLnIdeal.main_arg1) = m ((c.tc : Thread Cert.KernelSampleLnIdeal.nD Cert.KernelSampleLnIdeal.τ).loc Cert.KernelSampleLnIdeal.main_arg1)
          ∧ r.2.mem ((c.tc : Thread Cert.KernelSampleLnIdeal.nD Cert.KernelSampleLnIdeal.τ).loc Cert.KernelSampleLnIdeal.main_arg2) = m ((c.tc : Thread Cert.KernelSampleLnIdeal.nD Cert.KernelSampleLnIdeal.τ).loc Cert.KernelSampleLnIdeal.main_arg2)
          ∧ r.2.mem ((c.tc : Thread Cert.KernelSampleLnIdeal.nD Cert.KernelSampleLnIdeal.τ).loc Cert.KernelSampleLnIdeal.main_arg3) = m ((c.tc : Thread Cert.KernelSampleLnIdeal.nD Cert.KernelSampleLnIdeal.τ).loc Cert.KernelSampleLnIdeal.main_arg3))
      ∧ θ_run (Cert.ReferenceSampleLnIdeal.defs (F := Ideal)) (onTc (τ := Cert.ReferenceSampleLnIdeal.τ) (Cert.ReferenceSampleLnIdeal.main (F := Ideal))) ⟨m', fun _ => 0, g'⟩ (fun r => ∀ c : Dev Cert.ReferenceSampleLnIdeal.nD,
          r.2.mem ((c.tc : Thread Cert.ReferenceSampleLnIdeal.nD Cert.ReferenceSampleLnIdeal.τ).loc Cert.ReferenceSampleLnIdeal.main_v28) = v0 c
          ∧ r.2.mem ((c.tc : Thread Cert.ReferenceSampleLnIdeal.nD Cert.ReferenceSampleLnIdeal.τ).loc Cert.ReferenceSampleLnIdeal.main_v29) = v1 c
          ∧ r.2.mem ((c.tc : Thread Cert.ReferenceSampleLnIdeal.nD Cert.ReferenceSampleLnIdeal.τ).loc Cert.ReferenceSampleLnIdeal.main_arg0) = m' ((c.tc : Thread Cert.ReferenceSampleLnIdeal.nD Cert.ReferenceSampleLnIdeal.τ).loc Cert.ReferenceSampleLnIdeal.main_arg0)
          ∧ r.2.mem ((c.tc : Thread Cert.ReferenceSampleLnIdeal.nD Cert.ReferenceSampleLnIdeal.τ).loc Cert.ReferenceSampleLnIdeal.main_arg1) = m' ((c.tc : Thread Cert.ReferenceSampleLnIdeal.nD Cert.ReferenceSampleLnIdeal.τ).loc Cert.ReferenceSampleLnIdeal.main_arg1)
          ∧ r.2.mem ((c.tc : Thread Cert.ReferenceSampleLnIdeal.nD Cert.ReferenceSampleLnIdeal.τ).loc Cert.ReferenceSampleLnIdeal.main_arg2) = m' ((c.tc : Thread Cert.ReferenceSampleLnIdeal.nD Cert.ReferenceSampleLnIdeal.τ).loc Cert.ReferenceSampleLnIdeal.main_arg2)
          ∧ r.2.mem ((c.tc : Thread Cert.ReferenceSampleLnIdeal.nD Cert.ReferenceSampleLnIdeal.τ).loc Cert.ReferenceSampleLnIdeal.main_arg3) = m' ((c.tc : Thread Cert.ReferenceSampleLnIdeal.nD Cert.ReferenceSampleLnIdeal.τ).loc Cert.ReferenceSampleLnIdeal.main_arg3))

def preserves_KernelSampleHeads_KernelSampleHeadsIdeal : Prop :=
  True

def algebraic_KernelSampleHeadsIdeal_ReferenceSampleHeadsIdeal [hKernelSampleHeadsIdeal : Cert.KernelSampleHeadsIdeal.Facts] [hReferenceSampleHeadsIdeal : Cert.ReferenceSampleHeadsIdeal.Facts] : Prop :=
  ∀ (m : (ℓ : Loc Cert.KernelSampleHeadsIdeal.nD Cert.KernelSampleHeadsIdeal.τ Cert.KernelSampleHeadsIdeal.sig) → Buf (Elt Ideal) ℓ) (g : Dev Cert.KernelSampleHeadsIdeal.nD → PrngReg)
    (m' : (ℓ : Loc Cert.ReferenceSampleHeadsIdeal.nD Cert.ReferenceSampleHeadsIdeal.τ Cert.ReferenceSampleHeadsIdeal.sig) → Buf (Elt Ideal) ℓ) (g' : Dev Cert.ReferenceSampleHeadsIdeal.nD → PrngReg), Pre_KernelSampleHeadsIdeal m →
    (∀ c : Dev Cert.KernelSampleHeadsIdeal.nD,
      m' ((c.tc : Thread Cert.ReferenceSampleHeadsIdeal.nD Cert.ReferenceSampleHeadsIdeal.τ).loc Cert.ReferenceSampleHeadsIdeal.main_arg0) = m ((c.tc : Thread Cert.KernelSampleHeadsIdeal.nD Cert.KernelSampleHeadsIdeal.τ).loc Cert.KernelSampleHeadsIdeal.main_arg0)) →
    ∃ (v0 : (c : Dev Cert.KernelSampleHeadsIdeal.nD) → Buf (Elt Ideal) ((c.tc : Thread Cert.KernelSampleHeadsIdeal.nD Cert.KernelSampleHeadsIdeal.τ).loc Cert.KernelSampleHeadsIdeal.main_v0)),
      θ_run (Cert.KernelSampleHeadsIdeal.defs (F := Ideal)) (onTc (τ := Cert.KernelSampleHeadsIdeal.τ) (Cert.KernelSampleHeadsIdeal.main (F := Ideal))) ⟨m, fun _ => 0, g⟩ (fun r => ∀ c : Dev Cert.KernelSampleHeadsIdeal.nD,
          r.2.mem ((c.tc : Thread Cert.KernelSampleHeadsIdeal.nD Cert.KernelSampleHeadsIdeal.τ).loc Cert.KernelSampleHeadsIdeal.main_v0) = v0 c
          ∧ r.2.mem ((c.tc : Thread Cert.KernelSampleHeadsIdeal.nD Cert.KernelSampleHeadsIdeal.τ).loc Cert.KernelSampleHeadsIdeal.main_arg0) = m ((c.tc : Thread Cert.KernelSampleHeadsIdeal.nD Cert.KernelSampleHeadsIdeal.τ).loc Cert.KernelSampleHeadsIdeal.main_arg0))
      ∧ θ_run (Cert.ReferenceSampleHeadsIdeal.defs (F := Ideal)) (onTc (τ := Cert.ReferenceSampleHeadsIdeal.τ) (Cert.ReferenceSampleHeadsIdeal.main (F := Ideal))) ⟨m', fun _ => 0, g'⟩ (fun r => ∀ c : Dev Cert.ReferenceSampleHeadsIdeal.nD,
          r.2.mem ((c.tc : Thread Cert.ReferenceSampleHeadsIdeal.nD Cert.ReferenceSampleHeadsIdeal.τ).loc Cert.ReferenceSampleHeadsIdeal.main_v0) = v0 c
          ∧ r.2.mem ((c.tc : Thread Cert.ReferenceSampleHeadsIdeal.nD Cert.ReferenceSampleHeadsIdeal.τ).loc Cert.ReferenceSampleHeadsIdeal.main_arg0) = m' ((c.tc : Thread Cert.ReferenceSampleHeadsIdeal.nD Cert.ReferenceSampleHeadsIdeal.τ).loc Cert.ReferenceSampleHeadsIdeal.main_arg0))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelQ : Cert.KernelQ.Facts) (hKernelQIdeal : Cert.KernelQIdeal.Facts) (hReferenceQIdeal : Cert.ReferenceQIdeal.Facts) (hKernelK : Cert.KernelK.Facts) (hKernelKIdeal : Cert.KernelKIdeal.Facts) (hReferenceKIdeal : Cert.ReferenceKIdeal.Facts) (hKernelV : Cert.KernelV.Facts) (hKernelVIdeal : Cert.KernelVIdeal.Facts) (hReferenceVIdeal : Cert.ReferenceVIdeal.Facts) (hKernelForget : Cert.KernelForget.Facts) (hKernelForgetIdeal : Cert.KernelForgetIdeal.Facts) (hReferenceForgetIdeal : Cert.ReferenceForgetIdeal.Facts) (hKernelIn : Cert.KernelIn.Facts) (hKernelInIdeal : Cert.KernelInIdeal.Facts) (hReferenceInIdeal : Cert.ReferenceInIdeal.Facts) (hKernelPle : Cert.KernelPle.Facts) (hKernelPleIdeal : Cert.KernelPleIdeal.Facts) (hReferencePleIdeal : Cert.ReferencePleIdeal.Facts) (hKernelLn : Cert.KernelLn.Facts) (hKernelLnIdeal : Cert.KernelLnIdeal.Facts) (hReferenceLnIdeal : Cert.ReferenceLnIdeal.Facts) (hKernelHeads : Cert.KernelHeads.Facts) (hKernelHeadsIdeal : Cert.KernelHeadsIdeal.Facts) (hReferenceHeadsIdeal : Cert.ReferenceHeadsIdeal.Facts) (hKernelConv : Cert.KernelConv.Facts) (hKernelConvIdeal : Cert.KernelConvIdeal.Facts) (hReferenceConvIdeal : Cert.ReferenceConvIdeal.Facts) (hKernelSampleK : Cert.KernelSampleK.Facts) (hKernelSampleKIdeal : Cert.KernelSampleKIdeal.Facts) (hReferenceSampleKIdeal : Cert.ReferenceSampleKIdeal.Facts) (hKernelSampleV : Cert.KernelSampleV.Facts) (hKernelSampleVIdeal : Cert.KernelSampleVIdeal.Facts) (hReferenceSampleVIdeal : Cert.ReferenceSampleVIdeal.Facts) (hKernelSampleForget : Cert.KernelSampleForget.Facts) (hKernelSampleForgetIdeal : Cert.KernelSampleForgetIdeal.Facts) (hReferenceSampleForgetIdeal : Cert.ReferenceSampleForgetIdeal.Facts) (hKernelSampleIn : Cert.KernelSampleIn.Facts) (hKernelSampleInIdeal : Cert.KernelSampleInIdeal.Facts) (hReferenceSampleInIdeal : Cert.ReferenceSampleInIdeal.Facts) (hKernelSampleLn : Cert.KernelSampleLn.Facts) (hKernelSampleLnIdeal : Cert.KernelSampleLnIdeal.Facts) (hReferenceSampleLnIdeal : Cert.ReferenceSampleLnIdeal.Facts) (hKernelSampleHeads : Cert.KernelSampleHeads.Facts) (hKernelSampleHeadsIdeal : Cert.KernelSampleHeadsIdeal.Facts) (hReferenceSampleHeadsIdeal : Cert.ReferenceSampleHeadsIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelHeads (hKernelHeads := hKernelHeads)
    ∧ quiescent_KernelHeadsIdeal (hKernelHeadsIdeal := hKernelHeadsIdeal)
    ∧ quiescent_ReferenceHeadsIdeal (hReferenceHeadsIdeal := hReferenceHeadsIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelSampleK (hKernelSampleK := hKernelSampleK)
    ∧ quiescent_KernelSampleKIdeal (hKernelSampleKIdeal := hKernelSampleKIdeal)
    ∧ quiescent_ReferenceSampleKIdeal (hReferenceSampleKIdeal := hReferenceSampleKIdeal)
    ∧ quiescent_KernelSampleV (hKernelSampleV := hKernelSampleV)
    ∧ quiescent_KernelSampleVIdeal (hKernelSampleVIdeal := hKernelSampleVIdeal)
    ∧ quiescent_ReferenceSampleVIdeal (hReferenceSampleVIdeal := hReferenceSampleVIdeal)
    ∧ quiescent_KernelSampleForget (hKernelSampleForget := hKernelSampleForget)
    ∧ quiescent_KernelSampleForgetIdeal (hKernelSampleForgetIdeal := hKernelSampleForgetIdeal)
    ∧ quiescent_ReferenceSampleForgetIdeal (hReferenceSampleForgetIdeal := hReferenceSampleForgetIdeal)
    ∧ quiescent_KernelSampleIn (hKernelSampleIn := hKernelSampleIn)
    ∧ quiescent_KernelSampleInIdeal (hKernelSampleInIdeal := hKernelSampleInIdeal)
    ∧ quiescent_ReferenceSampleInIdeal (hReferenceSampleInIdeal := hReferenceSampleInIdeal)
    ∧ quiescent_KernelSampleLn (hKernelSampleLn := hKernelSampleLn)
    ∧ quiescent_KernelSampleLnIdeal (hKernelSampleLnIdeal := hKernelSampleLnIdeal)
    ∧ quiescent_ReferenceSampleLnIdeal (hReferenceSampleLnIdeal := hReferenceSampleLnIdeal)
    ∧ quiescent_KernelSampleHeads (hKernelSampleHeads := hKernelSampleHeads)
    ∧ quiescent_KernelSampleHeadsIdeal (hKernelSampleHeadsIdeal := hKernelSampleHeadsIdeal)
    ∧ quiescent_ReferenceSampleHeadsIdeal (hReferenceSampleHeadsIdeal := hReferenceSampleHeadsIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelQ_KernelQIdeal
    ∧ algebraic_KernelQIdeal_ReferenceQIdeal (hKernelQIdeal := hKernelQIdeal) (hReferenceQIdeal := hReferenceQIdeal)
    ∧ preserves_KernelK_KernelKIdeal
    ∧ algebraic_KernelKIdeal_ReferenceKIdeal (hKernelKIdeal := hKernelKIdeal) (hReferenceKIdeal := hReferenceKIdeal)
    ∧ preserves_KernelV_KernelVIdeal
    ∧ algebraic_KernelVIdeal_ReferenceVIdeal (hKernelVIdeal := hKernelVIdeal) (hReferenceVIdeal := hReferenceVIdeal)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelIn_KernelInIdeal
    ∧ algebraic_KernelInIdeal_ReferenceInIdeal (hKernelInIdeal := hKernelInIdeal) (hReferenceInIdeal := hReferenceInIdeal)
    ∧ preserves_KernelPle_KernelPleIdeal
    ∧ algebraic_KernelPleIdeal_ReferencePleIdeal (hKernelPleIdeal := hKernelPleIdeal) (hReferencePleIdeal := hReferencePleIdeal)
    ∧ preserves_KernelLn_KernelLnIdeal
    ∧ algebraic_KernelLnIdeal_ReferenceLnIdeal (hKernelLnIdeal := hKernelLnIdeal) (hReferenceLnIdeal := hReferenceLnIdeal)
    ∧ preserves_KernelHeads_KernelHeadsIdeal
    ∧ algebraic_KernelHeadsIdeal_ReferenceHeadsIdeal (hKernelHeadsIdeal := hKernelHeadsIdeal) (hReferenceHeadsIdeal := hReferenceHeadsIdeal)
    ∧ preserves_KernelConv_KernelConvIdeal
    ∧ algebraic_KernelConvIdeal_ReferenceConvIdeal (hKernelConvIdeal := hKernelConvIdeal) (hReferenceConvIdeal := hReferenceConvIdeal)
    ∧ preserves_KernelSampleK_KernelSampleKIdeal
    ∧ algebraic_KernelSampleKIdeal_ReferenceSampleKIdeal (hKernelSampleKIdeal := hKernelSampleKIdeal) (hReferenceSampleKIdeal := hReferenceSampleKIdeal)
    ∧ preserves_KernelSampleV_KernelSampleVIdeal
    ∧ algebraic_KernelSampleVIdeal_ReferenceSampleVIdeal (hKernelSampleVIdeal := hKernelSampleVIdeal) (hReferenceSampleVIdeal := hReferenceSampleVIdeal)
    ∧ preserves_KernelSampleForget_KernelSampleForgetIdeal
    ∧ algebraic_KernelSampleForgetIdeal_ReferenceSampleForgetIdeal (hKernelSampleForgetIdeal := hKernelSampleForgetIdeal) (hReferenceSampleForgetIdeal := hReferenceSampleForgetIdeal)
    ∧ preserves_KernelSampleIn_KernelSampleInIdeal
    ∧ algebraic_KernelSampleInIdeal_ReferenceSampleInIdeal (hKernelSampleInIdeal := hKernelSampleInIdeal) (hReferenceSampleInIdeal := hReferenceSampleInIdeal)
    ∧ preserves_KernelSampleLn_KernelSampleLnIdeal
    ∧ algebraic_KernelSampleLnIdeal_ReferenceSampleLnIdeal (hKernelSampleLnIdeal := hKernelSampleLnIdeal) (hReferenceSampleLnIdeal := hReferenceSampleLnIdeal)
    ∧ preserves_KernelSampleHeads_KernelSampleHeadsIdeal
    ∧ algebraic_KernelSampleHeadsIdeal_ReferenceSampleHeadsIdeal (hKernelSampleHeadsIdeal := hKernelSampleHeadsIdeal) (hReferenceSampleHeadsIdeal := hReferenceSampleHeadsIdeal)
-- ==== Pre_finite.lean ====
abbrev S8192x4096 : Shape := ⟨2, ![8192, 4096]⟩
abbrev S4x2048x32 : Shape := ⟨3, ![4, 2048, 32]⟩
abbrev S4x32x1x2048 : Shape := ⟨4, ![4, 32, 1, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4x2048x32 : S_.BroadcastsInDim S4x2048x32 (![] : Fin 0 → Fin S4x2048x32.rank)
  reducesTo_S4x2048x32_S_d0_1_2 : S4x2048x32.ReducesTo [0, 1, 2] S_
  bcast_S_S4x32x1x2048 : S_.BroadcastsInDim S4x32x1x2048 (![] : Fin 0 → Fin S4x32x1x2048.rank)
  reducesTo_S4x32x1x2048_S_d0_1_2_3 : S4x32x1x2048.ReducesTo [0, 1, 2, 3] S_

variable [Facts]

def fn_part1 {F : FTy → Type} [FloatOps F] (main_v15 : IVec S_ 1) (main_v16 : FVec F S4x32x1x2048 .f32) (main_cst_4 : FVec F S_ .f32) : IVec S_ 1 :=
  let main_v17 : FVec F S4x32x1x2048 .f32 := broadcastInDim S4x32x1x2048 ![] bcast_S_S4x32x1x2048 main_cst_4
  let main_v18 : IVec S4x32x1x2048 1 := cmpf .olt main_v16 main_v17
  let main_c_5 : IVec S_ 1 := constantI S_ 1 1#1
  let main_v19 : IVec S_ 1 := (fun x v => Host.reduce IntOp.andi x v reducesTo_S4x32x1x2048_S_d0_1_2_3 h_S_) main_v18 main_c_5
  let main_v20 : IVec S_ 1 := andi main_v15 main_v19
  main_v20

def fn {F : FTy → Type} [FloatOps F] (main_arg0 : FVec F S8192x4096 .bf16) (main_arg1 : FVec F S8192x4096 .bf16) (main_arg2 : FVec F S8192x4096 .bf16) (main_arg3 : FVec F S4x2048x32 .f32) (main_arg4 : FVec F S4x32x1x2048 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v4 main_v9
  let main_v11 : FVec F S4x2048x32 .f32 := Host.absf main_arg3
  let main_cst_2 : FVec F S_ .f32 := constant S_ .f32 0x7F800000#32
  let main_v12 : FVec F S4x2048x32 .f32 := broadcastInDim S4x2048x32 ![] bcast_S_S4x2048x32 main_cst_2
  let main_v13 : IVec S4x2048x32 1 := cmpf .olt main_v11 main_v12
  let main_c_3 : IVec S_ 1 := constantI S_ 1 1#1
  let main_v14 : IVec S_ 1 := (fun x v => Host.reduce IntOp.andi x v reducesTo_S4x2048x32_S_d0_1_2 h_S_) main_v13 main_c_3
  let main_v15 : IVec S_ 1 := andi main_v10 main_v14
  let main_v16 : FVec F S4x32x1x2048 .f32 := Host.absf main_arg4
  let main_cst_4 : FVec F S_ .f32 := constant S_ .f32 0x7F800000#32
  fn_part1 (F := F) main_v15 main_v16 main_cst_4
-- ==== Kernel.lean ====
abbrev S8192x4096 : Shape := ⟨2, ![8192, 4096]⟩
abbrev S4x2048x32 : Shape := ⟨3, ![4, 2048, 32]⟩
abbrev S4x32x1x2048 : Shape := ⟨4, ![4, 32, 1, 2048]⟩
abbrev S512x128 : Shape := ⟨2, ![512, 128]⟩
abbrev S2048x128 : Shape := ⟨2, ![2048, 128]⟩
abbrev S1x512x32 : Shape := ⟨3, ![1, 512, 32]⟩
abbrev S1x1x1x2048 : Shape := ⟨4, ![1, 1, 1, 2048]⟩
abbrev S512x32 : Shape := ⟨2, ![512, 32]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S4x2048x32, .f32⟩
  | .hbm, ⟨4, _⟩ => ⟨S4x32x1x2048, .f32⟩
  | .hbm, ⟨5, _⟩ => ⟨S8192x4096, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512x32, .f32⟩
  | .local _ .vmem, ⟨7, _⟩ => ⟨S1x512x32, .f32⟩
  | .local _ .vmem, ⟨8, _⟩ => ⟨S1x1x1x2048, .f32⟩
  | .local _ .vmem, ⟨9, _⟩ => ⟨S1x1x1x2048, .f32⟩
  | .local _ .vmem, ⟨10, _⟩ => ⟨S512x128, .bf16⟩
  | .local _ .vmem, ⟨11, _⟩ => ⟨S512x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 32, 4], ![false, false, false]⟩

@[reducible] def k0_t1_loop (i : grid0.Coords) : Scf.Loop 32 :=
  let c0_i32 : BitVec 32 := 0#32
  let arg2 : BitVec 32 := BitVec.ofNat 32 (i 2).val
  let v15 : BitVec 32 := Scalar.subi arg2 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  ⟨c0_i32, v19, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c512_i32_25 : BitVec 32 := 512#32
  let v66 : BitVec 32 := Scalar.muli arg9 c512_i32_25
  v66
def k0_off1 (i : grid0.Coords) (k0_t1 : Fin (k0_t1_loop i).trips) : Fin 2 → Nat :=
  let c0_i32 : BitVec 32 := 0#32
  let c1_i32_9 : BitVec 32 := 1#32
  let arg9 : BitVec 32 := Scf.iv c0_i32 c1_i32_9 k0_t1
  let c512_i32_25 : BitVec 32 := 512#32
  let v66 : BitVec 32 := Scalar.muli arg9 c512_i32_25
  let v67 : BitVec 32 := v66
  let v68 : Index := Scalar.indexCast v67
  let c0_26 : Index := 0#32
  ![v68.toNat, 0]
def k0_off2 (i : grid0.Coords) (k0_t1 : Fin (k0_t1_loop i).trips) : Fin 4 → Nat :=
  let c0_28 : Index := 0#32
  let c0_29 : Index := 0#32
  let c0_30 : Index := 0#32
  let c0_i32 : BitVec 32 := 0#32
  let c1_i32_9 : BitVec 32 := 1#32
  let arg9 : BitVec 32 := Scf.iv c0_i32 c1_i32_9 k0_t1
  let c512_i32_25 : BitVec 32 := 512#32
  let v66 : BitVec 32 := Scalar.muli arg9 c512_i32_25
  let v67 : BitVec 32 := v66
  let v72 : Index := Scalar.indexCast v67
  ![0, 0, 0, v72.toNat]
@[reducible] def k0_t2_loop (i : grid0.Coords) : Scf.Loop 32 :=
  let c0_i32 : BitVec 32 := 0#32
  let arg2 : BitVec 32 := BitVec.ofNat 32 (i 2).val
  let v15 : BitVec 32 := Scalar.subi arg2 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_10 : BitVec 32 := 1#32
  ⟨v19, v16, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let v15 : BitVec 32 := Scalar.subi arg2 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg9 : BitVec 32 := Scf.iv v19 c1_i32_10 k0_t2
  let c512_i32_25 : BitVec 32 := 512#32
  let v66 : BitVec 32 := Scalar.muli arg9 c512_i32_25
  v66
def k0_off3 (i : grid0.Coords) (k0_t2 : Fin (k0_t2_loop i).trips) : Fin 2 → Nat :=
  let c0_i32 : BitVec 32 := 0#32
  let arg2 : BitVec 32 := BitVec.ofNat 32 (i 2).val
  let v15 : BitVec 32 := Scalar.subi arg2 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg9 : BitVec 32 := Scf.iv v19 c1_i32_10 k0_t2
  let c512_i32_25 : BitVec 32 := 512#32
  let v66 : BitVec 32 := Scalar.muli arg9 c512_i32_25
  let v67 : BitVec 32 := v66
  let v68 : Index := Scalar.indexCast v67
  let c0_26 : Index := 0#32
  ![v68.toNat, 0]
def k0_off4 (i : grid0.Coords) (k0_t2 : Fin (k0_t2_loop i).trips) : Fin 4 → Nat :=
  let c0_28 : Index := 0#32
  let c0_29 : Index := 0#32
  let c0_30 : Index := 0#32
  let c0_i32 : BitVec 32 := 0#32
  let arg2 : BitVec 32 := BitVec.ofNat 32 (i 2).val
  let v15 : BitVec 32 := Scalar.subi arg2 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg9 : BitVec 32 := Scf.iv v19 c1_i32_10 k0_t2
  let c512_i32_25 : BitVec 32 := 512#32
  let v66 : BitVec 32 := Scalar.muli arg9 c512_i32_25
  let v67 : BitVec 32 := v66
  let v72 : Index := Scalar.indexCast v67
  ![0, 0, 0, v72.toNat]
def k0_mult3 (i : grid0.Coords) : BitVec 32 :=
  let arg2 : BitVec 32 := BitVec.ofNat 32 (i 2).val
  let c512_i32 : BitVec 32 := 512#32
  let v22 : BitVec 32 := Scalar.muli arg2 c512_i32
  v22
def k0_off5 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v24 : Index := Scalar.indexCast v23
  let c0_11 : Index := 0#32
  ![v24.toNat, 0]
def k0_off6 (i : grid0.Coords) : Fin 4 → Nat :=
  let c0_13 : Index := 0#32
  let c0_14 : Index := 0#32
  let c0_15 : Index := 0#32
  let arg2 : BitVec 32 := BitVec.ofNat 32 (i 2).val
  let c512_i32 : BitVec 32 := 512#32
  let v22 : BitVec 32 := Scalar.muli arg2 c512_i32
  let v23 : BitVec 32 := v22
  let v28 : Index := Scalar.indexCast v23
  ![0, 0, 0, v28.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale2" => some (((Real.sqrt 128)⁻¹ * (Real.log 2)⁻¹ : ℝ) : EReal)
  | _ => none
-- ==== ReferenceIdeal.lean ====
abbrev S8192x4096 : Shape := ⟨2, ![8192, 4096]⟩
abbrev S4x2048x32 : Shape := ⟨3, ![4, 2048, 32]⟩
abbrev S4x32x1x2048 : Shape := ⟨4, ![4, 32, 1, 2048]⟩
abbrev S4x2048x32x128 : Shape := ⟨4, ![4, 2048, 32, 128]⟩
abbrev S4x32x2048 : Shape := ⟨3, ![4, 32, 2048]⟩
abbrev S4x32x2048x1 : Shape := ⟨4, ![4, 32, 2048, 1]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x128x2048 : Shape := ⟨4, ![4, 32, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S4x2048x32, .f32⟩
  | .hbm, ⟨4, _⟩ => ⟨S4x32x1x2048, .f32⟩
  | .hbm, ⟨5, _⟩ => ⟨S8192x4096, .f32⟩
  | .hbm, ⟨6, _⟩ => ⟨S4x2048x32x128, .f32⟩
  | .hbm, ⟨7, _⟩ => ⟨S8192x4096, .f32⟩
  | .hbm, ⟨8, _⟩ => ⟨S4x2048x32x128, .f32⟩
  | .hbm, ⟨9, _⟩ => ⟨S8192x4096, .f32⟩
  | .hbm, ⟨10, _⟩ => ⟨S4x2048x32x128, .f32⟩
  | .hbm, ⟨11, _⟩ => ⟨S4x32x2048, .f32⟩
  | .hbm, ⟨12, _⟩ => ⟨S4x32x2048x1, .f32⟩
  | .hbm, ⟨13, _⟩ => ⟨S4x32x2048x2048, .f32⟩
  | .hbm, ⟨14, _⟩ => ⟨S_, .f32⟩
  | .hbm, ⟨15, _⟩ => ⟨S_, .f32⟩
  | .hbm, ⟨16, _⟩ => ⟨S4x32x2048x2048, .f32⟩
  | .hbm, ⟨17, _⟩ => ⟨S4x32x2048x2048, .f32⟩
  | .hbm, ⟨18, _⟩ => ⟨S4x32x2048x2048, .f32⟩
  | .hbm, ⟨19, _⟩ => ⟨S4x32x2048x2048, .f32⟩
  | .hbm, ⟨20, _⟩ => ⟨S4x32x2048x2048, .f32⟩
  | .hbm, ⟨21, _⟩ => ⟨S4x32x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x32x2048x2048, .i1⟩
  | .hbm, ⟨31, _⟩ => ⟨S4x32x2048x2048, .f32⟩
  | .hbm, ⟨32, _⟩ => ⟨S4x32x2048x2048, .f32⟩
  | .hbm, ⟨33, _⟩ => ⟨S_, .f32⟩
  | .hbm, ⟨34, _⟩ => ⟨S4x32x2048, .f32⟩
  | .hbm, ⟨35, _⟩ => ⟨S_, .f32⟩
  | .hbm, ⟨36, _⟩ => ⟨S4x32x2048, .f32⟩
  | .hbm, ⟨37, _⟩ => ⟨S4x32x2048, .f32⟩
  | .hbm, ⟨38, _⟩ => ⟨S4x32x2048x1, .f32⟩
  | .hbm, ⟨39, _⟩ => ⟨S4x32x2048x2048, .f32⟩
  | .hbm, ⟨40, _⟩ => ⟨S4x32x2048x2048, .f32⟩
  | .hbm, ⟨41, _⟩ => ⟨S4x32x2048x2048, .f32⟩
  | .hbm, ⟨42, _⟩ => ⟨S_, .f32⟩
  | .hbm, ⟨43, _⟩ => ⟨S4x32x2048, .f32⟩
  | .hbm, ⟨44, _⟩ => ⟨S4x32x2048x1, .f32⟩
  | .hbm, ⟨45, _⟩ => ⟨S4x32x2048x2048, .f32⟩
  | .hbm, ⟨46, _⟩ => ⟨S4x32x2048x2048, .f32⟩
  | .hbm, ⟨47, _⟩ => ⟨S4x32x128x2048, .f32⟩
  | .hbm, ⟨48, _⟩ => ⟨S4x2048x32x128, .f32⟩
  | .hbm, ⟨49, _⟩ => ⟨S8192x4096, .f32⟩
  | .hbm, ⟨50, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelOut.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelQ.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelK.lean ====
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelKIdeal.lean ====
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelV.lean ====
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelVIdeal.lean ====
abbrev S8192x4096 : Shape := ⟨2, ![8192, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelForget.lean ====
abbrev S8192x4096 : Shape := ⟨2, ![8192, 4096]⟩
abbrev S4096x32 : Shape := ⟨2, ![4096, 32]⟩
abbrev S32 : Shape := ⟨1, ![32]⟩
abbrev S1x32 : Shape := ⟨2, ![1, 32]⟩
abbrev S8192x32 : Shape := ⟨2, ![8192, 32]⟩
abbrev S1024x4096 : Shape := ⟨2, ![1024, 4096]⟩
abbrev S1024x32 : Shape := ⟨2, ![1024, 32]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x32, .f32⟩
  | .hbm, ⟨2, _⟩ => ⟨S32, .f32⟩
  | .hbm, ⟨3, _⟩ => ⟨S1x32, .f32⟩
  | .hbm, ⟨4, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .f32⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelForgetIdeal.lean ====
abbrev S8192x4096 : Shape := ⟨2, ![8192, 4096]⟩
abbrev S4096x32 : Shape := ⟨2, ![4096, 32]⟩
abbrev S32 : Shape := ⟨1, ![32]⟩
abbrev S1x32 : Shape := ⟨2, ![1, 32]⟩
abbrev S8192x32 : Shape := ⟨2, ![8192, 32]⟩
abbrev S1024x4096 : Shape := ⟨2, ![1024, 4096]⟩
abbrev S1024x32 : Shape := ⟨2, ![1024, 32]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x32, .f32⟩
  | .hbm, ⟨2, _⟩ => ⟨S32, .f32⟩
  | .hbm, ⟨3, _⟩ => ⟨S1x32, .f32⟩
  | .hbm, ⟨4, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .f32⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceForgetIdeal.lean ====
abbrev S8192x4096 : Shape := ⟨2, ![8192, 4096]⟩
abbrev S4096x32 : Shape := ⟨2, ![4096, 32]⟩
abbrev S32 : Shape := ⟨1, ![32]⟩
abbrev S8192x32 : Shape := ⟨2, ![8192, 32]⟩
abbrev S1x32 : Shape := ⟨2, ![1, 32]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x32, .f32⟩
  | .hbm, ⟨2, _⟩ => ⟨S32, .f32⟩
  | .hbm, ⟨3, _⟩ => ⟨S8192x4096, .f32⟩
  | .hbm, ⟨4, _⟩ => ⟨S8192x32, .f32⟩
  | .hbm, ⟨5, _⟩ => ⟨S1x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .i1⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== KernelIn.lean ====
abbrev S8192x4096 : Shape := ⟨2, ![8192, 4096]⟩
abbrev S2x4096x12288 : Shape := ⟨3, ![2, 4096, 12288]⟩
abbrev S512x4096 : Shape := ⟨2, ![512, 4096]⟩
abbrev S1x4096x256 : Shape := ⟨3, ![1, 4096, 256]⟩
abbrev S512x256 : Shape := ⟨2, ![512, 256]⟩
abbrev S4096x256 : Shape := ⟨2, ![4096, 256]⟩

abbrev nBuf : Space → Nat
  | .hbm => 4
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelInIdeal.lean ====
abbrev S8192x4096 : Shape := ⟨2, ![8192, 4096]⟩
abbrev S2x4096x12288 : Shape := ⟨3, ![2, 4096, 12288]⟩
abbrev S512x4096 : Shape := ⟨2, ![512, 4096]⟩
abbrev S1x4096x256 : Shape := ⟨3, ![1, 4096, 256]⟩
abbrev S512x256 : Shape := ⟨2, ![512, 256]⟩
abbrev S4096x256 : Shape := ⟨2, ![4096, 256]⟩

abbrev nBuf : Space → Nat
  | .hbm => 4
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S1x4096x12288, .f32⟩
  | .hbm, ⟨4, _⟩ => ⟨S4096x12288, .f32⟩
  | .hbm, ⟨5, _⟩ => ⟨S8192x12288, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelPle.lean ====
abbrev S8192x4096 : Shape := ⟨2, ![8192, 4096]⟩
abbrev S4x4096x4096 : Shape := ⟨3, ![4, 4096, 4096]⟩
abbrev S8192x256 : Shape := ⟨2, ![8192, 256]⟩
abbrev S4x256x4096 : Shape := ⟨3, ![4, 256, 4096]⟩
abbrev S1024x4096 : Shape := ⟨2, ![1024, 4096]⟩
abbrev S1x4096x512 : Shape := ⟨3, ![1, 4096, 512]⟩
abbrev S1024x256 : Shape := ⟨2, ![1024, 256]⟩
abbrev S1x256x512 : Shape := ⟨3, ![1, 256, 512]⟩
abbrev S1024x512 : Shape := ⟨2, ![1024, 512]⟩
abbrev S4096x512 : Shape := ⟨2, ![4096, 512]⟩
abbrev S256x512 : Shape := ⟨2, ![256, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x256, .f32⟩
  | .hbm, ⟨3, _⟩ => ⟨S4x256x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x256, .f32⟩
  | .local _ .vmem, ⟨5, _⟩ => ⟨S1024x256, .f32⟩
  | .local _ .vmem, ⟨6, _⟩ => ⟨S1x256x512, .f32⟩
  | .local _ .vmem, ⟨7, _⟩ => ⟨S1x256x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePleIdeal.lean ====
abbrev S8192x4096 : Shape := ⟨2, ![8192, 4096]⟩
abbrev S4x4096x4096 : Shape := ⟨3, ![4, 4096, 4096]⟩
abbrev S8192x256 : Shape := ⟨2, ![8192, 256]⟩
abbrev S4x256x4096 : Shape := ⟨3, ![4, 256, 4096]⟩
abbrev S1x256x4096 : Shape := ⟨3, ![1, 256, 4096]⟩
abbrev S256x4096 : Shape := ⟨2, ![256, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x256, .f32⟩
  | .hbm, ⟨3, _⟩ => ⟨S4x256x4096, .f32⟩
  | .hbm, ⟨4, _⟩ => ⟨S1x256x4096, .f32⟩
  | .hbm, ⟨5, _⟩ => ⟨S256x4096, .f32⟩
  | .hbm, ⟨6, _⟩ => ⟨S8192x4096, .f32⟩
  | .hbm, ⟨7, _⟩ => ⟨S8192x4096, .f32⟩
  | .hbm, ⟨8, _⟩ => ⟨S1x4096x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelLn.lean ====
abbrev S8192x4096 : Shape := ⟨2, ![8192, 4096]⟩
abbrev S4x3x4096 : Shape := ⟨3, ![4, 3, 4096]⟩
abbrev S4x3x1x4096 : Shape := ⟨4, ![4, 3, 1, 4096]⟩
abbrev S256x4096 : Shape := ⟨2, ![256, 4096]⟩
abbrev S1x1x1x4096 : Shape := ⟨4, ![1, 1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x3x4096, .f32⟩
  | .hbm, ⟨3, _⟩ => ⟨S4x3x4096, .f32⟩
  | .hbm, ⟨4, _⟩ => ⟨S4x3x1x4096, .f32⟩
  | .hbm, ⟨5, _⟩ => ⟨S4x3x1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLnIdeal.lean ====
abbrev S8192x4096 : Shape := ⟨2, ![8192, 4096]⟩
abbrev S4x3x4096 : Shape := ⟨3, ![4, 3, 4096]⟩
abbrev S_ : Shape := ⟨0, ![]⟩
abbrev S8192 : Shape := ⟨1, ![8192]⟩
abbrev S8192x1 : Shape := ⟨2, ![8192, 1]⟩
abbrev S1x1x4096 : Shape := ⟨3, ![1, 1, 4096]⟩
abbrev S4096 : Shape := ⟨1, ![4096]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x3x4096, .f32⟩
  | .hbm, ⟨3, _⟩ => ⟨S4x3x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S1x1x4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S1x1x4096, .f32⟩
  | .hbm, ⟨35, _⟩ => ⟨S4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== KernelHeads.lean ====
abbrev S8192x4096 : Shape := ⟨2, ![8192, 4096]⟩
abbrev S8192x32x128 : Shape := ⟨3, ![8192, 32, 128]⟩
abbrev S256x4096 : Shape := ⟨2, ![256, 4096]⟩
abbrev S256x32x128 : Shape := ⟨3, ![256, 32, 128]⟩
abbrev S256x128 : Shape := ⟨2, ![256, 128]⟩
abbrev S256x1x128 : Shape := ⟨3, ![256, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x32x128, .f32⟩
  | .local _ .vmem, ⟨0, _⟩ => ⟨S256x4096, .f32⟩
  | .local _ .vmem, ⟨1, _⟩ => ⟨S256x4096, .f32⟩
  | .local _ .vmem, ⟨2, _⟩ => ⟨S256x32x128, .f32⟩
  | .local _ .vmem, ⟨3, _⟩ => ⟨S256x32x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelHeadsIdeal.lean ====
abbrev S8192x4096 : Shape := ⟨2, ![8192, 4096]⟩
abbrev S8192x32x128 : Shape := ⟨3, ![8192, 32, 128]⟩
abbrev S256x4096 : Shape := ⟨2, ![256, 4096]⟩
abbrev S256x32x128 : Shape := ⟨3, ![256, 32, 128]⟩
abbrev S256x128 : Shape := ⟨2, ![256, 128]⟩
abbrev S256x1x128 : Shape := ⟨3, ![256, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x32x128, .f32⟩
  | .local _ .vmem, ⟨0, _⟩ => ⟨S256x4096, .f32⟩
  | .local _ .vmem, ⟨1, _⟩ => ⟨S256x4096, .f32⟩
  | .local _ .vmem, ⟨2, _⟩ => ⟨S256x32x128, .f32⟩
  | .local _ .vmem, ⟨3, _⟩ => ⟨S256x32x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceHeadsIdeal.lean ====
abbrev S8192x4096 : Shape := ⟨2, ![8192, 4096]⟩
abbrev S8192x32x128 : Shape := ⟨3, ![8192, 32, 128]⟩

abbrev nBuf : Space → Nat
  | .hbm => 2
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== KernelConv.lean ====
abbrev S8192x4096 : Shape := ⟨2, ![8192, 4096]⟩
abbrev S2x3x4096 : Shape := ⟨3, ![2, 3, 4096]⟩
abbrev S_ : Shape := ⟨0, ![]⟩
abbrev S4x2x4096 : Shape := ⟨3, ![4, 2, 4096]⟩
abbrev S32x256x4096 : Shape := ⟨3, ![32, 256, 4096]⟩
abbrev S32x2x4096 : Shape := ⟨3, ![32, 2, 4096]⟩
abbrev S1x2x4096 : Shape := ⟨3, ![1, 2, 4096]⟩
abbrev S31x2x4096 : Shape := ⟨3, ![31, 2, 4096]⟩
abbrev S32 : Shape := ⟨1, ![32]⟩
abbrev S32x1x1 : Shape := ⟨3, ![32, 1, 1]⟩
abbrev S4x8x2x4096 : Shape := ⟨4, ![4, 8, 2, 4096]⟩
abbrev S1x256x4096 : Shape := ⟨3, ![1, 256, 4096]⟩
abbrev S1x3x4096 : Shape := ⟨3, ![1, 3, 4096]⟩
abbrev S264x4096 : Shape := ⟨2, ![264, 4096]⟩
abbrev S2x4096 : Shape := ⟨2, ![2, 4096]⟩
abbrev S256x4096 : Shape := ⟨2, ![256, 4096]⟩
abbrev S3x4096 : Shape := ⟨2, ![3, 4096]⟩
abbrev S1x4096 : Shape := ⟨2, ![1, 4096]⟩

abbrev nBuf : Space → Nat
  | .hbm => 44
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x3x4096, .f32⟩
  | .hbm, ⟨3, _⟩ => ⟨S_, .f32⟩
  | .hbm, ⟨4, _⟩ => ⟨S4x2x4096, .f32⟩
  | .hbm, ⟨5, _⟩ => ⟨S32x256x4096, .f32⟩
  | .hbm, ⟨6, _⟩ => ⟨S32x2x4096, .f32⟩
  | .hbm, ⟨7, _⟩ => ⟨S_, .f32⟩
  | .hbm, ⟨8, _⟩ => ⟨S1x2x4096, .f32⟩
  | .hbm, ⟨9, _⟩ => ⟨S31x2x4096, .f32⟩
  | .hbm, ⟨10, _⟩ => ⟨S32x2x4096, .f32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S_, .i32⟩
  | .hbm, ⟨27, _⟩ => ⟨S_, .i1⟩
  | .hbm, ⟨28, _⟩ => ⟨S32, .i1⟩
  | .hbm, ⟨29, _⟩ => ⟨S32, .i1⟩
  | .hbm, ⟨30, _⟩ => ⟨S32, .i1⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32x1x1, .i1⟩
  | .hbm, ⟨38, _⟩ => ⟨S4x8x2x4096, .f32⟩
  | .hbm, ⟨39, _⟩ => ⟨S32x2x4096, .f32⟩
  | .hbm, ⟨40, _⟩ => ⟨S32x2x4096, .i1⟩
  | .hbm, ⟨41, _⟩ => ⟨S32x2x4096, .f32⟩
  | .hbm, ⟨42, _⟩ => ⟨S32x256x4096, .f32⟩
  | .hbm, ⟨43, _⟩ => ⟨S32x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x2x4096, .f32⟩
  | .local _ .vmem, ⟨5, _⟩ => ⟨S1x2x4096, .f32⟩
  | .local _ .vmem, ⟨6, _⟩ => ⟨S1x3x4096, .f32⟩
  | .local _ .vmem, ⟨7, _⟩ => ⟨S1x256x4096, .bf16⟩
  | .local _ .vmem, ⟨8, _⟩ => ⟨S1x256x4096, .bf16⟩
  | .local _ .vmem, ⟨9, _⟩ => ⟨S264x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v7 : Ref sig .tc := ⟨.hbm, 33, rfl⟩
abbrev main_c_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceConvIdeal.lean ====
abbrev S8192x4096 : Shape := ⟨2, ![8192, 4096]⟩
abbrev S2x3x4096 : Shape := ⟨3, ![2, 3, 4096]⟩
abbrev S1x3x4096 : Shape := ⟨3, ![1, 3, 4096]⟩
abbrev S3x4096 : Shape := ⟨2, ![3, 4096]⟩
abbrev S_ : Shape := ⟨0, ![]⟩
abbrev S4x2x4096 : Shape := ⟨3, ![4, 2, 4096]⟩
abbrev S4x2048x4096 : Shape := ⟨3, ![4, 2048, 4096]⟩
abbrev S4x2050x4096 : Shape := ⟨3, ![4, 2050, 4096]⟩
abbrev S1x4096 : Shape := ⟨2, ![1, 4096]⟩
abbrev S4096 : Shape := ⟨1, ![4096]⟩
abbrev S1x1x4096 : Shape := ⟨3, ![1, 1, 4096]⟩
abbrev S32x256x4096 : Shape := ⟨3, ![32, 256, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x3x4096, .f32⟩
  | .hbm, ⟨3, _⟩ => ⟨S1x3x4096, .f32⟩
  | .hbm, ⟨4, _⟩ => ⟨S3x4096, .f32⟩
  | .hbm, ⟨5, _⟩ => ⟨S_, .f32⟩
  | .hbm, ⟨6, _⟩ => ⟨S4x2x4096, .f32⟩
  | .hbm, ⟨7, _⟩ => ⟨S4x2048x4096, .f32⟩
  | .hbm, ⟨8, _⟩ => ⟨S4x2050x4096, .f32⟩
  | .hbm, ⟨9, _⟩ => ⟨S1x4096, .f32⟩
  | .hbm, ⟨10, _⟩ => ⟨S4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S1x4096, .f32⟩
  | .hbm, ⟨19, _⟩ => ⟨S4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S1x4096, .f32⟩
  | .hbm, ⟨26, _⟩ => ⟨S4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S32x256x4096, .f32⟩
  | .hbm, ⟨35, _⟩ => ⟨S32x256x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== KernelSampleK.lean ====
abbrev S32x4096 : Shape := ⟨2, ![32, 4096]⟩
abbrev S4096x8192 : Shape := ⟨2, ![4096, 8192]⟩
abbrev S4096x512 : Shape := ⟨2, ![4096, 512]⟩
abbrev S32x512 : Shape := ⟨2, ![32, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x4096, .bf16⟩
  | .hbm, ⟨1, _⟩ => ⟨S4096x8192, .f32⟩
  | .hbm, ⟨2, _⟩ => ⟨S32x4096, .f32⟩
  | .hbm, ⟨3, _⟩ => ⟨S32x4096, .bf16⟩
  | .local _ .vmem, ⟨0, _⟩ => ⟨S32x4096, .bf16⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | .local _ .vmem, ⟨5, _⟩ => ⟨S32x512, .bf16⟩
  | .local _ .vmem, ⟨6, _⟩ => ⟨S32x512, .bf16⟩
  | .local _ .vmem, ⟨7, _⟩ => ⟨S4096x512, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSampleKIdeal.lean ====
abbrev S32x4096 : Shape := ⟨2, ![32, 4096]⟩
abbrev S4096x8192 : Shape := ⟨2, ![4096, 8192]⟩
abbrev S32x8192 : Shape := ⟨2, ![32, 8192]⟩

abbrev nBuf : Space → Nat
  | .hbm => 7
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S4096x8192, .f32⟩
  | .hbm, ⟨2, _⟩ => ⟨S32x4096, .f32⟩
  | .hbm, ⟨3, _⟩ => ⟨S32x8192, .f32⟩
  | .hbm, ⟨4, _⟩ => ⟨S32x4096, .f32⟩
  | .hbm, ⟨5, _⟩ => ⟨S32x4096, .f32⟩
  | .hbm, ⟨6, _⟩ => ⟨S32x4096, .bf16⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelSampleV.lean ====
abbrev S32x4096 : Shape := ⟨2, ![32, 4096]⟩
abbrev S4096x8192 : Shape := ⟨2, ![4096, 8192]⟩
abbrev S4096x512 : Shape := ⟨2, ![4096, 512]⟩
abbrev S32x512 : Shape := ⟨2, ![32, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x4096, .bf16⟩
  | .hbm, ⟨1, _⟩ => ⟨S4096x8192, .f32⟩
  | .hbm, ⟨2, _⟩ => ⟨S32x4096, .f32⟩
  | .hbm, ⟨3, _⟩ => ⟨S32x4096, .bf16⟩
  | .local _ .vmem, ⟨0, _⟩ => ⟨S32x4096, .bf16⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | .local _ .vmem, ⟨5, _⟩ => ⟨S32x512, .bf16⟩
  | .local _ .vmem, ⟨6, _⟩ => ⟨S32x512, .bf16⟩
  | .local _ .vmem, ⟨7, _⟩ => ⟨S4096x512, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSampleVIdeal.lean ====
abbrev S32x4096 : Shape := ⟨2, ![32, 4096]⟩
abbrev S4096x8192 : Shape := ⟨2, ![4096, 8192]⟩
abbrev S32x8192 : Shape := ⟨2, ![32, 8192]⟩

abbrev nBuf : Space → Nat
  | .hbm => 7
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S4096x8192, .f32⟩
  | .hbm, ⟨2, _⟩ => ⟨S32x4096, .f32⟩
  | .hbm, ⟨3, _⟩ => ⟨S32x8192, .f32⟩
  | .hbm, ⟨4, _⟩ => ⟨S32x4096, .f32⟩
  | .hbm, ⟨5, _⟩ => ⟨S32x4096, .f32⟩
  | .hbm, ⟨6, _⟩ => ⟨S32x4096, .bf16⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelSampleForget.lean ====
abbrev S32x4096 : Shape := ⟨2, ![32, 4096]⟩
abbrev S4096x32 : Shape := ⟨2, ![4096, 32]⟩
abbrev S32 : Shape := ⟨1, ![32]⟩
abbrev S1x32 : Shape := ⟨2, ![1, 32]⟩
abbrev S32x32 : Shape := ⟨2, ![32, 32]⟩

abbrev nBuf : Space → Nat
  | .hbm => 5
  | .vmem => 4
  | .smem => 0
  | _ => 0

abbrev bufTy : (tb : Table) → Fin (tcTables nBuf tb) → BufTy
  | .hbm, ⟨0, _⟩ => ⟨S32x4096, .bf16⟩
  | .hbm, ⟨1, _⟩ => ⟨S4096x32, .f32⟩
  | .hbm, ⟨2, _⟩ => ⟨S32, .f32⟩
  | .hbm, ⟨3, _⟩ => ⟨S1x32, .f32⟩
  | .hbm, ⟨4, _⟩ => ⟨S32x32, .f32⟩
  | .local _ .vmem, ⟨0, _⟩ => ⟨S32x4096, .bf16⟩
  | .local _ .vmem, ⟨1, _⟩ => ⟨S4096x32, .f32⟩
  | .local _ .vmem, ⟨2, _⟩ => ⟨S1x32, .f32⟩
  | .local _ .vmem, ⟨3, _⟩ => ⟨S32x32, .f32⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ReferenceSampleForgetIdeal.lean ====
abbrev S32x4096 : Shape := ⟨2, ![32, 4096]⟩
abbrev S4096x32 : Shape := ⟨2, ![4096, 32]⟩
abbrev S32 : Shape := ⟨1, ![32]⟩
abbrev S32x32 : Shape := ⟨2, ![32, 32]⟩
abbrev S1x32 : Shape := ⟨2, ![1, 32]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S4096x32, .f32⟩
  | .hbm, ⟨2, _⟩ => ⟨S32, .f32⟩
  | .hbm, ⟨3, _⟩ => ⟨S32x4096, .f32⟩
  | .hbm, ⟨4, _⟩ => ⟨S32x32, .f32⟩
  | .hbm, ⟨5, _⟩ => ⟨S1x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32x32, .f32⟩
  | .hbm, ⟨14, _⟩ => ⟨S32x32, .i1⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== KernelSampleIn.lean ====
abbrev S32x4096 : Shape := ⟨2, ![32, 4096]⟩
abbrev S2x4096x12288 : Shape := ⟨3, ![2, 4096, 12288]⟩
abbrev S1x4096x256 : Shape := ⟨3, ![1, 4096, 256]⟩
abbrev S32x256 : Shape := ⟨2, ![32, 256]⟩
abbrev S4096x256 : Shape := ⟨2, ![4096, 256]⟩

abbrev nBuf : Space → Nat
  | .hbm => 4
  | .vmem => 14
  | .smem => 0
  | _ => 0

abbrev bufTy : (tb : Table) → Fin (tcTables nBuf tb) → BufTy
  | .hbm, ⟨0, _⟩ => ⟨S32x4096, .bf16⟩
  | .hbm, ⟨1, _⟩ => ⟨S2x4096x12288, .f32⟩
  | .hbm, ⟨2, _⟩ => ⟨S32x4096, .f32⟩
  | .hbm, ⟨3, _⟩ => ⟨S32x4096, .f32⟩
  | .local _ .vmem, ⟨0, _⟩ => ⟨S32x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSampleInIdeal.lean ====
abbrev S32x4096 : Shape := ⟨2, ![32, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S32x12288 : Shape := ⟨2, ![32, 12288]⟩

abbrev nBuf : Space → Nat
  | .hbm => 10
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S2x4096x12288, .f32⟩
  | .hbm, ⟨2, _⟩ => ⟨S32x4096, .f32⟩
  | .hbm, ⟨3, _⟩ => ⟨S1x4096x12288, .f32⟩
  | .hbm, ⟨4, _⟩ => ⟨S4096x12288, .f32⟩
  | .hbm, ⟨5, _⟩ => ⟨S32x12288, .f32⟩
  | .hbm, ⟨6, _⟩ => ⟨S32x4096, .f32⟩
  | .hbm, ⟨7, _⟩ => ⟨S32x4096, .f32⟩
  | .hbm, ⟨8, _⟩ => ⟨S32x4096, .f32⟩
  | .hbm, ⟨9, _⟩ => ⟨S32x4096, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelSampleLn.lean ====
abbrev S32x4096 : Shape := ⟨2, ![32, 4096]⟩
abbrev S4x3x4096 : Shape := ⟨3, ![4, 3, 4096]⟩
abbrev S4x3x1x4096 : Shape := ⟨4, ![4, 3, 1, 4096]⟩
abbrev S1x1x1x4096 : Shape := ⟨4, ![1, 1, 1, 4096]⟩
abbrev S1x4096 : Shape := ⟨2, ![1, 4096]⟩
abbrev S32 : Shape := ⟨1, ![32]⟩
abbrev S32x1 : Shape := ⟨2, ![32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4x3x4096, .f32⟩
  | .hbm, ⟨3, _⟩ => ⟨S4x3x4096, .f32⟩
  | .hbm, ⟨4, _⟩ => ⟨S4x3x1x4096, .f32⟩
  | .hbm, ⟨5, _⟩ => ⟨S4x3x1x4096, .f32⟩
  | .hbm, ⟨6, _⟩ => ⟨S32x4096, .f32⟩
  | .hbm, ⟨7, _⟩ => ⟨S32x4096, .bf16⟩
  | .local _ .vmem, ⟨0, _⟩ => ⟨S32x4096, .f32⟩
  | .local _ .vmem, ⟨1, _⟩ => ⟨S32x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S32x4096, .f32⟩
  | .local _ .vmem, ⟨5, _⟩ => ⟨S32x4096, .bf16⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ReferenceSampleLnIdeal.lean ====
abbrev S32x4096 : Shape := ⟨2, ![32, 4096]⟩
abbrev S4x3x4096 : Shape := ⟨3, ![4, 3, 4096]⟩
abbrev S_ : Shape := ⟨0, ![]⟩
abbrev S32 : Shape := ⟨1, ![32]⟩
abbrev S32x1 : Shape := ⟨2, ![32, 1]⟩
abbrev S1x1x4096 : Shape := ⟨3, ![1, 1, 4096]⟩
abbrev S4096 : Shape := ⟨1, ![4096]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4x3x4096, .f32⟩
  | .hbm, ⟨3, _⟩ => ⟨S4x3x4096, .f32⟩
  | .hbm, ⟨4, _⟩ => ⟨S_, .f32⟩
  | .hbm, ⟨5, _⟩ => ⟨S32x4096, .f32⟩
  | .hbm, ⟨6, _⟩ => ⟨S32x4096, .f32⟩
  | .hbm, ⟨7, _⟩ => ⟨S32x4096, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x4096, .f32⟩
  | .hbm, ⟨15, _⟩ => ⟨S32x4096, .f32⟩
  | .hbm, ⟨16, _⟩ => ⟨S32x4096, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S_, .f32⟩
  | .hbm, ⟨24, _⟩ => ⟨S32x1, .f32⟩
  | .hbm, ⟨25, _⟩ => ⟨S32x1, .f32⟩
  | .hbm, ⟨26, _⟩ => ⟨S32x1, .f32⟩
  | .hbm, ⟨27, _⟩ => ⟨S32x4096, .f32⟩
  | .hbm, ⟨28, _⟩ => ⟨S32x4096, .f32⟩
  | .hbm, ⟨29, _⟩ => ⟨S1x1x4096, .f32⟩
  | .hbm, ⟨30, _⟩ => ⟨S4096, .f32⟩
  | .hbm, ⟨31, _⟩ => ⟨S1x4096, .f32⟩
  | .hbm, ⟨32, _⟩ => ⟨S32x4096, .f32⟩
  | .hbm, ⟨33, _⟩ => ⟨S32x4096, .f32⟩
  | .hbm, ⟨34, _⟩ => ⟨S1x1x4096, .f32⟩
  | .hbm, ⟨35, _⟩ => ⟨S4096, .f32⟩
  | .hbm, ⟨36, _⟩ => ⟨S1x4096, .f32⟩
  | .hbm, ⟨37, _⟩ => ⟨S32x4096, .f32⟩
  | .hbm, ⟨38, _⟩ => ⟨S32x4096, .f32⟩
  | .hbm, ⟨39, _⟩ => ⟨S32x4096, .bf16⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== KernelSampleHeads.lean ====
abbrev S32x4096 : Shape := ⟨2, ![32, 4096]⟩
abbrev S32x32x128 : Shape := ⟨3, ![32, 32, 128]⟩
abbrev S32x128 : Shape := ⟨2, ![32, 128]⟩
abbrev S32x1x128 : Shape := ⟨3, ![32, 1, 128]⟩

abbrev nBuf : Space → Nat
  | .hbm => 2
  | .vmem => 2
  | .smem => 0
  | _ => 0

abbrev bufTy : (tb : Table) → Fin (tcTables nBuf tb) → BufTy
  | .hbm, ⟨0, _⟩ => ⟨S32x4096, .f32⟩
  | .hbm, ⟨1, _⟩ => ⟨S32x32x128, .f32⟩
  | .local _ .vmem, ⟨0, _⟩ => ⟨S32x4096, .f32⟩
  | .local _ .vmem, ⟨1, _⟩ => ⟨S32x32x128, .f32⟩
  | _, _ => ⟨S32x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSampleHeadsIdeal.lean ====
abbrev S32x4096 : Shape := ⟨2, ![32, 4096]⟩
abbrev S32x32x128 : Shape := ⟨3, ![32, 32, 128]⟩

abbrev nBuf : Space → Nat
  | .hbm => 2
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x32x128, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Online.lean ====
module

public import Idealize.ShloMosaic.PureOps.Ideal
public import Mathlib.Data.EReal.Operations
public import Mathlib.Analysis.SpecialFunctions.Pow.Real

@[expose] public section

noncomputable section

/-! Softmax-weighted sums over the extended reals, computed tile by tile: the mathematics of the attention kernel,
    free of any program. Positions are natural numbers; `w κ` is the weight `exp` of the score at position `κ` (zero
    at a masked position), `V κ` the value there. -/

namespace Cert.Proof.Online

open Idealize.ShloMosaic

/-- A nonnegative real factor distributes over a finite sum of extended reals, on the left. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha)
      (EReal.coe_ne_top a), ih]

/-- … and on the right. -/
theorem sum_mul_coe {ι : Type*} (s : Finset ι) (a : ℝ) (ha : 0 ≤ a) (f : ι → EReal) :
    (∑ i ∈ s, f i) * (a : EReal) = ∑ i ∈ s, f i * (a : EReal) := by
  rw [mul_comm, coe_mul_sum s a ha]
  exact Finset.sum_congr rfl fun i _ => mul_comm _ _

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A maximum over a finite family started at `b`, none of whose members is `⊤`, one of which (or `b`) is above `⊥`, is a
    real number. -/
theorem fold_max_real {n : ℕ} (b : EReal) (t : Fin n → EReal) (hb : b ≠ ⊤) (ht : ∀ x, t x ≠ ⊤)
    (hx : b ≠ ⊥ ∨ ∃ x, t x ≠ ⊥) : ∃ M : ℝ, max b (Finset.univ.fold max ⊥ t) = (M : EReal) := by
  have e : Finset.univ.fold max ⊥ t = Finset.univ.sup t := rfl
  rw [e]
  have h1 : max b (Finset.univ.sup t) ≠ ⊤ := by
    have : max b (Finset.univ.sup t) < ⊤ :=
      max_lt (lt_top_iff_ne_top.2 hb) ((Finset.sup_lt_iff (by simp)).2 fun x _ => lt_top_iff_ne_top.2 (ht x))
    exact this.ne
  have h2 : max b (Finset.univ.sup t) ≠ ⊥ := by
    rcases hx with h | ⟨x, h⟩
    · exact ((bot_lt_iff_ne_bot.2 h).trans_le (le_max_left _ _)).ne'
    · exact ((bot_lt_iff_ne_bot.2 h).trans_le ((Finset.le_sup (Finset.mem_univ x)).trans (le_max_right _ _))).ne'
  exact ⟨_, (EReal.coe_toReal h1 h2).symm⟩

/-- `t` is the base-two score whose weight is `w`: `2 ^ t = w`, or a masked score and weight zero. -/
def Scored (t : EReal) (w : ℝ) : Prop := (∃ r : ℝ, t = (r : EReal) ∧ w = (2 : ℝ) ^ r) ∨ (t = ⊥ ∧ w = 0)

theorem Scored.ne_top {t : EReal} {w : ℝ} (h : Scored t w) : t ≠ ⊤ := by
  rcases h with ⟨r, rfl, _⟩ | ⟨rfl, _⟩
  · exact EReal.coe_ne_top r
  · exact bot_ne_top

/-- The exponential of a score less a real maximum is the score's weight scaled down by the maximum. -/
theorem Scored.exp2_sub {t : EReal} {w : ℝ} (h : Scored t w) (M : ℝ) :
    Ideal.exp2 (t - (M : EReal)) = (((2 : ℝ) ^ (-M) * w : ℝ) : EReal) := by
  rcases h with ⟨r, rfl, rfl⟩ | ⟨rfl, rfl⟩
  · rw [← EReal.coe_sub, Ideal.exp2_coe]
    congr 1
    rw [← Real.rpow_add two_pos]
    congr 1
    ring
  · rw [EReal.bot_sub]
    simp

/-- The carried maximum, sum of exponentials and weighted sum after the first `n` positions: nothing yet (`n = 0`), or a real
    maximum `M` with both sums scaled by `2 ^ (-M)`. -/
def Carried (w : ℕ → ℝ) (V : ℕ → EReal) (n : ℕ) (m l acc : EReal) : Prop :=
  (n = 0 ∧ m = ⊥ ∧ l = 0 ∧ acc = 0) ∨
    ∃ M : ℝ, m = (M : EReal) ∧ l = ((∑ κ ∈ Finset.range n, (2 : ℝ) ^ (-M) * w κ : ℝ) : EReal)
      ∧ acc = ∑ κ ∈ Finset.range n, (((2 : ℝ) ^ (-M) * w κ : ℝ) : EReal) * V κ

/-- One tile of `T` positions taken in: the new maximum, and both sums rescaled by the old maximum's exponential and extended
    by the tile's, carry on. At least one position of the tile is unmasked. -/
theorem Carried.step {w : ℕ → ℝ} {V : ℕ → EReal} {n T : ℕ} {m l acc : EReal} (hw : ∀ κ, 0 ≤ w κ)
    (h : Carried w V n m l acc) (t : Fin T → EReal) (ht : ∀ x : Fin T, Scored (t x) (w (n + x.val)))
    (hx : ∃ x, t x ≠ ⊥) (m' : EReal) (hm' : m' = max m (Finset.univ.fold max ⊥ t)) (v : Fin T → EReal)
    (hv : ∀ x : Fin T, v x = V (n + x.val)) :
    (∃ M : ℝ, m' = (M : EReal)) ∧ Carried w V (n + T) m' (Ideal.exp2 (m - m') * l + ∑ x, Ideal.exp2 (t x - m'))
      (Ideal.exp2 (m - m') * acc + ∑ x, Ideal.exp2 (t x - m') * v x) := by
  have hmt : m ≠ ⊤ := by
    rcases h with ⟨_, rfl, _⟩ | ⟨M, rfl, _⟩
    · exact bot_ne_top
    · exact EReal.coe_ne_top M
  obtain ⟨M', hM'⟩ := fold_max_real m t hmt (fun x => (ht x).ne_top) (.inr hx)
  rw [← hm'] at hM'
  clear hm'
  subst hM'
  refine ⟨⟨M', rfl⟩, .inr ⟨M', rfl, ?_, ?_⟩⟩
  · have e : ∀ x : Fin T, Ideal.exp2 (t x - (M' : EReal)) = (((2 : ℝ) ^ (-M') * w (n + x.val) : ℝ) : EReal) :=
      fun x => (ht x).exp2_sub M'
    rw [Finset.sum_congr rfl fun x _ => e x, ← coe_sum, Finset.sum_range_add, Finset.sum_range (n := T), EReal.coe_add]
    congr 1
    rcases h with ⟨rfl, rfl, rfl, rfl⟩ | ⟨M, rfl, rfl, _⟩
    · simp
    · rw [← EReal.coe_sub, Ideal.exp2_coe, ← EReal.coe_mul, Finset.mul_sum]
      congr 1
      refine Finset.sum_congr rfl fun κ _ => ?_
      rw [← mul_assoc]
      congr 1
      show (2 : ℝ) ^ (M - M') * _ = _
      rw [← Real.rpow_add two_pos]
      congr 1
      ring
  · have e : ∀ x : Fin T, Ideal.exp2 (t x - (M' : EReal)) * v x
        = (((2 : ℝ) ^ (-M') * w (n + x.val) : ℝ) : EReal) * V (n + x.val) :=
      fun x => by rw [(ht x).exp2_sub M', hv]
    rw [Finset.sum_congr rfl fun x _ => e x, Finset.sum_range_add, Finset.sum_range (n := T)]
    congr 1
    rcases h with ⟨rfl, rfl, rfl, rfl⟩ | ⟨M, rfl, _, rfl⟩
    · simp
    · rw [← EReal.coe_sub, Ideal.exp2_coe, Real.rpow_eq_pow, coe_mul_sum _ _ (Real.rpow_nonneg two_pos.le _)]
      refine Finset.sum_congr rfl fun κ _ => ?_
      rw [← mul_assoc, ← EReal.coe_mul]
      congr 2
      rw [← mul_assoc]
      congr 1
      show (2 : ℝ) ^ (M - M') * _ = _
      rw [← Real.rpow_add two_pos]
      congr 1
      ring

/-- The quotient of the carried sums: the average of the values under the weights. -/
theorem Carried.quotient {w : ℕ → ℝ} {V : ℕ → EReal} {n : ℕ} {m l acc : EReal} (hw : ∀ κ, 0 ≤ w κ)
    (hpos : 0 < ∑ κ ∈ Finset.range n, w κ) (h : Carried w V n m l acc) (hm : ∃ M : ℝ, m = (M : EReal)) :
    Ideal.div acc l = ∑ κ ∈ Finset.range n, V κ * ((w κ / ∑ κ' ∈ Finset.range n, w κ' : ℝ) : EReal) := by
  rcases h with ⟨_, rfl, _⟩ | ⟨M, _, rfl, rfl⟩
  · obtain ⟨M, hM⟩ := hm
    exact absurd hM.symm (EReal.coe_ne_bot M)
  · have hc : (0 : ℝ) < (2 : ℝ) ^ (-M) := Real.rpow_pos_of_pos two_pos _
    rw [← Finset.mul_sum, Ideal.div_coe (mul_pos hc hpos).ne',
      sum_mul_coe _ _ (one_div_nonneg.2 (mul_pos hc hpos).le)]
    refine Finset.sum_congr rfl fun κ _ => ?_
    rw [mul_right_comm, ← EReal.coe_mul, mul_comm]
    congr 2
    field_simp

/-- The softmax form of the same average: scores in natural units less any real maximum, exponentials divided by their sum. -/
theorem softmax_average {N : ℕ} (w : ℕ → ℝ) (V : ℕ → EReal) (s : Fin N → EReal) (M : EReal) (hM : ∃ r : ℝ, M = (r : EReal))
    (hs : ∀ κ : Fin N, (∃ r : ℝ, s κ = (r : EReal) ∧ w κ.val = Real.exp r) ∨ (s κ = ⊥ ∧ w κ.val = 0))
    (hpos : 0 < ∑ κ ∈ Finset.range N, w κ) :
    ∑ κ : Fin N, V κ.val * Ideal.div (Ideal.exp (s κ - M)) (∑ κ' : Fin N, Ideal.exp (s κ' - M))
      = ∑ κ ∈ Finset.range N, V κ * ((w κ / ∑ κ' ∈ Finset.range N, w κ' : ℝ) : EReal) := by
  obtain ⟨M, rfl⟩ := hM
  have e : ∀ κ : Fin N, Ideal.exp (s κ - (M : EReal)) = ((Real.exp (-M) * w κ.val : ℝ) : EReal) := fun κ => by
    rcases hs κ with ⟨r, hr, hw⟩ | ⟨hr, hw⟩
    · rw [hr, hw, ← EReal.coe_sub, Ideal.exp_coe, ← Real.exp_add]
      congr 2
      ring
    · rw [hr, hw, EReal.bot_sub]
      simp
  have hc : (0 : ℝ) < Real.exp (-M) := Real.exp_pos _
  rw [Finset.sum_range]
  refine Finset.sum_congr rfl fun κ _ => ?_
  rw [Finset.sum_congr rfl fun κ' _ => e κ', e κ, ← coe_sum, ← Finset.sum_range (fun κ => Real.exp (-M) * w κ),
    ← Finset.mul_sum, Ideal.div_coe (mul_pos hc hpos).ne', ← EReal.coe_mul]
  congr 2
  field_simp

end Cert.Proof.Online

end
-- ==== Proof.Pays.lean ====
module

public import proofs.«01_k».proof.Proof.Gen.KernelIdeal.Skeleton
public import Idealize.ShloMosaic.Lib.Pointwise

@[expose] public section

set_option maxRecDepth 16384

noncomputable section

namespace Cert.Proof.Pays

open Cert.KernelIdeal Cert.KernelIdeal.Gen Idealize.ShloMosaic Idealize.ShloMosaic.TcCoe Idealize.SL.Sem

/-- The constant called `log2e`: one over the natural logarithm of two. -/
def L : ℝ := (Real.log 2)⁻¹

/-- The constant called `scale2`: one over the square root of the head width, in units of `L`. -/
def sc2 : ℝ := (Real.sqrt 128)⁻¹ * (Real.log 2)⁻¹

theorem log2e_val : (Named.named (F := Ideal) κ "log2e" (φ := .f32) 0x3FB8AA3B#32) = ((L : ℝ) : EReal) :=
  IdealRules.named_const.ideal_named_scalar _ _ _ _ rfl

theorem scale2_val : (Named.named (F := Ideal) κ "scale2" (φ := .f32) 0x3E0293EE#32) = ((sc2 : ℝ) : EReal) :=
  IdealRules.named_const.ideal_named_scalar _ _ _ _ rfl

theorem ninf : Ideal.ofBits .f32 0xFF800000#32 = (⊥ : EReal) := by
  simp [Ideal.ofBits, Ideal.ieee]

variable (i : grid0.Coords) (v0 : Vec Ideal S512x128 .bf16) (v1 : Vec Ideal S1x512x32 .f32) (m l : FVec Ideal S512x1 .f32)
  (acc : FVec Ideal S512x128 .f32) (kt vt : Vec Ideal S512x128 .bf16) (ct : Vec Ideal S1x1x1x512 .f32)

/-- The head of a grid point. -/
def hd : Fin 32 := i 1

/-- One tile's base-two score of query row `r` and key row `x`. -/
def score (r x : Fin 512) : EReal :=
  (∑ d : Fin 128, v0 (ix2 r d) * kt (ix2 x d)) * ((sc2 : ℝ) : EReal)
    + (v1 (ix3 0 r (hd i)) * ((L : ℝ) : EReal) - ct (ix4 0 0 0 x) * ((L : ℝ) : EReal))

/-- The lane select and sum reads the head's lane. -/
theorem pay2_apply (r : Fin 512) : k0_pay2 (F := Ideal) i v1 (ix2 r 0) = v1 (ix3 0 r (hd i)) * ((L : ℝ) : EReal) := by
  pointwise [k0_pay2]
  rw [log2e_val]
  congr 1
  rw [Finset.sum_eq_single (hd i)]
  · simp [hd, Scalar.select, IntOp.cmpi]
  · intro b _ hb
    have : (BitVec.ofNat 32 b.val == BitVec.ofNat 32 (i 1).val) = false := by
      have h1 : b.val < 32 := b.isLt
      have h2 : (i 1).val < 32 := (hd i).isLt
      have h3 : b.val ≠ (i 1).val := fun h => hb (Fin.ext h)
      rw [beq_eq_false_iff_ne]
      intro h
      have := congrArg BitVec.toNat h
      simp only [BitVec.toNat_ofNat] at this
      omega
    simp [Scalar.select, IntOp.cmpi, this]
  · simp

theorem pay6_apply (r x : Fin 512) : k0_pay6 (F := Ideal) i v0 v1 kt ct (ix2 r x) = score i v0 v1 kt ct r x := by
  pointwise [k0_pay6]
  rw [pay2_apply, log2e_val, scale2_val]
  rfl

/-- The new maximum of a row after a whole tile. -/
theorem pay7_apply (r : Fin 512) : k0_pay7 (F := Ideal) i v0 v1 m kt ct (ix2 r 0)
    = max (m (ix2 r 0)) (Finset.univ.fold max ⊥ fun x => score i v0 v1 kt ct r x) := by
  pointwise [k0_pay7]
  simp only [pay6_apply, ninf]

theorem pay8_apply (r : Fin 512) : k0_pay8 (F := Ideal) i v0 v1 m kt ct (ix2 r 0)
    = Ideal.exp2 (m (ix2 r 0) - k0_pay7 (F := Ideal) i v0 v1 m kt ct (ix2 r 0)) := by
  pointwise [k0_pay8]
  rfl

theorem pay9_apply (r x : Fin 512) : k0_pay9 (F := Ideal) i v0 v1 m kt ct (ix2 r x)
    = Ideal.exp2 (score i v0 v1 kt ct r x - k0_pay7 (F := Ideal) i v0 v1 m kt ct (ix2 r 0)) := by
  pointwise [k0_pay9]
  rw [pay6_apply]
  rfl

theorem pay10_apply (r : Fin 512) : k0_pay10 (F := Ideal) i v0 v1 m l kt ct (ix2 r 0)
    = Ideal.exp2 (m (ix2 r 0) - k0_pay7 (F := Ideal) i v0 v1 m kt ct (ix2 r 0)) * l (ix2 r 0)
      + ∑ x, Ideal.exp2 (score i v0 v1 kt ct r x - k0_pay7 (F := Ideal) i v0 v1 m kt ct (ix2 r 0)) := by
  pointwise [k0_pay10]
  simp only [pay8_apply, pay9_apply]

theorem pay11_apply (r : Fin 512) (d : Fin 128) : k0_pay11 (F := Ideal) i v0 v1 m acc kt vt ct (ix2 r d)
    = Ideal.exp2 (m (ix2 r 0) - k0_pay7 (F := Ideal) i v0 v1 m kt ct (ix2 r 0)) * acc (ix2 r d)
      + ∑ x, Ideal.exp2 (score i v0 v1 kt ct r x - k0_pay7 (F := Ideal) i v0 v1 m kt ct (ix2 r 0)) * vt (ix2 x d) := by
  pointwise [k0_pay11]
  simp only [pay8_apply, pay9_apply]

/-- The signed comparison of two lane numbers. -/
theorem sle_lane (x r : Fin 512) : IntOp.cmpi CmpIPredicate.sle (BitVec.ofNat 32 x.val) (BitVec.ofNat 32 r.val)
    = if x.val ≤ r.val then 1#1 else 0#1 := by
  have hx := x.isLt
  have hr := r.isLt
  have e : ∀ n : ℕ, n < 512 → (BitVec.ofNat 32 n).toInt = (n : ℤ) := fun n hn => by
    rw [BitVec.toInt_eq_toNat_cond, BitVec.toNat_ofNat]
    omega
  by_cases h : x.val ≤ r.val
  · simp [IntOp.cmpi, BitVec.sle, e _ hx, e _ hr, h]
  · simp [IntOp.cmpi, BitVec.sle, e _ hx, e _ hr, h]

/-- The diagonal tile's score: masked where the key comes after the query. -/
def diag (r x : Fin 512) : EReal := if x.val ≤ r.val then score i v0 v1 kt ct r x else ⊥

/-- The block's element: the diagonal tile taken in, and the weighted sum divided by the sum of exponentials. -/
theorem pay1_apply (r : Fin 512) (d : Fin 128) :
    k0_pay1 (F := Ideal) (k0_pay2 i v1) m l acc vt (k0_pay18 ct) (k0_pay19 v0 kt) (ix2 r d)
      = Ideal.div
        (Ideal.exp2 (m (ix2 r 0) - max (m (ix2 r 0)) (Finset.univ.fold max ⊥ fun x => diag i v0 v1 kt ct r x)) * acc (ix2 r d)
          + ∑ x, Ideal.exp2 (diag i v0 v1 kt ct r x
            - max (m (ix2 r 0)) (Finset.univ.fold max ⊥ fun x => diag i v0 v1 kt ct r x)) * vt (ix2 x d))
        (Ideal.exp2 (m (ix2 r 0) - max (m (ix2 r 0)) (Finset.univ.fold max ⊥ fun x => diag i v0 v1 kt ct r x)) * l (ix2 r 0)
          + ∑ x, Ideal.exp2 (diag i v0 v1 kt ct r x
            - max (m (ix2 r 0)) (Finset.univ.fold max ⊥ fun x => diag i v0 v1 kt ct r x))) := by
  have e : ∀ x : Fin 512, (Scalar.select (IntOp.cmpi CmpIPredicate.sle (BitVec.ofNat 32 x.val) (BitVec.ofNat 32 r.val))
      ((k0_pay19 (F := Ideal) v0 kt (ix2 r x) : EReal) * (Named.named (F := Ideal) κ "scale2" (φ := .f32) 0x3E0293EE#32 : EReal)
        + ((k0_pay2 (F := Ideal) i v1 (ix2 r 0) : EReal) - (k0_pay18 (F := Ideal) ct (ix2 0 x) : EReal)))
      (⊥ : EReal) : EReal) = diag i v0 v1 kt ct r x := by
    intro x
    have h19 : k0_pay19 (F := Ideal) v0 kt (ix2 r x) = ∑ d : Fin 128, v0 (ix2 r d) * kt (ix2 x d) := by
      pointwise [k0_pay19]
    have h18 : k0_pay18 (F := Ideal) ct (ix2 0 x) = ct (ix4 0 0 0 x) * ((L : ℝ) : EReal) := by
      pointwise [k0_pay18]
      rw [log2e_val]
    rw [sle_lane, h19, h18, pay2_apply, scale2_val]
    unfold diag score
    by_cases h : x.val ≤ r.val
    · simp [h, Scalar.select]
    · simp [h, Scalar.select]
  pointwise [k0_pay1]
  simp only [ninf]
  simp only [e]
  rfl

end Cert.Proof.Pays

end
-- ==== Proof.Block.lean ====
module

public import proofs.«01_k».proof.Proof.Gen.KernelIdeal.Value
public import proofs.«01_k».proof.Proof.Online
public import proofs.«01_k».proof.Proof.Pays
public import Idealize.ShloMosaic.Lib.Pointwise
public import Idealize.ShloMosaic.Lib.Pipeline.ValueKit
public import Idealize.ShloMosaic.Lib.Pipeline.Covers

@[expose] public section

set_option maxRecDepth 16384

noncomputable section

namespace Cert.Proof.Block

open Cert.KernelIdeal Cert.KernelIdeal.Gen Idealize.ShloMosaic Idealize.ShloMosaic.TcCoe Idealize.SL.Sem

variable (c : Dev nD) (i : grid0.Coords)
  (arg3 : Memref sig .tc .vmem S512x128 .bf16) (harg3 : arg3.IsWhole) (arg4 : Memref sig .tc .vmem S2048x128 .bf16) (harg4 : arg4.IsWhole)
  (arg5 : Memref sig .tc .vmem S2048x128 .bf16) (harg5 : arg5.IsWhole) (arg6 : Memref sig .tc .vmem S1x512x32 .f32) (harg6 : arg6.IsWhole)
  (arg7 : Memref sig .tc .vmem S1x1x1x2048 .f32) (harg7 : arg7.IsWhole) (arg8 : Memref sig .tc .vmem S512x128 .bf16) (harg8 : arg8.IsWhole)
  (x0 : Vec Ideal S512x128 .bf16) (x1 x2 : Vec Ideal S2048x128 .bf16) (x3 : Vec Ideal S1x512x32 .f32) (x4 : Vec Ideal S1x1x1x2048 .f32)

/-- Rows `512 j …` of a sequence's keys (or values). -/
def kt (x : Vec Ideal S2048x128 .bf16) (j : ℕ) : Vec Ideal S512x128 .bf16 :=
  fun y => x (ix2 ⟨(512 * j + (y 0).val) % 2048, Nat.mod_lt _ (by decide)⟩ (y 1))

/-- Lanes `512 j …` of a head's running sums. -/
def ct (x : Vec Ideal S1x1x1x2048 .f32) (j : ℕ) : Vec Ideal S1x1x1x512 .f32 :=
  fun y => x (ix4 0 0 0 ⟨(512 * j + (y 3).val) % 2048, Nat.mod_lt _ (by decide)⟩)

theorem ld_kt (x : Vec Ideal S2048x128 .bf16) (j : ℕ) (hj : j < 4) (off : Fin 2 → ℕ) (hn : off 0 = 512 * j) (h1 : off 1 = 0) (h) :
    View.ld x (Rect.unit (s := S2048x128) off S512x128.size h) = kt x j := by
  funext y
  refine View.ld_unit_apply_of _ _ _ _ _ _ fun a => ?_
  have h0 : (y 0).val < 512 := (y 0).isLt
  match a with
  | ⟨0, _⟩ => show (512 * j + (y 0).val) % 2048 = off 0 + (y 0).val; omega
  | ⟨1, _⟩ => show (y 1).val = off 1 + (y 1).val; omega

theorem ld_ct (x : Vec Ideal S1x1x1x2048 .f32) (j : ℕ) (hj : j < 4) (off : Fin 4 → ℕ) (hn : off 3 = 512 * j)
    (z0 : off 0 = 0) (z1 : off 1 = 0) (z2 : off 2 = 0) (h) :
    View.ld x (Rect.unit (s := S1x1x1x2048) off S1x1x1x512.size h) = ct x j := by
  funext y
  refine View.ld_unit_apply_of _ _ _ _ _ _ fun a => ?_
  have h0 : (y 0).val < 1 := (y 0).isLt
  have h1 : (y 1).val < 1 := (y 1).isLt
  have h2 : (y 2).val < 1 := (y 2).isLt
  have h3 : (y 3).val < 512 := (y 3).isLt
  match a with
  | ⟨0, _⟩ => show 0 = off 0 + (y 0).val; omega
  | ⟨1, _⟩ => show 0 = off 1 + (y 1).val; omega
  | ⟨2, _⟩ => show 0 = off 2 + (y 2).val; omega
  | ⟨3, _⟩ => show (512 * j + (y 3).val) % 2048 = off 3 + (y 3).val; omega

/-- The query tile of a grid point. -/
def qt : Fin 4 := i 2

theorem trips1 : Scf.trips (0#32) (Scalar.addi (0#32) (Scalar.muli (Scalar.divsi (Scalar.subi (BitVec.ofNat 32 (i 2).val) 0#32) 1#32) 1#32)) 1#32 = (qt i).val :=
  (by decide : ∀ a : Fin 4, Scf.trips (0#32) (Scalar.addi (0#32) (Scalar.muli (Scalar.divsi (Scalar.subi (BitVec.ofNat 32 a.val) 0#32) 1#32) 1#32)) 1#32 = a.val) (qt i)

theorem trips2 : Scf.trips (Scalar.addi (0#32) (Scalar.muli (Scalar.divsi (Scalar.subi (BitVec.ofNat 32 (i 2).val) 0#32) 1#32) 1#32)) (Scalar.addi (0#32) (Scalar.subi (BitVec.ofNat 32 (i 2).val) 0#32)) 1#32 = 0 :=
  (by decide : ∀ a : Fin 4, Scf.trips (Scalar.addi (0#32) (Scalar.muli (Scalar.divsi (Scalar.subi (BitVec.ofNat 32 a.val) 0#32) 1#32) 1#32)) (Scalar.addi (0#32) (Scalar.subi (BitVec.ofNat 32 a.val) 0#32)) 1#32 = 0) (qt i)

theorem off_trip : ∀ k : Fin 4, BitVec.toNat (Scalar.indexCast (Scalar.muli (Scf.iv 0#32 1#32 k.val) 512#32)) = 512 * k.val := by decide

theorem off_diag : BitVec.toNat (Scalar.indexCast (Scalar.muli (BitVec.ofNat 32 (i 2).val) 512#32)) = 512 * (qt i).val :=
  (by decide : ∀ a : Fin 4, BitVec.toNat (Scalar.indexCast (Scalar.muli (BitVec.ofNat 32 a.val) 512#32)) = 512 * a.val) (qt i)

/-- What the loop carries: maximum, sum of exponentials, weighted sum. -/
abbrev St := FVec Ideal S512x1 .f32 × FVec Ideal S512x1 .f32 × FVec Ideal S512x128 .f32

/-- One whole tile taken in. -/
def next (v0 : Vec Ideal S512x128 .bf16) (v1 : Vec Ideal S1x512x32 .f32) (j : ℕ) (s : St) : St :=
  (k0_pay7 i v0 v1 s.1 (kt x1 j) (ct x4 j), k0_pay10 i v0 v1 s.1 s.2.1 (kt x1 j) (ct x4 j),
    k0_pay11 i v0 v1 s.1 s.2.2 (kt x1 j) (kt x2 j) (ct x4 j))

/-- The carried value before tile `n`. -/
def carry (v0 : Vec Ideal S512x128 .bf16) (v1 : Vec Ideal S1x512x32 .f32) : ℕ → St
  | 0 => (k0_pay3, k0_pay4, k0_pay5)
  | n + 1 => next i x1 x2 x4 v0 v1 n (carry v0 v1 n)

theorem trip_eq (v0 : Vec Ideal S512x128 .bf16) (v1 : Vec Ideal S1x512x32 .f32) (k : Fin (k0_t1_loop i).trips) (acc : St) :
    tripR_k0_t1 (F := Ideal) Variants.none c none i arg3 harg3 arg4 harg4 arg5 harg5 arg6 harg6 arg7 harg7 arg8 harg8 v0 v1
      (harg4.unread x1) (harg5.unread x2) (harg7.unread x4) k acc = next i x1 x2 x4 v0 v1 k.val acc := by
  unfold tripR_k0_t1 trip_k0_t1
  dsimp only
  sl_unfold_words
  simp only [View.readAt_eq_ld, harg4.read_unread, harg5.read_unread, harg7.read_unread]
  have hk : k.val < 4 := lt_of_lt_of_eq k.isLt (trips1 i) |>.trans (qt i).isLt
  have ho := off_trip ⟨k.val, hk⟩
  have e1 : ∀ x, View.ld x (Rect.unit (s := S2048x128) (k0_off1 i k) S512x128.size (k0_off1_inb i k)) = kt x k.val :=
    fun x => ld_kt x k.val hk _ ho rfl _
  have e2 : View.ld x4 (Rect.unit (s := S1x1x1x2048) (k0_off2 i k) S1x1x1x512.size (k0_off2_inb i k)) = ct x4 k.val :=
    ld_ct x4 k.val hk _ ho rfl rfl rfl _
  unfold next
  rw [← e1 x1, ← e1 x2, ← e2]
  rfl

theorem st_eq (v0 : Vec Ideal S512x128 .bf16) (v1 : Vec Ideal S1x512x32 .f32) : ∀ n, n ≤ (qt i).val →
    st_k0_t1 (F := Ideal) Variants.none c none i arg3 harg3 arg4 harg4 arg5 harg5 arg6 harg6 arg7 harg7 arg8 harg8 v0 v1
      (harg4.unread x1) (harg5.unread x2) (harg7.unread x4) (k0_pay3, k0_pay4, k0_pay5) n = carry i x1 x2 x4 v0 v1 n
  | 0, _ => rfl
  | n + 1, h => by
    have hn : n < (k0_t1_loop i).trips := lt_of_lt_of_eq h (trips1 i).symm
    refine (st_k0_t1_succ (F := Ideal) Variants.none c none i arg3 harg3 arg4 harg4 arg5 harg5 arg6 harg6 arg7 harg7 arg8 harg8 v0 v1
      (harg4.unread x1) (harg5.unread x2) (harg7.unread x4) (k0_pay3, k0_pay4, k0_pay5) ⟨n, hn⟩).trans ?_
    rw [st_eq v0 v1 n (by omega), trip_eq]
    rfl

/-- A grid point's output block: the carried value after the tiles before the diagonal, then the diagonal tile and the
    division. -/
def blockOf (x0 : Vec Ideal S512x128 .bf16) (x3 : Vec Ideal S1x512x32 .f32) : FVec Ideal S512x128 .bf16 :=
  k0_pay1 (k0_pay2 i x3) (carry i x1 x2 x4 x0 x3 (qt i).val).1 (carry i x1 x2 x4 x0 x3 (qt i).val).2.1
    (carry i x1 x2 x4 x0 x3 (qt i).val).2.2 (kt x2 (qt i).val) (k0_pay18 (ct x4 (qt i).val)) (k0_pay19 x0 (kt x1 (qt i).val))

theorem out_eq  :
    out0_A_5 c i arg3 harg3 arg4 harg4 arg5 harg5 arg6 harg6 arg7 harg7 arg8 harg8 x0 x1 x2 x3 x4 = blockOf i x1 x2 x4 x0 x3 := by
  unfold out0_A_5
  rw [View.read_writes_eq_canon _ _ _ (cover0_A_5 c _ _ _ _ _ _ _ _ _ _ _ _ _ _ _ _ _ _)]
  unfold kernelRun0_A
  dsimp only
  sl_unfold_words
  simp only [View.readAt_eq_ld, harg3.read_unread, harg4.read_unread, harg5.read_unread, harg6.read_unread, harg7.read_unread]
  have z2 : (![0, 0] : Fin 2 → ℕ) = fun _ => 0 := by decide
  have z3 : (![0, 0, 0] : Fin 3 → ℕ) = fun _ => 0 := by decide
  have e0 : ∀ h, View.ld x0 (Rect.unit (s := S512x128) ![0, 0] ![512, 128] h) = x0 := fun h => View.ld_unit_zero z2 h x0
  have e3 : ∀ h, View.ld x3 (Rect.unit (s := S1x512x32) ![0, 0, 0] ![1, 512, 32] h) = x3 := fun h => View.ld_unit_zero z3 h x3
  have e1 : ∀ x, View.ld x (Rect.unit (s := S2048x128) (k0_off5 i) S512x128.size (k0_off5_inb i)) = kt x (qt i).val :=
    fun x => ld_kt x _ (qt i).isLt _ (off_diag i) rfl _
  have e2 : View.ld x4 (Rect.unit (s := S1x1x1x2048) (k0_off6 i) S1x1x1x512.size (k0_off6_inb i)) = ct x4 (qt i).val :=
    ld_ct x4 _ (qt i).isLt _ (off_diag i) rfl rfl rfl _
  refine (View.canon_unit_zero z2 _ _).trans ?_
  unfold blockOf
  rw [← st_eq c i arg3 harg3 arg4 harg4 arg5 harg5 arg6 harg6 arg7 harg7 arg8 harg8 x1 x2 x4 x0 x3 (qt i).val le_rfl,
    ← e1 x1, ← e1 x2, ← e2]
  rw [e0, e3, trips1, trips2]
  rfl

open Online Pays

/-- A row of a grid point's output block, from what the block's scores are: below the diagonal tile and on it up to the row
    itself they are the base-two logarithms of the weights `w`, and the weights past the row vanish. -/
theorem blockOf_row (r : Fin 512) (d : Fin 128) (w : ℕ → ℝ) (V : ℕ → EReal) (hw : ∀ κ, 0 ≤ w κ)
    (hs : ∀ j, j < (qt i).val → ∀ x : Fin 512, ∃ s : ℝ, score i x0 x3 (kt x1 j) (ct x4 j) r x = (s : EReal) ∧ w (512 * j + x.val) = (2 : ℝ) ^ s)
    (hd : ∀ x : Fin 512, x.val ≤ r.val → ∃ s : ℝ, score i x0 x3 (kt x1 (qt i).val) (ct x4 (qt i).val) r x = (s : EReal)
      ∧ w (512 * (qt i).val + x.val) = (2 : ℝ) ^ s)
    (hd0 : ∀ x : Fin 512, r.val < x.val → w (512 * (qt i).val + x.val) = 0)
    (hV : ∀ j, j < 4 → ∀ x : Fin 512, kt x2 j (ix2 x d) = V (512 * j + x.val)) :
    blockOf i x1 x2 x4 x0 x3 (ix2 r d) = ∑ κ ∈ Finset.range (512 * (qt i).val + 512),
      V κ * ((w κ / ∑ κ' ∈ Finset.range (512 * (qt i).val + 512), w κ' : ℝ) : EReal) := by
  have hc : ∀ n, n ≤ (qt i).val → Carried w V (512 * n) ((carry i x1 x2 x4 x0 x3 n).1 (ix2 r 0))
      ((carry i x1 x2 x4 x0 x3 n).2.1 (ix2 r 0)) ((carry i x1 x2 x4 x0 x3 n).2.2 (ix2 r d)) := by
    intro n
    induction n with
    | zero =>
      intro _
      refine .inl ⟨rfl, ?_, ?_, ?_⟩
      · show k0_pay3 (F := Ideal) (ix2 r 0) = _
        pointwise [k0_pay3]
        exact ninf
      · show k0_pay4 (F := Ideal) (ix2 r 0) = _
        pointwise [k0_pay4]
      · show k0_pay5 (F := Ideal) (ix2 r d) = _
        pointwise [k0_pay5]
    | succ n ih =>
      intro hn
      have hq := (qt i).isLt
      have h := (Carried.step hw (ih (by omega)) (fun x => score i x0 x3 (kt x1 n) (ct x4 n) r x)
        (fun x => .inl (hs n (by omega) x)) ⟨0, by
          obtain ⟨s, h, _⟩ := hs n (by omega) 0
          rw [h]; exact EReal.coe_ne_bot s⟩ _ rfl (fun x => kt x2 n (ix2 x d)) (hV n (by omega))).2
      rw [show 512 * (n + 1) = 512 * n + 512 by ring]
      show Carried w V _ (k0_pay7 (F := Ideal) i x0 x3 (carry i x1 x2 x4 x0 x3 n).1 (kt x1 n) (ct x4 n) (ix2 r 0))
        (k0_pay10 (F := Ideal) i x0 x3 (carry i x1 x2 x4 x0 x3 n).1 (carry i x1 x2 x4 x0 x3 n).2.1 (kt x1 n) (ct x4 n) (ix2 r 0))
        (k0_pay11 (F := Ideal) i x0 x3 (carry i x1 x2 x4 x0 x3 n).1 (carry i x1 x2 x4 x0 x3 n).2.2 (kt x1 n) (kt x2 n) (ct x4 n) (ix2 r d))
      rw [pay10_apply, pay11_apply, pay7_apply]
      exact h
  have hq := (qt i).isLt
  have h := Carried.step hw (hc (qt i).val le_rfl) (fun x => diag i x0 x3 (kt x1 (qt i).val) (ct x4 (qt i).val) r x)
    (fun x => by
      unfold diag
      by_cases hx : x.val ≤ r.val
      · rw [if_pos hx]; exact .inl (hd x hx)
      · rw [if_neg hx]; exact .inr ⟨rfl, hd0 x (by omega)⟩) ⟨0, by
        unfold diag
        rw [if_pos (show (0 : Fin 512).val ≤ r.val from Nat.zero_le _)]
        obtain ⟨s, h, _⟩ := hd 0 (Nat.zero_le _)
        rw [h]; exact EReal.coe_ne_bot s⟩ _ rfl (fun x => kt x2 (qt i).val (ix2 x d)) (hV _ hq)
  have hpos : 0 < ∑ κ ∈ Finset.range (512 * (qt i).val + 512), w κ := by
    refine Finset.sum_pos' (fun κ _ => hw κ) ⟨512 * (qt i).val, Finset.mem_range.2 (by omega), ?_⟩
    obtain ⟨s, _, h⟩ := hd 0 (Nat.zero_le _)
    have h' : w (512 * (qt i).val) = (2 : ℝ) ^ s := h
    rw [h']
    exact Real.rpow_pos_of_pos two_pos _
  unfold blockOf
  rw [pay1_apply]
  exact h.2.quotient hw hpos h.1

end Cert.Proof.Block

end
-- ==== Proof.Spec.lean ====
module

public import proofs.«01_k».proof.Proof.Pays
public import proofs.«01_k».proof.Proof.Online

@[expose] public section

set_option maxRecDepth 16384

noncomputable section

namespace Cert.Proof.Spec

open Idealize.ShloMosaic
open Cert.KernelIdeal (S8192x4096 S4x2048x32 S4x32x1x2048)
open Cert.Proof.Pays

/-- Where row `a` and column `b` lie in a matrix of 8192 by 4096, both wrapped into it. -/
def at2 (a b : ℕ) : S8192x4096.Idx := ix2 ⟨a % 8192, Nat.mod_lt _ (by decide)⟩ ⟨b % 4096, Nat.mod_lt _ (by decide)⟩

/-- Where sequence `b`, position `q` and head `h` lie in the query-side gate. -/
def at3 (b q h : ℕ) : S4x2048x32.Idx :=
  ix3 ⟨b % 4, Nat.mod_lt _ (by decide)⟩ ⟨q % 2048, Nat.mod_lt _ (by decide)⟩ ⟨h % 32, Nat.mod_lt _ (by decide)⟩

/-- Where sequence `b`, head `h` and position `κ` lie in the key-side gate. -/
def at4 (b h κ : ℕ) : S4x32x1x2048.Idx :=
  ix4 ⟨b % 4, Nat.mod_lt _ (by decide)⟩ ⟨h % 32, Nat.mod_lt _ (by decide)⟩ 0 ⟨κ % 2048, Nat.mod_lt _ (by decide)⟩

section Spec

variable (q k : S8192x4096.Idx → ℝ) (v : S8192x4096.Idx → EReal) (g : S4x2048x32.Idx → ℝ) (gt : S4x32x1x2048.Idx → ℝ)

/-- The score of a query position `p` and a key position `κ` of sequence `b` in head `h`: the scaled product of the
    two rows plus the difference of the gates' running sums. -/
def sr (b h p κ : ℕ) : ℝ :=
  (∑ d : Fin 128, q (at2 (2048 * b + p) (128 * h + d.val)) * k (at2 (2048 * b + κ) (128 * h + d.val))) * (Real.sqrt 128)⁻¹
    + (g (at3 b p h) - gt (at4 b h κ))

/-- The weight of a key position: the exponential of its score, nothing past the query position. -/
def wt (b h p κ : ℕ) : ℝ := if κ ≤ p then Real.exp (sr q k g gt b h p κ) else 0

theorem wt_nonneg (b h p κ : ℕ) : 0 ≤ wt q k g gt b h p κ := by
  unfold wt
  split_ifs
  · exact (Real.exp_pos _).le
  · exact le_rfl

/-- The attention's result: at each row and column the average of the values over the row's sequence by the weights. -/
def attn (j : S8192x4096.Idx) : EReal :=
  ∑ κ ∈ Finset.range 2048, v (at2 (2048 * ((j 0).val / 2048) + κ) (j 1).val)
    * ((wt q k g gt ((j 0).val / 2048) ((j 1).val / 128) ((j 0).val % 2048) κ
      / ∑ κ' ∈ Finset.range 2048, wt q k g gt ((j 0).val / 2048) ((j 1).val / 128) ((j 0).val % 2048) κ' : ℝ) : EReal)

/-- Weights that vanish from `n` on: the average over the first `n` positions is that over all of them. -/
theorem average_range (w : ℕ → ℝ) (V : ℕ → EReal) (n : ℕ) (hn : n ≤ 2048) (hw : ∀ κ, n ≤ κ → w κ = 0) :
    ∑ κ ∈ Finset.range n, V κ * ((w κ / ∑ κ' ∈ Finset.range n, w κ' : ℝ) : EReal)
      = ∑ κ ∈ Finset.range 2048, V κ * ((w κ / ∑ κ' ∈ Finset.range 2048, w κ' : ℝ) : EReal) := by
  have hs : Finset.range n ⊆ Finset.range 2048 := Finset.range_subset_range.2 hn
  rw [← Finset.sum_subset hs (f := w) fun κ _ h => hw κ (by simpa using h)]
  refine Finset.sum_subset hs fun κ _ h => ?_
  rw [hw κ (by simpa using h), zero_div, EReal.coe_zero, mul_zero]

/-- One tile's base-two score is the score over the logarithm of two. -/
theorem score_two (X Y : Fin 128 → ℝ) (a b : ℝ) :
    (∑ d : Fin 128, ((X d : ℝ) : EReal) * ((Y d : ℝ) : EReal)) * ((sc2 : ℝ) : EReal) + (((a : ℝ) : EReal) * ((L : ℝ) : EReal) - ((b : ℝ) : EReal) * ((L : ℝ) : EReal))
      = ((((∑ d : Fin 128, X d * Y d) * (Real.sqrt 128)⁻¹ + (a - b)) * L : ℝ) : EReal) := by
  simp only [← EReal.coe_mul, ← Online.coe_sum, ← EReal.coe_sub, ← EReal.coe_add]
  congr 1
  unfold sc2
  show _ = _
  have : L = (Real.log 2)⁻¹ := rfl
  rw [this]
  ring

theorem exp_two (s : ℝ) : Real.exp s = (2 : ℝ) ^ (s * L) := by
  rw [Real.rpow_def_of_pos two_pos]
  congr 1
  have : Real.log 2 ≠ 0 := (Real.log_pos one_lt_two).ne'
  unfold L
  field_simp

end Spec

end Cert.Proof.Spec

end
-- ==== Proof.Final.lean ====
module

public import proofs.«01_k».proof.Proof.Block
public import proofs.«01_k».proof.Proof.Spec

@[expose] public section

set_option maxRecDepth 16384

noncomputable section

namespace Cert.Proof.Final

open Cert.KernelIdeal Cert.KernelIdeal.Gen Idealize.ShloMosaic Idealize.ShloMosaic.TcCoe Idealize.SL.Sem
open Cert.Proof.Block Cert.Proof.Pays Cert.Proof.Spec

/-- The windows' places in the arrays at every grid point. -/
theorem idx : ∀ t : Fin cfg0.N,
    win0_0.index t = ![4 * (grid0.coords t 0).val + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 2).val, 0]
    ∧ win0_4.index t = ![(grid0.coords t 0).val, (grid0.coords t 1).val, 0, 0]
    ∧ win0_5.index t = ![4 * (grid0.coords t 0).val + (grid0.coords t 2).val, (grid0.coords t 1).val] :=
  (by decide +kernel : ∀ t : Fin grid0.N, _)

/-- The coordinates of a point are below the grid's extents. -/
theorem lts (t : Fin cfg0.N) : (grid0.coords t 0).val < 4 ∧ (grid0.coords t 1).val < 32 ∧ (grid0.coords t 2).val < 4 :=
  ⟨(grid0.coords t 0).isLt, (grid0.coords t 1).isLt, (grid0.coords t 2).isLt⟩

variable (m : (ℓ : Loc nD τ sig) → Buf (Elt Ideal) ℓ) (c : Dev nD)

theorem iblk0 (t : Fin cfg0.N) (r : Fin 512) (d : Fin 128) :
    (iblk m c 0 t : S512x128.Idx → EReal) (ix2 r d) = (m ((c : Thread nD τ).loc main_arg0) : S8192x4096.Idx → EReal)
      (at2 (2048 * (grid0.coords t 0).val + (512 * (grid0.coords t 2).val + r.val)) (128 * (grid0.coords t 1).val + d.val)) := by
  have h := lts t
  unfold at2
  blk_ext [iblk, V, idx t]

theorem iblk1 (t : Fin cfg0.N) (r : Fin 2048) (d : Fin 128) :
    (iblk m c 1 t : S2048x128.Idx → EReal) (ix2 r d) = (m ((c : Thread nD τ).loc main_arg1) : S8192x4096.Idx → EReal)
      (at2 (2048 * (grid0.coords t 0).val + r.val) (128 * (grid0.coords t 1).val + d.val)) := by
  have h := lts t
  unfold at2
  blk_ext [iblk, V, idx t]

theorem iblk2 (t : Fin cfg0.N) (r : Fin 2048) (d : Fin 128) :
    (iblk m c 2 t : S2048x128.Idx → EReal) (ix2 r d) = (m ((c : Thread nD τ).loc main_arg2) : S8192x4096.Idx → EReal)
      (at2 (2048 * (grid0.coords t 0).val + r.val) (128 * (grid0.coords t 1).val + d.val)) := by
  have h := lts t
  unfold at2
  blk_ext [iblk, V, idx t]

theorem iblk3 (t : Fin cfg0.N) (r : Fin 512) (e : Fin 32) :
    (iblk m c 3 t : S1x512x32.Idx → EReal) (ix3 0 r e) = (m ((c : Thread nD τ).loc main_arg3) : S4x2048x32.Idx → EReal)
      (at3 (grid0.coords t 0).val (512 * (grid0.coords t 2).val + r.val) e.val) := by
  have h := lts t
  unfold at3
  blk_ext [iblk, V, idx t]

theorem iblk4 (t : Fin cfg0.N) (x : Fin 2048) :
    (iblk m c 4 t : S1x1x1x2048.Idx → EReal) (ix4 0 0 0 x) = (m ((c : Thread nD τ).loc main_arg4) : S4x32x1x2048.Idx → EReal)
      (at4 (grid0.coords t 0).val (grid0.coords t 1).val x.val) := by
  have h := lts t
  unfold at4
  blk_ext [iblk, V, idx t]

/-- The result array after the run: the attention of the arguments. -/
theorem arr (q k : S8192x4096.Idx → ℝ) (g : S4x2048x32.Idx → ℝ) (gt : S4x32x1x2048.Idx → ℝ)
    (hq : (m ((c : Thread nD τ).loc main_arg0) : S8192x4096.Idx → EReal) = fun j => (q j : EReal))
    (hk : (m ((c : Thread nD τ).loc main_arg1) : S8192x4096.Idx → EReal) = fun j => (k j : EReal))
    (hg : (m ((c : Thread nD τ).loc main_arg3) : S4x2048x32.Idx → EReal) = fun j => (g j : EReal))
    (hgt : (m ((c : Thread nD τ).loc main_arg4) : S4x32x1x2048.Idx → EReal) = fun j => (gt j : EReal)) :
    (dats m 0 c).arrAt 5 cfg0.N = attn q k (m ((c : Thread nD τ).loc main_arg2)) g gt := by
  refine (dats m 0 c).arrAt_eq_of_covers 5 _ ((cfg0.win 5).covers_of_indexMap_surj rfl (by decide) fun β => ?_) fun t hf y => ?_
  · have h0 : (β 0).val < 16 := (β 0).isLt
    have h1 : (β 1).val < 32 := (β 1).isLt
    refine ⟨fun a => match a with
      | ⟨0, _⟩ => (⟨(β 0).val / 4, by omega⟩ : Fin 4)
      | ⟨1, _⟩ => (⟨(β 1).val, h1⟩ : Fin 32)
      | ⟨2, _⟩ => (⟨(β 0).val % 4, by omega⟩ : Fin 4), fun a => ?_⟩
    fin_cases a
    · show (Scalar.addi (Scalar.muli (BitVec.ofNat 32 ((β 0).val / 4)) 4#32) (BitVec.ofNat 32 ((β 0).val % 4))).toNat = (β 0).val
      rw [(by decide : ∀ x : Fin 16, (Scalar.addi (Scalar.muli (BitVec.ofNat 32 (x.val / 4)) 4#32) (BitVec.ofNat 32 (x.val % 4))).toNat = x.val) ⟨(β 0).val, h0⟩]
    · show (BitVec.ofNat 32 (β 1).val).toNat = (β 1).val
      rw [(by decide : ∀ x : Fin 32, (BitVec.ofNat 32 x.val).toNat = x.val) ⟨(β 1).val, h1⟩]
  · blk_simp
    rw [after0_5]
    unfold outsAt0
    rw [out_eq]
    obtain ⟨r, d, rfl⟩ : ∃ (r : Fin 512) (d : Fin 128), y = ix2 r d := ⟨y 0, y 1, funext fun a => by fin_cases a <;> rfl⟩
    have hl := lts t
    have hr := r.isLt
    have hdd := d.isLt
    have e0 : ((((win0_5.blk t).view.emb (ix2 r d : S512x128.Idx)) 0 : Fin _) : ℕ) = 2048 * (grid0.coords t 0).val + (512 * (grid0.coords t 2).val + r.val) := by
      blk_simp [idx t]
      ring
    have e1 : ((((win0_5.blk t).view.emb (ix2 r d : S512x128.Idx)) 1 : Fin _) : ℕ) = 128 * (grid0.coords t 1).val + d.val := by
      blk_simp [idx t]
      ring
    unfold attn
    rw [e0, e1]
    generalize hB : (grid0.coords t 0).val = b at *
    generalize hH : (grid0.coords t 1).val = h at *
    generalize hI : (grid0.coords t 2).val = i at *
    rw [show (2048 * b + (512 * i + r.val)) / 2048 = b by omega, show (2048 * b + (512 * i + r.val)) % 2048 = 512 * i + r.val by omega,
      show (128 * h + d.val) / 128 = h by omega]
    have hqt : (qt (grid0.coords t)).val = i := hI
    have hhd : (hd (grid0.coords t)).val = h := hH
    have hsc : ∀ j, j < 4 → ∀ x : Fin 512, score (grid0.coords t) (iblk m c 0 t) (iblk m c 3 t) (kt (iblk m c 1 t) j) (ct (iblk m c 4 t) j) r x
        = ((sr q k g gt b h (512 * i + r.val) (512 * j + x.val) * L : ℝ) : EReal) := by
      intro j hj x
      have hx := x.isLt
      have hm : (512 * j + x.val) % 2048 = 512 * j + x.val := by omega
      unfold sr
      rw [← score_two]
      unfold score
      have a0 : ∀ e : Fin 128, (iblk m c 0 t : S512x128.Idx → EReal) (ix2 r e) = ((q (at2 (2048 * b + (512 * i + r.val)) (128 * h + e.val)) : ℝ) : EReal) := by
        intro e
        have := iblk0 m c t r e
        rw [hB, hH, hI, hq] at this
        exact this
      have a1 : ∀ e : Fin 128, (kt (iblk m c 1 t) j : S512x128.Idx → EReal) (ix2 x e) = ((k (at2 (2048 * b + (512 * j + x.val)) (128 * h + e.val)) : ℝ) : EReal) := by
        intro e
        have := iblk1 m c t ⟨(512 * j + x.val) % 2048, Nat.mod_lt _ (by decide)⟩ e
        rw [hB, hH, hk] at this
        refine this.trans ?_
        show ((k (at2 (2048 * b + (512 * j + x.val) % 2048) (128 * h + e.val)) : ℝ) : EReal) = _
        rw [hm]
      have a3 : (iblk m c 3 t : S1x512x32.Idx → EReal) (ix3 0 r (hd (grid0.coords t))) = ((g (at3 b (512 * i + r.val) h) : ℝ) : EReal) := by
        have := iblk3 m c t r (hd (grid0.coords t))
        rw [hB, hI, hhd, hg] at this
        exact this
      have a4 : (ct (iblk m c 4 t) j : S1x1x1x512.Idx → EReal) (ix4 0 0 0 x) = ((gt (at4 b h (512 * j + x.val)) : ℝ) : EReal) := by
        have := iblk4 m c t ⟨(512 * j + x.val) % 2048, Nat.mod_lt _ (by decide)⟩
        rw [hB, hH, hgt] at this
        refine this.trans ?_
        show ((gt (at4 b h ((512 * j + x.val) % 2048)) : ℝ) : EReal) = _
        rw [hm]
      rw [a3, a4]
      simp only [a0, a1]
    rw [blockOf_row _ _ _ _ _ _ r d (wt q k g gt b h (512 * i + r.val)) (fun κ => (m ((c : Thread nD τ).loc main_arg2) : S8192x4096.Idx → EReal) (at2 (2048 * b + κ) (128 * h + d.val)))
      (wt_nonneg q k g gt b h _) ?_ ?_ ?_ ?_]
    · rw [hqt]
      exact average_range _ _ _ (by omega) fun κ hκ => if_neg (by omega)
    · intro j hj x
      have hx := x.isLt
      refine ⟨_, hsc j (by omega) x, ?_⟩
      unfold wt
      rw [if_pos (by omega), exp_two]
    · intro x hx
      refine ⟨_, hsc _ (by omega) x, ?_⟩
      unfold wt
      rw [if_pos (by omega), exp_two]
    · intro x hx
      exact if_neg (by omega)
    · intro j hj x
      have hx := x.isLt
      unfold kt
      have := iblk2 m c t ⟨(512 * j + x.val) % 2048, Nat.mod_lt _ (by decide)⟩ d
      rw [hB, hH] at this
      refine this.trans ?_
      show (m ((c : Thread nD τ).loc main_arg2) : S8192x4096.Idx → EReal) (at2 (2048 * b + (512 * j + x.val) % 2048) (128 * h + d.val)) = _
      rw [Nat.mod_eq_of_lt (by omega : 512 * j + x.val < 2048)]

end Cert.Proof.Final

end
-- ==== Proof.Ref.lean ====
module

public import proofs.«01_k».proof.Proof.Spec
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read Idealize.ShloMosaic Idealize.ShloMosaic.TcCoe Idealize.SL.Sem
open Cert.Proof.Spec Cert.Proof.Online

variable (q k : S8192x4096.Idx → ℝ) (v : S8192x4096.Idx → EReal) (g : S4x2048x32.Idx → ℝ) (gt : S4x32x1x2048.Idx → ℝ)

/-- The matrix read as sequences of heads. -/
theorem heads (x : S8192x4096.Idx → EReal) (b : Fin 4) (p : Fin 2048) (h : Fin 32) (d : Fin 128) :
    val_main_v1 (F := Ideal) x (ix4 b p h d) = x (at2 (2048 * b.val + p.val) (128 * h.val + d.val)) := by
  rw [val_main_v1_apply, val_main_v0_apply]
  show x _ = x _
  congr 1
  funext a
  have hb := b.isLt
  have hp := p.isLt
  have hh := h.isLt
  have hd := d.isLt
  apply Fin.ext
  fin_cases a
  · show (((b.val * 2048 + p.val) * 32 + h.val) * 128 + d.val) / 4096 = (2048 * b.val + p.val) % 8192
    omega
  · show (((b.val * 2048 + p.val) * 32 + h.val) * 128 + d.val) % 4096 = (128 * h.val + d.val) % 4096
    omega

/-- The keys read as sequences of heads. -/
theorem heads3 (x : S8192x4096.Idx → EReal) (b : Fin 4) (p : Fin 2048) (h : Fin 32) (d : Fin 128) :
    val_main_v3 (F := Ideal) x (ix4 b p h d) = x (at2 (2048 * b.val + p.val) (128 * h.val + d.val)) := by
  rw [← heads x, val_main_v3_apply, val_main_v1_apply, val_main_v2_apply, val_main_v0_apply]

/-- The values read as sequences of heads. -/
theorem heads5 (x : S8192x4096.Idx → EReal) (b : Fin 4) (p : Fin 2048) (h : Fin 32) (d : Fin 128) :
    val_main_v5 (F := Ideal) x (ix4 b p h d) = x (at2 (2048 * b.val + p.val) (128 * h.val + d.val)) := by
  rw [← heads x, val_main_v5_apply, val_main_v1_apply, val_main_v4_apply, val_main_v0_apply]

/-- The number 128 as it is printed. -/
theorem size_val : Ideal.ofBits .f32 0x43000000#32 = ((128 : ℝ) : EReal) := by
  have h : ¬ BitVec.extractLsb' 31 1 1124073472#32 = 1#1 := by decide
  norm_num [Ideal.ofBits, Ideal.ieee, Nat.shiftRight_eq_div_pow, h]

/-- A scaled sum of products plus a difference, of reals. -/
theorem score_real (X Y : Fin 128 → ℝ) (a b : ℝ) :
    Ideal.div (∑ d : Fin 128, ((X d : ℝ) : EReal) * ((Y d : ℝ) : EReal)) (Ideal.sqrt ((128 : ℝ) : EReal)) + (((a : ℝ) : EReal) - ((b : ℝ) : EReal))
      = (((∑ d : Fin 128, X d * Y d) * (Real.sqrt 128)⁻¹ + (a - b) : ℝ) : EReal) := by
  rw [Ideal.sqrt_coe, if_neg (by norm_num), Ideal.div_coe (by positivity)]
  simp only [← EReal.coe_mul, ← Online.coe_sum, ← EReal.coe_sub, ← EReal.coe_add, one_div]

/-- The score before the mask. -/
theorem score_apply (b : Fin 4) (h : Fin 32) (p κ : Fin 2048) :
    val_main_v15 (F := Ideal) (fun j => (q j : EReal)) (fun j => (k j : EReal)) (fun j => (g j : EReal)) (fun j => (gt j : EReal)) (ix4 b h p κ)
      = ((sr q k g gt b.val h.val p.val κ.val : ℝ) : EReal) := by
  rw [val_main_v15_apply, val_main_v11_apply, val_main_v8_apply, val_main_v14_apply, val_main_v12_apply, val_main_v13_apply, val_main_v7_apply,
    val_main_v6_apply, val_main_v10_apply, val_main_v9_apply, val_main_cst_apply]
  have e0 : ∀ d : Fin 128, val_main_v1 (F := Ideal) (fun j => (q j : EReal)) (lidx_main_v8 (ix4 b h p κ) d)
      = ((q (at2 (2048 * b.val + p.val) (128 * h.val + d.val)) : ℝ) : EReal) := fun d => by
    rw [← heads (fun j => (q j : EReal)) b p h d]
    congr 1
    funext a
    fin_cases a <;> rfl
  have e1 : ∀ d : Fin 128, val_main_v3 (F := Ideal) (fun j => (k j : EReal)) (ridx_main_v8 (ix4 b h p κ) d)
      = ((k (at2 (2048 * b.val + κ.val) (128 * h.val + d.val)) : ℝ) : EReal) := fun d => by
    rw [← heads3 (fun j => (k j : EReal)) b κ h d]
    congr 1
    funext a
    fin_cases a <;> rfl
  have e3 : idx_main_v6 (idx_main_v7 (idx_main_v12 (ix4 b h p κ))) = at3 b.val p.val h.val := by
    funext a
    apply Fin.ext
    fin_cases a
    · exact (Nat.mod_eq_of_lt b.isLt).symm
    · exact (Nat.mod_eq_of_lt p.isLt).symm
    · exact (Nat.mod_eq_of_lt h.isLt).symm
  have e4 : idx_main_v13 (ix4 b h p κ) = at4 b.val h.val κ.val := by
    funext a
    apply Fin.ext
    fin_cases a
    · exact (Nat.mod_eq_of_lt b.isLt).symm
    · exact (Nat.mod_eq_of_lt h.isLt).symm
    · rfl
    · exact (Nat.mod_eq_of_lt κ.isLt).symm
  rw [e3, e4]
  simp only [e0, e1]
  show Ideal.div _ (Ideal.sqrt (Ideal.ofBits .f32 0x43000000#32)) + (_ - _) = _
  rw [size_val]
  exact score_real _ _ _ _

/-- The signed comparison of two position numbers. -/
theorem sle_pos (x r : Fin 2048) : IntOp.cmpi CmpIPredicate.sle (BitVec.ofNat 32 x.val) (BitVec.ofNat 32 r.val)
    = if x.val ≤ r.val then 1#1 else 0#1 := by
  have e : ∀ n : Fin 2048, (BitVec.ofNat 32 n.val).toInt = (n.val : ℤ) := fun n => by
    have := n.isLt
    rw [BitVec.toInt_eq_toNat_cond, BitVec.toNat_ofNat]
    omega
  by_cases h : x.val ≤ r.val <;> simp [IntOp.cmpi, BitVec.sle, e, h]

/-- The score after the mask. -/
theorem masked_apply (b : Fin 4) (h : Fin 32) (p κ : Fin 2048) :
    val_main_v22 (F := Ideal) (fun j => (q j : EReal)) (fun j => (k j : EReal)) (fun j => (g j : EReal)) (fun j => (gt j : EReal)) (ix4 b h p κ)
      = if κ.val ≤ p.val then ((sr q k g gt b.val h.val p.val κ.val : ℝ) : EReal) else ⊥ := by
  rw [val_main_v22_apply, score_apply, val_main_call0_v1_apply, val_main_call0_v2_apply, val_main_call0_v0_apply, val_main_cst_0_apply,
    val_main_v21_apply, val_main_v19_apply, val_main_v20_apply, val_main_v17_apply, val_main_v18_apply, val_main_v16_apply, val_main_v16_apply]
  show (if IntOp.cmpi .sle (BitVec.ofNat 32 κ.val) (BitVec.ofNat 32 p.val) = 1#1 then _ else Ideal.ofBits .f32 0xFF800000#32) = _
  rw [Pays.ninf, sle_pos]
  by_cases hk : κ.val ≤ p.val
  · rw [if_pos hk, if_pos rfl, if_pos hk]
  · rw [if_neg hk, if_neg (by decide), if_neg hk]

/-- A row's greatest entry, read as a fold. -/
theorem fold_row (y : S4x32x2048x2048.Idx → EReal) (z : S_.Idx → EReal) (b : Fin 4) (h : Fin 32) (p : Fin 2048) :
    Host.reduce (FloatOps.maximumf (F := Ideal) (φ := .f32)) y z reducesTo_S4x32x2048x2048_S4x32x2048_d3 h_S_ (ix3 b h p)
      = Finset.univ.fold max (z (Shape.Idx.first h_S_)) (fun x : Fin 2048 => y (ix4 b h p x)) := by
  pointwise

/-- The row's greatest score is a real number. -/
theorem top_apply (b : Fin 4) (h : Fin 32) (p : Fin 2048) : ∃ M : ℝ,
    val_main_v25 (F := Ideal) (fun j => (q j : EReal)) (fun j => (k j : EReal)) (fun j => (g j : EReal)) (fun j => (gt j : EReal)) (ix3 b h p) = (M : EReal) := by
  rw [val_main_v25_apply, val_main_v24_apply, val_main_cst_2_apply]
  unfold val_main_v23
  have e := masked_apply q k g gt b h p
  generalize val_main_v22 (F := Ideal) (fun j => (q j : EReal)) (fun j => (k j : EReal)) (fun j => (g j : EReal)) (fun j => (gt j : EReal)) = y at e ⊢
  rw [fold_row, val_main_cst_1_apply]
  show ∃ M : ℝ, max (Ideal.ofBits .f32 0xFF800000#32) (Finset.univ.fold max (Ideal.ofBits .f32 0xFF800000#32) _) = _
  rw [Pays.ninf]
  refine fold_max_real _ _ bot_ne_top (fun x => ?_) (.inr ⟨p, ?_⟩)
  · rw [e]
    split_ifs
    · exact EReal.coe_ne_top _
    · exact bot_ne_top
  · rw [e, if_pos le_rfl]
    exact EReal.coe_ne_bot _

/-- The reference's result is the attention. -/
theorem result_apply (j : S8192x4096.Idx) :
    val_main_v37 (F := Ideal) (fun j => (q j : EReal)) (fun j => (k j : EReal)) v (fun j => (g j : EReal)) (fun j => (gt j : EReal)) j
      = attn q k v g gt j := by
  obtain ⟨R, C, rfl⟩ : ∃ (R : Fin 8192) (C : Fin 4096), j = ix2 R C := ⟨j 0, j 1, funext fun a => by fin_cases a <;> rfl⟩
  have hR := R.isLt
  have hC := C.isLt
  have hb : R.val / 2048 < 4 := by omega
  have hp : R.val % 2048 < 2048 := by omega
  have hh : C.val / 128 < 32 := by omega
  have hd : C.val % 128 < 128 := by omega
  obtain ⟨M, hM⟩ := top_apply q k g gt ⟨_, hb⟩ ⟨_, hh⟩ ⟨_, hp⟩
  have e := masked_apply q k g gt ⟨_, hb⟩ ⟨_, hh⟩ ⟨_, hp⟩
  have ev := fun κ => heads5 v ⟨_, hb⟩ κ ⟨_, hh⟩ ⟨_, hd⟩
  rw [val_main_v37_apply, val_main_v36_apply, val_main_v35_apply, val_main_v34_apply]
  have i1 : ∀ κ, lidx_main_v34 (idx_main_v35 (idx_main_v36 (ix2 R C))) κ = ix4 ⟨_, hb⟩ κ ⟨_, hh⟩ ⟨_, hd⟩ := fun κ => by
    funext a
    apply Fin.ext
    fin_cases a
    · show (R.val * 4096 + C.val) / 8388608 = R.val / 2048
      omega
    · rfl
    · show (R.val * 4096 + C.val) / 128 % 32 = C.val / 128
      omega
    · show (R.val * 4096 + C.val) % 128 = C.val % 128
      omega
  have i2 : ∀ κ, ridx_main_v34 (idx_main_v35 (idx_main_v36 (ix2 R C))) κ = ix4 ⟨_, hb⟩ ⟨_, hh⟩ ⟨_, hp⟩ κ := fun κ => by
    funext a
    apply Fin.ext
    fin_cases a
    · show (R.val * 4096 + C.val) / 8388608 = R.val / 2048
      omega
    · show (R.val * 4096 + C.val) / 128 % 32 = C.val / 128
      omega
    · show (R.val * 4096 + C.val) / 4096 % 2048 = R.val % 2048
      omega
    · rfl
  have i3 : ∀ κ, idx_main_v26 (idx_main_v27 (ix4 (⟨_, hb⟩ : Fin 4) (⟨_, hh⟩ : Fin 32) (⟨_, hp⟩ : Fin 2048) κ)) = ix3 ⟨_, hb⟩ ⟨_, hh⟩ ⟨_, hp⟩ := fun κ => by
    funext a
    fin_cases a <;> rfl
  have i4 : ∀ κ κ', idx_main_v30 (idx_main_v31 (idx_main_v32 (ix4 (⟨_, hb⟩ : Fin 4) (⟨_, hh⟩ : Fin 32) (⟨_, hp⟩ : Fin 2048) κ))) κ' = ix4 ⟨_, hb⟩ ⟨_, hh⟩ ⟨_, hp⟩ κ' := fun κ κ' => by
    funext a
    fin_cases a <;> rfl
  simp only [i1, i2, val_main_v33_apply, val_main_v32_apply, val_main_v31_apply, val_main_v30_apply, i4, val_main_v29_apply, val_main_v28_apply, val_main_v27_apply, val_main_v26_apply, i3, hM, ev, val_main_cst_3_apply]
  generalize val_main_v22 (F := Ideal) (fun j => (q j : EReal)) (fun j => (k j : EReal)) (fun j => (g j : EReal)) (fun j => (gt j : EReal)) = y at e ⊢
  have key := softmax_average (wt q k g gt (R.val / 2048) (C.val / 128) (R.val % 2048)) (fun κ => v (at2 (2048 * (R.val / 2048) + κ) C.val))
    (fun κ : Fin 2048 => y (ix4 ⟨_, hb⟩ ⟨_, hh⟩ ⟨_, hp⟩ κ)) (M : EReal) ⟨M, rfl⟩ (fun κ => by
      rw [e]
      unfold wt
      by_cases hk : κ.val ≤ R.val % 2048
      · rw [if_pos hk, if_pos hk]
        exact .inl ⟨_, rfl, rfl⟩
      · rw [if_neg hk, if_neg hk]
        exact .inr ⟨rfl, rfl⟩) (Finset.sum_pos' (fun κ _ => wt_nonneg q k g gt _ _ _ κ) ⟨R.val % 2048, Finset.mem_range.2 hp, by
          unfold wt
          rw [if_pos le_rfl]
          exact Real.exp_pos _⟩)
  have ec : 128 * (C.val / 128) + C.val % 128 = C.val := Nat.div_add_mod _ _
  rw [ec]
  unfold attn
  refine Eq.trans ?_ key
  have ez : Ideal.ofBits .f32 0x00000000#32 = (0 : EReal) := Ideal.ofBits_zero_f32
  show ∑ κ : Fin 2048, _ * Ideal.div (Ideal.exp (_ - _)) (Ideal.ofBits .f32 0x00000000#32 + ∑ κ' : Fin 2048, Ideal.exp (_ - _)) = _
  rw [ez, zero_add]

end Cert.Proof.Ref

end
-- ==== Proof.Pre.lean ====
module

public import proofs.«01_k».proof.Proof.Gen.Pre_finite
public import proofs.«01_k».proof.Defs
public import Idealize.ShloMosaic.Lib.ReduceAll
public import Idealize.ShloMosaic.Lib.Pointwise

@[expose] public section

set_option maxRecDepth 16384

noncomputable section

namespace Cert.Proof.Pre

open Idealize.ShloMosaic Cert.Pre_finite

/-- An element whose absolute value is below infinity is a real number. -/
theorem real_of_abs (x : EReal) (h : Ideal.cmp .olt (max x (-x)) (Ideal.ofBits .f32 0x7F800000#32) = 1#1) : ∃ r : ℝ, x = (r : EReal) := by
  have e : Ideal.ofBits .f32 0x7F800000#32 = (⊤ : EReal) := by
    simp [Ideal.ofBits, Ideal.ieee]
  rw [e] at h
  have h' : max x (-x) < ⊤ := by
    by_contra hn
    simp [Ideal.cmp, hn] at h
  have h1 : x ≠ ⊤ := fun hx => by simp [hx] at h'
  have h2 : x ≠ ⊥ := fun hx => by simp [hx] at h'
  exact ⟨x.toReal, (EReal.coe_toReal h1 h2).symm⟩

/-- An array of real numbers. -/
theorem real_array {s : Shape} (x : s.Idx → EReal) (h : ∀ i, ∃ r : ℝ, x i = (r : EReal)) : ∃ q : s.Idx → ℝ, x = fun j => (q j : EReal) :=
  ⟨fun i => (h i).choose, funext fun i => (h i).choose_spec⟩

theorem and_one (a b : BitVec 1) (h : IntOp.andi a b = 1#1) : a = 1#1 ∧ b = 1#1 := by
  revert a b
  decide

/-- What the precondition gives: four of the arguments hold real numbers. -/
theorem reals [Cert.Pre_finite.Facts] (x0 x1 x2 : S8192x4096.Idx → EReal) (x3 : S4x2048x32.Idx → EReal) (x4 : S4x32x1x2048.Idx → EReal)
    (h : Cert.Pre_finite.fn (F := Ideal) x0 x1 x2 x3 x4 = fun _ => 1#1) :
    (∃ q : S8192x4096.Idx → ℝ, x0 = fun j => (q j : EReal)) ∧ (∃ q : S8192x4096.Idx → ℝ, x1 = fun j => (q j : EReal))
      ∧ (∃ q : S4x2048x32.Idx → ℝ, x3 = fun j => (q j : EReal)) ∧ (∃ q : S4x32x1x2048.Idx → ℝ, x4 = fun j => (q j : EReal)) := by
  have h := congrFun h ix0
  dsimp only [fn, fn_part1] at h
  obtain ⟨h, h4⟩ := and_one _ _ h
  obtain ⟨h, h3⟩ := and_one _ _ h
  obtain ⟨h0, h1⟩ := and_one _ _ h
  have k0 := Host.reduce_andi_all _ _ _ _ _ h0
  have k1 := Host.reduce_andi_all _ _ _ _ _ h1
  have k3 := Host.reduce_andi_all _ _ _ _ _ h3
  have k4 := Host.reduce_andi_all _ _ _ _ _ h4
  exact ⟨real_array x0 fun i => real_of_abs _ (k0 i), real_array x1 fun i => real_of_abs _ (k1 i), real_array x3 fun i => real_of_abs _ (k3 i), real_array x4 fun i => real_of_abs _ (k4 i)⟩

end Cert.Proof.Pre

end
-- ==== Proof.Attn.lean ====
module

public import proofs.«01_k».proof.Proof.Final
public import proofs.«01_k».proof.Proof.Ref
public import proofs.«01_k».proof.Proof.Pre
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Proof.Attn

open Idealize.ShloMosaic Idealize.SL.Sem

/-- The kernel leaves its arguments and ends with every semaphore at zero. -/
theorem frame_kernel : Cert.quiescent_Kernel (hKernel := Cert.Kernel.Gen.facts) := fun m ρ _ => Cert.Kernel.Gen.frame m ρ

/-- The same of the kernel over the extended reals. -/
theorem frame_kernelIdeal : Cert.quiescent_KernelIdeal (hKernelIdeal := Cert.KernelIdeal.Gen.facts) := fun m ρ _ => Cert.KernelIdeal.Gen.frame m ρ

/-- The same where the precondition holds. -/
theorem frame_kernelIdeal_pre : Cert.quiescent_KernelIdeal_pre_finite (hKernelIdeal := Cert.KernelIdeal.Gen.facts) (hPre_finite := Cert.Pre_finite.Gen.facts) :=
  fun m ρ _ => Cert.KernelIdeal.Gen.frame m ρ

/-- The reference leaves its arguments and ends with every semaphore at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- The same where the precondition holds. -/
theorem frame_reference_pre : Cert.quiescent_ReferenceIdeal_pre_finite (hReferenceIdeal := Cert.ReferenceIdeal.Gen.facts) (hPre_finite := Cert.Pre_finite.Gen.facts) :=
  fun m ρ _ => frame_reference m ρ trivial

/-- The two named constants are the printed ones at the bits and the real numbers at the ideal. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale2" .f32 0x3E0293EE#32 (((Real.sqrt 128)⁻¹ * (Real.log 2)⁻¹ : ℝ) : EReal) rfl⟩

/-- Over the extended reals the kernel and the reference end with equal results wherever the queries, the keys and the
    gates are finite. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre h => by
  refine ⟨fun c => (Cert.KernelIdeal.Gen.dats m 0 c).arrAt 5 Cert.KernelIdeal.cfg0.N, Cert.KernelIdeal.Value.run_blocks m ρ, ?_⟩
  refine (θ_run Cert.ReferenceIdeal.defs _ _).mono (fun r hr c => ⟨?_, (hr c).2⟩) (Cert.ReferenceIdeal.Value.run m' ρ')
  refine (hr c).1.trans ?_
  obtain ⟨⟨q, hq⟩, ⟨k, hk⟩, ⟨g, hg⟩, ⟨gt, hgt⟩⟩ := Pre.reals _ _ _ _ _ (hpre c)
  obtain ⟨h0, h1, h2, h3, h4⟩ := h c
  rw [Cert.ReferenceIdeal.Read.val_main_v37_eq, h0, h1, h2, h3, h4]
  refine Eq.trans ?_ (Final.arr m c q k g gt hq hk hg hgt).symm
  rw [hq, hk, hg, hgt]
  exact funext fun j => Ref.result_apply q k _ g gt j

end Cert.Proof.Attn

end
-- ==== Proof.Dense.lean ====
module

public import Idealize.ShloMosaic.PureOps.Ideal
public import Idealize.ShloMosaic.Lib.Pointwise
public import Mathlib.Data.EReal.Operations

@[expose] public section

noncomputable section

namespace Cert.Proof.Dense

open Idealize.ShloMosaic

/-- What is filled at the first of every `p` points and left alone at the others is, at point `n`, what run `n / p` filled it with. -/
theorem held {α : Type} (p N : ℕ) (hp : 0 < p) (f : (n : ℕ) → n < N → α) (g : ℕ → α)
    (hfill : ∀ n h, n % p = 0 → f n h = g (n / p))
    (hkeep : ∀ n (h : n + 1 < N), ¬(n + 1) % p = 0 → f (n + 1) h = f n (Nat.lt_of_succ_lt h)) :
    ∀ n h, f n h = g (n / p) := by
  intro n
  induction n with
  | zero => exact fun h => hfill 0 h (Nat.zero_mod p)
  | succ n ih =>
    intro h
    by_cases h0 : (n + 1) % p = 0
    · exact hfill _ h h0
    · rw [hkeep n h h0, ih, Nat.succ_div_of_not_dvd fun hd => h0 (Nat.mod_eq_zero_of_dvd hd)]

/-- The point before one that is not the first of its run belongs to the same run. -/
theorem pred_div (p n : ℕ) (h : ¬n % p = 0) : (n - 1) / p = n / p := by
  obtain _ | n := n
  · rfl
  · exact (Nat.succ_div_of_not_dvd fun hd => h (Nat.mod_eq_zero_of_dvd hd)).symm

/-- What is computed at every point from such a filled and kept thing is computed from what its run filled it with. -/
theorem used {α β : Type} (p N : ℕ) (hp : 0 < p) (s : (n : ℕ) → n < N → α) (o : (n : ℕ) → n < N → β) (g : ℕ → α)
    (step : (n : ℕ) → n < N → α → β)
    (hfill : ∀ n h, n % p = 0 → s n h = g (n / p) ∧ o n h = step n h (g (n / p)))
    (hkeep : ∀ n (h : n + 1 < N), ¬(n + 1) % p = 0 →
      s (n + 1) h = s n (Nat.lt_of_succ_lt h) ∧ o (n + 1) h = step (n + 1) h (s n (Nat.lt_of_succ_lt h))) :
    ∀ n h, o n h = step n h (g (n / p)) := by
  have hs := held p N hp s g (fun n h h0 => (hfill n h h0).1) fun n h h0 => (hkeep n h h0).1
  intro n h
  by_cases h0 : n % p = 0
  · exact (hfill n h h0).2
  · obtain _ | n := n
    · exact absurd (Nat.zero_mod p) h0
    · rw [(hkeep n h h0).2, hs]
      exact congrArg (fun q => step (n + 1) h (g q)) (pred_div p (n + 1) h0)

/-- Splitting a place in a square sheet into its row and its column. -/
theorem sheet (a b : ℕ) (ha : a < 4096) (hb : b < 4096) : (a * 4096 + b) / 4096 % 4096 = a ∧ (a * 4096 + b) % 4096 = b := by
  omega

/-- The rows times a matrix given by its entries. -/
def rows {R C : ℕ} (x : (⟨2, ![R, 4096]⟩ : Shape).Idx → EReal) (w : Fin 4096 → Fin C → EReal) : (⟨2, ![R, C]⟩ : Shape).Idx → EReal :=
  fun i => ∑ k : Fin 4096, x (ix2 (i 0) k) * w k (i 1)

/-- A sum of products whose factors are a row's numbers and a column's is the product's number there. -/
theorem rows_of {R C : ℕ} (x : (⟨2, ![R, 4096]⟩ : Shape).Idx → EReal) (w : Fin 4096 → Fin C → EReal) (i : (⟨2, ![R, C]⟩ : Shape).Idx)
    (a b : Fin 4096 → EReal) (ha : ∀ k, a k = x (ix2 (i 0) k)) (hb : ∀ k, b k = w k (i 1)) : ∑ k, a k * b k = rows x w i :=
  Finset.sum_congr rfl fun k _ => congrArg₂ (· * ·) (ha k) (hb k)

/-- A block of rows times a block of columns. -/
def prod {R C : ℕ} (x : (⟨2, ![R, 4096]⟩ : Shape).Idx → EReal) (w : (⟨2, ![4096, C]⟩ : Shape).Idx → EReal) : (⟨2, ![R, C]⟩ : Shape).Idx → EReal :=
  fun y => ∑ k : Fin 4096, x (ix2 (y 0) k) * w (ix2 k (y 1))

/-- A block of the product: the block's rows are rows of `x`, its columns those of the matrix. -/
theorem prod_eq_rows {R R' C C' : ℕ} (xb : (⟨2, ![R, 4096]⟩ : Shape).Idx → EReal) (wb : (⟨2, ![4096, C]⟩ : Shape).Idx → EReal)
    (x : (⟨2, ![R', 4096]⟩ : Shape).Idx → EReal) (w : Fin 4096 → Fin C' → EReal) (y : (⟨2, ![R, C]⟩ : Shape).Idx) (i : (⟨2, ![R', C']⟩ : Shape).Idx)
    (hx : ∀ k, xb (ix2 (y 0) k) = x (ix2 (i 0) k)) (hw : ∀ k, wb (ix2 k (y 1)) = w k (i 1)) : prod xb wb y = rows x w i :=
  rows_of x w i _ _ hx hw

end Cert.Proof.Dense

end
-- ==== Proof.Out.lean ====
module

public import proofs.«01_k».proof.Defs
public import proofs.«01_k».proof.Proof.Dense
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Out

open Cert.KernelOutIdeal Cert.KernelOutIdeal.Gen Idealize.ShloMosaic Idealize.ShloMosaic.TcCoe Idealize.SL.Sem
open Cert.Proof.Dense

/-- Where the windows lie at point `t`, the columns' block `t / 8` being the slower one. -/
theorem idx : ∀ t : Fin cfg0.N,
    win0_0.index t = ![t.val % 8, 0] ∧ win0_1.index t = ![0, 0, t.val / 8] ∧ win0_2.index t = ![t.val % 8, t.val / 8] :=
  (by decide +kernel : ∀ t : Fin grid0.N, _)

variable (m : (ℓ : Loc nD τ sig) → Buf (Elt Ideal) ℓ) (c : Dev nD)

/-- The weights' columns that the scratch holds while the columns' block is `n`. -/
def cols (n : ℕ) : S4096x512.Idx → EReal := fun y =>
  (m ((c : Thread nD τ).loc main_arg1) : S2x4096x4096.Idx → EReal) (ix3 0 (y 0) ⟨(512 * n + (y 1).val) % 4096, Nat.mod_lt _ (by decide)⟩)

/-- What the scratch is filled with: the block's columns. -/
theorem fill (t : Fin cfg0.N) : (k0_pay1 (F := Ideal) (iblk m c 1 t) : S4096x512.Idx → EReal) = cols m c (t.val / 8) := by
  have hN : t.val < 64 := lt_of_lt_of_eq t.isLt N_0
  funext y
  pointwise [k0_pay1, cols]
  blk_point [iblk, V, idx t]

/-- What a point computes of its rows and the scratch: their product. -/
theorem pay (x : S1024x4096.Idx → EReal) (w : S4096x512.Idx → EReal) : (k0_pay2 (F := Ideal) x w : S1024x512.Idx → EReal) = prod x w := by
  funext y
  pointwise [k0_pay2, prod]

/-- Every point leaves the product of its rows with the current columns. -/
theorem after (n : ℕ) (h : n < cfg0.N) :
    ((outsAt0 m c n h).1 : S1024x512.Idx → EReal) = prod (iblk m c 0 ⟨n, h⟩) (cols m c (n / 8)) := by
  refine used 8 cfg0.N (by decide) (fun n h => ((outsAt0 m c n h).2 : S4096x512.Idx → EReal))
    (fun n h => ((outsAt0 m c n h).1 : S1024x512.Idx → EReal)) _ (fun n h w => prod (iblk m c 0 ⟨n, h⟩) w) (fun n h h0 => ?_) (fun n h h0 => ?_) n h
  · beta_reduce
    rw [outsAt0_A m c ⟨n, h⟩ h0, ← fill m c ⟨n, h⟩, ← pay]
    dsimp only
    frame_out
    exact ⟨trivial, trivial⟩
  · beta_reduce
    rw [outsAt0_B m c ⟨n + 1, h⟩ h0, ← pay]
    dsimp only
    refine ⟨rfl, ?_⟩
    frame_out
    simp only [read_unread_whole]
    rfl

/-- The output array after the run is the product with the first layer's matrix. -/
theorem arr : ((dats m 0 c).arrAt 2 cfg0.N : S8192x4096.Idx → EReal)
    = rows (m ((c : Thread nD τ).loc main_arg0)) fun k d => (m ((c : Thread nD τ).loc main_arg1) : S2x4096x4096.Idx → EReal) (ix3 0 k d) := by
  refine (dats m 0 c).arrAt_eq_of_covers 2 _ (by decide +kernel) fun t hf y => ?_
  have hN : t.val < 64 := lt_of_lt_of_eq t.isLt N_0
  blk_simp
  rw [after0_2, after]
  refine prod_eq_rows _ _ _ _ _ _ (fun k => ?_) fun k => ?_
  · blk_point [iblk, V, idx t]
  · unfold cols
    blk_point [idx t]

/-- The reference computes the same product. -/
theorem ref (x : S8192x4096.Idx → EReal) (w : S2x4096x4096.Idx → EReal) :
    (Cert.ReferenceOutIdeal.Read.val_main_v3 (F := Ideal) x w : S8192x4096.Idx → EReal) = rows x fun k d => w (ix3 0 k d) := by
  funext i
  rw [Cert.ReferenceOutIdeal.Read.val_main_v3_apply]
  unfold rows
  refine Finset.sum_congr rfl fun k _ => ?_
  rw [Cert.ReferenceOutIdeal.Read.val_main_v0_apply, Cert.ReferenceOutIdeal.Read.val_main_v2_apply, Cert.ReferenceOutIdeal.Read.val_main_v1_apply]
  refine congrArg₂ (· * ·) (congrArg x ?_) (congrArg w ?_)
  · funext a; fin_cases a <;> rfl
  · have hs := sheet k.val (i 1).val k.isLt (i 1).isLt
    funext a
    refine Fin.ext ?_
    fin_cases a
    · rfl
    · exact hs.1
    · exact hs.2

/-- The kernel's run ends, changes no argument and leaves every counter at zero. -/
theorem frame_kernel : Cert.quiescent_KernelOut (hKernelOut := Cert.KernelOut.Gen.facts) := fun m ρ _ => Cert.KernelOut.Gen.frame m ρ

/-- The same for the kernel over the extended reals. -/
theorem frame_ideal : Cert.quiescent_KernelOutIdeal (hKernelOutIdeal := Cert.KernelOutIdeal.Gen.facts) :=
  fun m ρ _ => Cert.KernelOutIdeal.Gen.frame m ρ

/-- The same for the reference. -/
theorem frame_reference : Cert.quiescent_ReferenceOutIdeal (hReferenceOutIdeal := Cert.ReferenceOutIdeal.Gen.facts) := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run m ρ)

/-- Reading the kernel over the extended reals rewrites nothing. -/
theorem preserves : Cert.preserves_KernelOut_KernelOutIdeal := trivial

/-- The kernel and the reference compute the same array. -/
theorem algebraic : Cert.algebraic_KernelOutIdeal_ReferenceOutIdeal (hKernelOutIdeal := Cert.KernelOutIdeal.Gen.facts)
    (hReferenceOutIdeal := Cert.ReferenceOutIdeal.Gen.facts) := fun m ρ m' ρ' _ h => by
  refine ⟨fun c => (dats m 0 c).arrAt 2 cfg0.N, Cert.KernelOutIdeal.Value.run_blocks m ρ, ?_⟩
  refine (θ_run Cert.ReferenceOutIdeal.defs _ _).mono (fun r hr c => ⟨?_, (hr c).2⟩) (Cert.ReferenceOutIdeal.Value.run m' ρ')
  refine (hr c).1.trans ?_
  obtain ⟨h0, h1⟩ := h c
  rw [Cert.ReferenceOutIdeal.Read.val_main_v3_eq, h0, h1]
  exact (ref _ _).trans (arr m c).symm

end Cert.Proof.Out

end
-- ==== Proof.Q.lean ====
module

public import proofs.«01_k».proof.Defs
public import proofs.«01_k».proof.Proof.Dense
public import proofs.«01_k».proof.Proof.Out
public import proofs.«01_k».proof.Proof.Gen.KernelQ.Frame
public import proofs.«01_k».proof.Proof.Gen.KernelQIdeal.Value
public import proofs.«01_k».proof.Proof.Gen.ReferenceQIdeal.Run
public import proofs.«01_k».proof.Proof.Gen.ReferenceQIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Q

open Cert.KernelQIdeal Cert.KernelQIdeal.Gen Idealize.ShloMosaic Idealize.ShloMosaic.TcCoe Idealize.SL.Sem
open Cert.Proof.Dense

/-- Where the windows lie at point `t`, the columns' block `t / 8` being the slower one. -/
theorem idx : ∀ t : Fin cfg0.N,
    win0_0.index t = ![t.val % 8, 0] ∧ win0_1.index t = ![0, 0, t.val / 8] ∧ win0_2.index t = ![t.val % 8, t.val / 8] :=
  (by decide +kernel : ∀ t : Fin grid0.N, _)

variable (m : (ℓ : Loc nD τ sig) → Buf (Elt Ideal) ℓ) (c : Dev nD)

/-- The weights' columns that the scratch holds while the columns' block is `n`. -/
def cols (n : ℕ) : S4096x512.Idx → EReal := fun y =>
  (m ((c : Thread nD τ).loc main_arg1) : S2x4096x4096.Idx → EReal) (ix3 0 (y 0) ⟨(512 * n + (y 1).val) % 4096, Nat.mod_lt _ (by decide)⟩)

/-- What the scratch is filled with: the block's columns. -/
theorem fill (t : Fin cfg0.N) : (k0_pay1 (F := Ideal) (iblk m c 1 t) : S4096x512.Idx → EReal) = cols m c (t.val / 8) := by
  have hN : t.val < 64 := lt_of_lt_of_eq t.isLt N_0
  funext y
  pointwise [k0_pay1, cols]
  blk_point [iblk, V, idx t]

/-- The rounding to bfloat16 changes no extended real, so a point computes what one of the output projection does. -/
theorem pay (x : S1024x4096.Idx → EReal) (w : S4096x512.Idx → EReal) : (k0_pay2 (F := Ideal) x w : S1024x512.Idx → EReal) = prod x w :=
  Out.pay x w

/-- Every point leaves the product of its rows with the current columns. -/
theorem after (n : ℕ) (h : n < cfg0.N) :
    ((outsAt0 m c n h).1 : S1024x512.Idx → EReal) = prod (iblk m c 0 ⟨n, h⟩) (cols m c (n / 8)) := by
  refine used 8 cfg0.N (by decide) (fun n h => ((outsAt0 m c n h).2 : S4096x512.Idx → EReal))
    (fun n h => ((outsAt0 m c n h).1 : S1024x512.Idx → EReal)) _ (fun n h w => prod (iblk m c 0 ⟨n, h⟩) w) (fun n h h0 => ?_) (fun n h h0 => ?_) n h
  · beta_reduce
    rw [outsAt0_A m c ⟨n, h⟩ h0, ← fill m c ⟨n, h⟩, ← pay]
    dsimp only
    frame_out
    exact ⟨trivial, trivial⟩
  · beta_reduce
    rw [outsAt0_B m c ⟨n + 1, h⟩ h0, ← pay]
    dsimp only
    refine ⟨rfl, ?_⟩
    frame_out
    simp only [read_unread_whole]
    rfl

/-- The output array after the run is the product with the first layer's matrix. -/
theorem arr : ((dats m 0 c).arrAt 2 cfg0.N : S8192x4096.Idx → EReal)
    = rows (m ((c : Thread nD τ).loc main_arg0)) fun k d => (m ((c : Thread nD τ).loc main_arg1) : S2x4096x4096.Idx → EReal) (ix3 0 k d) := by
  refine (dats m 0 c).arrAt_eq_of_covers 2 _ (by decide +kernel) fun t hf y => ?_
  have hN : t.val < 64 := lt_of_lt_of_eq t.isLt N_0
  blk_simp
  rw [after0_2, after]
  refine prod_eq_rows _ _ _ _ _ _ (fun k => ?_) fun k => ?_
  · blk_point [iblk, V, idx t]
  · unfold cols
    blk_point [idx t]

/-- The reference is the output projection's, rounded, which changes no extended real. -/
theorem ref (x : S8192x4096.Idx → EReal) (w : S2x4096x4096.Idx → EReal) :
    (Cert.ReferenceQIdeal.Read.val_main_v4 (F := Ideal) x w : S8192x4096.Idx → EReal) = rows x fun k d => w (ix3 0 k d) :=
  Out.ref x w

/-- The kernel's run ends, changes no argument and leaves every counter at zero. -/
theorem frame_kernel : Cert.quiescent_KernelQ (hKernelQ := Cert.KernelQ.Gen.facts) := fun m ρ _ => Cert.KernelQ.Gen.frame m ρ

/-- The same for the kernel over the extended reals. -/
theorem frame_ideal : Cert.quiescent_KernelQIdeal (hKernelQIdeal := Cert.KernelQIdeal.Gen.facts) :=
  fun m ρ _ => Cert.KernelQIdeal.Gen.frame m ρ

/-- The same for the reference. -/
theorem frame_reference : Cert.quiescent_ReferenceQIdeal (hReferenceQIdeal := Cert.ReferenceQIdeal.Gen.facts) := fun m ρ _ =>
  (θ_run Cert.ReferenceQIdeal.defs _ _).mono (fun r h => ⟨fun c => (h c).2, Idealize.ShloMosaic.sem_eq_zero_of_no_sems (by decide) r.2⟩)
    (Cert.ReferenceQIdeal.Value.run m ρ)

/-- Reading the kernel over the extended reals rewrites nothing. -/
theorem preserves : Cert.preserves_KernelQ_KernelQIdeal := trivial

/-- The kernel and the reference compute the same array. -/
theorem algebraic : Cert.algebraic_KernelQIdeal_ReferenceQIdeal (hKernelQIdeal := Cert.KernelQIdeal.Gen.facts)
    (hReferenceQIdeal := Cert.ReferenceQIdeal.Gen.facts) := fun m ρ m' ρ' _ h => by
  refine ⟨fun c => (dats m 0 c).arrAt 2 cfg0.N, Cert.KernelQIdeal.Value.run_blocks m ρ, ?_⟩
  refine (θ_run Cert.ReferenceQIdeal.defs _ _).mono (fun r hr c => ⟨?_, (hr c).2⟩) (Cert.ReferenceQIdeal.Value.run m' ρ')
  refine (hr c).1.trans ?_
  obtain ⟨h0, h1⟩ := h c
  rw [Cert.ReferenceQIdeal.Read.val_main_v4_eq, h0, h1]
  exact (ref _ _).trans (arr m c).symm

end Cert.Proof.Q

end
-- ==== Proof.K.lean ====
module

public import proofs.«01_k».proof.Defs
public import proofs.«01_k».proof.Proof.Dense
public import proofs.«01_k».proof.Proof.Out
public import proofs.«01_k».proof.Proof.Gen.KernelK.Frame
public import proofs.«01_k».proof.Proof.Gen.KernelKIdeal.Value
public import proofs.«01_k».proof.Proof.Gen.ReferenceKIdeal.Run
public import proofs.«01_k».proof.Proof.Gen.ReferenceKIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.K

open Cert.KernelKIdeal Cert.KernelKIdeal.Gen Idealize.ShloMosaic Idealize.ShloMosaic.TcCoe Idealize.SL.Sem
open Cert.Proof.Dense

/-- Half `j` of the shared matrix's columns: the keys', then the values'. -/
def half (j : Fin 2) (w : S4096x8192.Idx → EReal) (k d : Fin 4096) : EReal := w (ix2 k ⟨4096 * j.val + d.val, by omega⟩)

/-- The columns of half `j` in block `n`. -/
def cols (j : Fin 2) (w : S4096x8192.Idx → EReal) (n : ℕ) : S4096x512.Idx → EReal := fun y =>
  half j w (y 0) ⟨(512 * n + (y 1).val) % 4096, Nat.mod_lt _ (by decide)⟩

/-- What a point computes of its rows and the scratch: their product. -/
theorem pay (x : S1024x4096.Idx → EReal) (w : S4096x512.Idx → EReal) : (k0_pay2 (F := Ideal) x w : S1024x512.Idx → EReal) = prod x w :=
  Out.pay x w

/-- Its rounding to bfloat16 changes no extended real. -/
theorem pay_half (x : S1024x4096.Idx → EReal) (w : S4096x512.Idx → EReal) : (k0_pay3 (F := Ideal) x w : S1024x512.Idx → EReal) = prod x w :=
  Out.pay x w

/-- The reference's product with the whole matrix, at a column of half `j`. -/
theorem whole (j : Fin 2) (x : S8192x4096.Idx → EReal) (w : S4096x8192.Idx → EReal) (i : S8192x4096.Idx) (i' : Cert.ReferenceKIdeal.S8192x8192.Idx)
    (h0 : (i' 0).val = (i 0).val) (h1 : (i' 1).val = 4096 * j.val + (i 1).val) :
    (Cert.ReferenceKIdeal.Read.val_main_v1 (F := Ideal) x w : Cert.ReferenceKIdeal.S8192x8192.Idx → EReal) i' = rows x (half j w) i :=
  (Cert.ReferenceKIdeal.Read.val_main_v1_apply x w i').trans (rows_of x (half j w) i _ _
    (fun k => congrArg x (funext fun a => Fin.ext (by fin_cases a; exacts [h0, rfl])))
    fun k => congrArg w (funext fun a => Fin.ext (by fin_cases a; exacts [rfl, h1])))

/-- Where the windows lie at point `t`, the columns' block `t / 8` being the slower one. -/
theorem idx : ∀ t : Fin cfg0.N,
    win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

variable (m : (ℓ : Loc nD τ sig) → Buf (Elt Ideal) ℓ) (c : Dev nD)

/-- What the scratch is filled with: the block's columns. -/
theorem fill (t : Fin cfg0.N) :
    (k0_pay1 (F := Ideal) (iblk m c 1 t) : S4096x512.Idx → EReal) = cols 0 (m ((c : Thread nD τ).loc main_arg1)) (t.val / 8) := by
  have hN : t.val < 64 := lt_of_lt_of_eq t.isLt N_0
  funext y
  pointwise [k0_pay1, cols, half]
  blk_point [iblk, V, idx t]

/-- Every point leaves the product of its rows with the current columns, twice. -/
theorem after (n : ℕ) (h : n < cfg0.N) :
    (((outsAt0 m c n h).1, (outsAt0 m c n h).2.1) : (S1024x512.Idx → EReal) × (S1024x512.Idx → EReal))
      = (prod (iblk m c 0 ⟨n, h⟩) (cols 0 (m ((c : Thread nD τ).loc main_arg1)) (n / 8)),
         prod (iblk m c 0 ⟨n, h⟩) (cols 0 (m ((c : Thread nD τ).loc main_arg1)) (n / 8))) := by
  refine used 8 cfg0.N (by decide) (fun n h => ((outsAt0 m c n h).2.2 : S4096x512.Idx → EReal))
    (fun n h => (((outsAt0 m c n h).1, (outsAt0 m c n h).2.1) : (S1024x512.Idx → EReal) × (S1024x512.Idx → EReal)))
    (cols 0 (m ((c : Thread nD τ).loc main_arg1)))
    (fun n h w => (prod (iblk m c 0 ⟨n, h⟩) w, prod (iblk m c 0 ⟨n, h⟩) w)) (fun n h h0 => ?_) (fun n h h0 => ?_) n h
  · beta_reduce
    rw [outsAt0_A m c ⟨n, h⟩ h0, ← fill m c ⟨n, h⟩]
    dsimp only
    frame_out
    exact ⟨trivial, Prod.ext (pay _ _) (pay_half _ _)⟩
  · beta_reduce
    rw [outsAt0_B m c ⟨n + 1, h⟩ h0]
    dsimp only
    refine ⟨rfl, ?_⟩
    frame_out
    simp only [read_unread_whole]
    exact Prod.ext (pay _ _) (pay_half _ _)

/-- A point's block of the product, under the window. -/
theorem block (t : Fin cfg0.N) (y : S1024x512.Idx) (i : S8192x4096.Idx) (h0 : (i 0).val = 1024 * (t.val % 8) + (y 0).val)
    (h1 : (i 1).val = 512 * (t.val / 8) + (y 1).val) :
    prod (iblk m c 0 t) (cols 0 (m ((c : Thread nD τ).loc main_arg1)) (t.val / 8)) y
      = rows (m ((c : Thread nD τ).loc main_arg0)) (half 0 (m ((c : Thread nD τ).loc main_arg1))) i := by
  refine prod_eq_rows _ _ _ _ _ _ (fun k => ?_) fun k => ?_
  · blk_point [iblk, V, idx t]
  · exact congrArg (half 0 (m ((c : Thread nD τ).loc main_arg1)) k) (Fin.ext ((Nat.mod_eq_of_lt (h1 ▸ (i 1).isLt)).trans h1.symm))

/-- The product kept in float32, after the run. -/
theorem arr2 : ((dats m 0 c).arrAt 2 cfg0.N : S8192x4096.Idx → EReal)
    = rows (m ((c : Thread nD τ).loc main_arg0)) (half 0 (m ((c : Thread nD τ).loc main_arg1))) := by
  refine (dats m 0 c).arrAt_eq_of_covers 2 _ (by decide +kernel) fun t hf y => ?_
  blk_simp
  rw [after0_2]
  refine (congrFun (congrArg Prod.fst (after m c t.val t.isLt)) y).trans (block m c t y _ ?_ ?_)
  · blk_simp [idx t]
    omega
  · blk_simp [idx t]
    omega

/-- The product kept in bfloat16, after the run. -/
theorem arr3 : ((dats m 0 c).arrAt 3 cfg0.N : S8192x4096.Idx → EReal)
    = rows (m ((c : Thread nD τ).loc main_arg0)) (half 0 (m ((c : Thread nD τ).loc main_arg1))) := by
  refine (dats m 0 c).arrAt_eq_of_covers 3 _ (by decide +kernel) fun t hf y => ?_
  blk_simp
  rw [after0_3]
  refine (congrFun (congrArg Prod.snd (after m c t.val t.isLt)) y).trans (block m c t y _ ?_ ?_)
  · blk_simp [idx t]
    omega
  · blk_simp [idx t]
    omega

/-- The reference computes the same product. -/
theorem ref (x : S8192x4096.Idx → EReal) (w : S4096x8192.Idx → EReal) :
    (Cert.ReferenceKIdeal.Read.val_main_v2 (F := Ideal) x w : S8192x4096.Idx → EReal) = rows x (half 0 w) := by
  funext i
  rw [Cert.ReferenceKIdeal.Read.val_main_v2_apply]
  exact whole 0 x w i _ rfl (Nat.zero_add _).symm

/-- The kernel's run ends, changes no argument and leaves every counter at zero. -/
theorem frame_kernel : Cert.quiescent_KernelK (hKernelK := Cert.KernelK.Gen.facts) := fun m ρ _ => Cert.KernelK.Gen.frame m ρ

/-- The same for the kernel over the extended reals. -/
theorem frame_ideal : Cert.quiescent_KernelKIdeal (hKernelKIdeal := Cert.KernelKIdeal.Gen.facts) :=
  fun m ρ _ => Cert.KernelKIdeal.Gen.frame m ρ

/-- The same for the reference. -/
theorem frame_reference : Cert.quiescent_ReferenceKIdeal (hReferenceKIdeal := Cert.ReferenceKIdeal.Gen.facts) := fun m ρ _ =>
  (θ_run Cert.ReferenceKIdeal.defs _ _).mono (fun r h => ⟨fun c => (h c).2.2, Idealize.ShloMosaic.sem_eq_zero_of_no_sems (by decide) r.2⟩)
    (Cert.ReferenceKIdeal.Value.run m ρ)

/-- Reading the kernel over the extended reals rewrites nothing. -/
theorem preserves : Cert.preserves_KernelK_KernelKIdeal := trivial

/-- The kernel and the reference compute the same array. -/
theorem algebraic : Cert.algebraic_KernelKIdeal_ReferenceKIdeal (hKernelKIdeal := Cert.KernelKIdeal.Gen.facts)
    (hReferenceKIdeal := Cert.ReferenceKIdeal.Gen.facts) := fun m ρ m' ρ' _ h => by
  refine ⟨fun c => (dats m 0 c).arrAt 2 cfg0.N, fun c => (dats m 0 c).arrAt 3 cfg0.N, Cert.KernelKIdeal.Value.run_blocks m ρ, ?_⟩
  refine (θ_run Cert.ReferenceKIdeal.defs _ _).mono (fun r hr c => ⟨?_, ?_, (hr c).2.2⟩) (Cert.ReferenceKIdeal.Value.run m' ρ')
  · refine (hr c).1.trans ?_
    obtain ⟨h0, h1⟩ := h c
    rw [Cert.ReferenceKIdeal.Read.val_main_v2_eq, h0, h1]
    exact (ref _ _).trans (arr2 m c).symm
  · refine (hr c).2.1.trans ?_
    obtain ⟨h0, h1⟩ := h c
    rw [Cert.ReferenceKIdeal.Read.val_main_v4_eq, h0, h1]
    exact (ref _ _).trans (arr3 m c).symm

end Cert.Proof.K

end
-- ==== Proof.V.lean ====
module

public import proofs.«01_k».proof.Defs
public import proofs.«01_k».proof.Proof.Dense
public import proofs.«01_k».proof.Proof.K
public import proofs.«01_k».proof.Proof.Gen.KernelV.Frame
public import proofs.«01_k».proof.Proof.Gen.KernelVIdeal.Value
public import proofs.«01_k».proof.Proof.Gen.ReferenceVIdeal.Run
public import proofs.«01_k».proof.Proof.Gen.ReferenceVIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.V

open Cert.KernelVIdeal Cert.KernelVIdeal.Gen Idealize.ShloMosaic Idealize.ShloMosaic.TcCoe Idealize.SL.Sem
open Cert.Proof.Dense
open Cert.Proof.K (half cols)

/-- Where the windows lie at point `t`; the values' columns begin at the matrix's block 8. -/
theorem idx : ∀ t : Fin cfg0.N,
    win0_0.index t = ![t.val % 8, 0] ∧ win0_1.index t = ![0, 8 + t.val / 8]
    ∧ win0_2.index t = ![t.val % 8, t.val / 8] ∧ win0_3.index t = ![t.val % 8, t.val / 8] :=
  (by decide +kernel : ∀ t : Fin grid0.N, _)

variable (m : (ℓ : Loc nD τ sig) → Buf (Elt Ideal) ℓ) (c : Dev nD)

/-- What the scratch is filled with: the block's columns of the second half. -/
theorem fill (t : Fin cfg0.N) :
    (k0_pay1 (F := Ideal) (iblk m c 1 t) : S4096x512.Idx → EReal) = cols 1 (m ((c : Thread nD τ).loc main_arg1)) (t.val / 8) := by
  have hN : t.val < 64 := lt_of_lt_of_eq t.isLt N_0
  funext y
  pointwise [k0_pay1, cols, half]
  blk_point [iblk, V, idx t]

/-- Every point leaves the product of its rows with the current columns, twice; the payloads are those of the keys. -/
theorem after (n : ℕ) (h : n < cfg0.N) :
    (((outsAt0 m c n h).1, (outsAt0 m c n h).2.1) : (S1024x512.Idx → EReal) × (S1024x512.Idx → EReal))
      = (prod (iblk m c 0 ⟨n, h⟩) (cols 1 (m ((c : Thread nD τ).loc main_arg1)) (n / 8)),
         prod (iblk m c 0 ⟨n, h⟩) (cols 1 (m ((c : Thread nD τ).loc main_arg1)) (n / 8))) := by
  refine used 8 cfg0.N (by decide) (fun n h => ((outsAt0 m c n h).2.2 : S4096x512.Idx → EReal))
    (fun n h => (((outsAt0 m c n h).1, (outsAt0 m c n h).2.1) : (S1024x512.Idx → EReal) × (S1024x512.Idx → EReal)))
    (cols 1 (m ((c : Thread nD τ).loc main_arg1)))
    (fun n h w => (prod (iblk m c 0 ⟨n, h⟩) w, prod (iblk m c 0 ⟨n, h⟩) w)) (fun n h h0 => ?_) (fun n h h0 => ?_) n h
  · beta_reduce
    rw [outsAt0_A m c ⟨n, h⟩ h0, ← fill m c ⟨n, h⟩]
    dsimp only
    frame_out
    exact ⟨trivial, Prod.ext (K.pay _ _) (K.pay_half _ _)⟩
  · beta_reduce
    rw [outsAt0_B m c ⟨n + 1, h⟩ h0]
    dsimp only
    refine ⟨rfl, ?_⟩
    frame_out
    simp only [read_unread_whole]
    exact Prod.ext (K.pay _ _) (K.pay_half _ _)

/-- A point's block of the product, under the window. -/
theorem block (t : Fin cfg0.N) (y : S1024x512.Idx) (i : S8192x4096.Idx) (h0 : (i 0).val = 1024 * (t.val % 8) + (y 0).val)
    (h1 : (i 1).val = 512 * (t.val / 8) + (y 1).val) :
    prod (iblk m c 0 t) (cols 1 (m ((c : Thread nD τ).loc main_arg1)) (t.val / 8)) y
      = rows (m ((c : Thread nD τ).loc main_arg0)) (half 1 (m ((c : Thread nD τ).loc main_arg1))) i := by
  refine prod_eq_rows _ _ _ _ _ _ (fun k => ?_) fun k => ?_
  · blk_point [iblk, V, idx t]
  · exact congrArg (half 1 (m ((c : Thread nD τ).loc main_arg1)) k) (Fin.ext ((Nat.mod_eq_of_lt (h1 ▸ (i 1).isLt)).trans h1.symm))

/-- The product kept in float32, after the run. -/
theorem arr2 : ((dats m 0 c).arrAt 2 cfg0.N : S8192x4096.Idx → EReal)
    = rows (m ((c : Thread nD τ).loc main_arg0)) (half 1 (m ((c : Thread nD τ).loc main_arg1))) := by
  refine (dats m 0 c).arrAt_eq_of_covers 2 _ (by decide +kernel) fun t hf y => ?_
  blk_simp
  rw [after0_2]
  refine (congrFun (congrArg Prod.fst (after m c t.val t.isLt)) y).trans (block m c t y _ ?_ ?_)
  · blk_simp [idx t]
    omega
  · blk_simp [idx t]
    omega

/-- The product kept in bfloat16, after the run. -/
theorem arr3 : ((dats m 0 c).arrAt 3 cfg0.N : S8192x4096.Idx → EReal)
    = rows (m ((c : Thread nD τ).loc main_arg0)) (half 1 (m ((c : Thread nD τ).loc main_arg1))) := by
  refine (dats m 0 c).arrAt_eq_of_covers 3 _ (by decide +kernel) fun t hf y => ?_
  blk_simp
  rw [after0_3]
  refine (congrFun (congrArg Prod.snd (after m c t.val t.isLt)) y).trans (block m c t y _ ?_ ?_)
  · blk_simp [idx t]
    omega
  · blk_simp [idx t]
    omega

/-- The reference computes the same product: its whole product is the keys' reference's. -/
theorem ref (x : S8192x4096.Idx → EReal) (w : S4096x8192.Idx → EReal) :
    (Cert.ReferenceVIdeal.Read.val_main_v3 (F := Ideal) x w : S8192x4096.Idx → EReal) = rows x (half 1 w) := by
  funext i
  rw [Cert.ReferenceVIdeal.Read.val_main_v3_apply]
  exact K.whole 1 x w i _ rfl rfl

/-- The kernel's run ends, changes no argument and leaves every counter at zero. -/
theorem frame_kernel : Cert.quiescent_KernelV (hKernelV := Cert.KernelV.Gen.facts) := fun m ρ _ => Cert.KernelV.Gen.frame m ρ

/-- The same for the kernel over the extended reals. -/
theorem frame_ideal : Cert.quiescent_KernelVIdeal (hKernelVIdeal := Cert.KernelVIdeal.Gen.facts) :=
  fun m ρ _ => Cert.KernelVIdeal.Gen.frame m ρ

/-- The same for the reference. -/
theorem frame_reference : Cert.quiescent_ReferenceVIdeal (hReferenceVIdeal := Cert.ReferenceVIdeal.Gen.facts) := fun m ρ _ =>
  (θ_run Cert.ReferenceVIdeal.defs _ _).mono (fun r h => ⟨fun c => (h c).2.2, Idealize.ShloMosaic.sem_eq_zero_of_no_sems (by decide) r.2⟩)
    (Cert.ReferenceVIdeal.Value.run m ρ)

/-- Reading the kernel over the extended reals rewrites nothing. -/
theorem preserves : Cert.preserves_KernelV_KernelVIdeal := trivial

/-- The kernel and the reference compute the same array. -/
theorem algebraic : Cert.algebraic_KernelVIdeal_ReferenceVIdeal (hKernelVIdeal := Cert.KernelVIdeal.Gen.facts)
    (hReferenceVIdeal := Cert.ReferenceVIdeal.Gen.facts) := fun m ρ m' ρ' _ h => by
  refine ⟨fun c => (dats m 0 c).arrAt 2 cfg0.N, fun c => (dats m 0 c).arrAt 3 cfg0.N, Cert.KernelVIdeal.Value.run_blocks m ρ, ?_⟩
  refine (θ_run Cert.ReferenceVIdeal.defs _ _).mono (fun r hr c => ⟨?_, ?_, (hr c).2.2⟩) (Cert.ReferenceVIdeal.Value.run m' ρ')
  · refine (hr c).1.trans ?_
    obtain ⟨h0, h1⟩ := h c
    rw [Cert.ReferenceVIdeal.Read.val_main_v3_eq, h0, h1]
    exact (ref _ _).trans (arr2 m c).symm
  · refine (hr c).2.1.trans ?_
    obtain ⟨h0, h1⟩ := h c
    rw [Cert.ReferenceVIdeal.Read.val_main_v4_eq, h0, h1]
    exact (ref _ _).trans (arr3 m c).symm

end Cert.Proof.V

end
-- ==== Proof.Forget.lean ====
module

public import proofs.«01_k».proof.Defs
public import proofs.«01_k».proof.Proof.Dense
public import proofs.«01_k».proof.Proof.Gen.KernelForget.Frame
public import proofs.«01_k».proof.Proof.Gen.KernelForgetIdeal.Value
public import proofs.«01_k».proof.Proof.Gen.ReferenceForgetIdeal.Run
public import proofs.«01_k».proof.Proof.Gen.ReferenceForgetIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Forget

open Cert.KernelForgetIdeal Cert.KernelForgetIdeal.Gen Idealize.ShloMosaic Idealize.ShloMosaic.TcCoe Idealize.SL.Sem
open Cert.Proof.Dense

/-- Where the windows lie at point `t`. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD)

/-- The bias as the region finds it, one row of the bias's numbers. -/
theorem bias (e : Fin 32) : (V m c main_v0 : S1x32.Idx → EReal) (ix2 0 e) = (m ((c : Thread nD τ).loc main_arg2) : S32.Idx → EReal) (ix1 e) := by
  have h : V m c main_v0 = shapeCast S1x32 (m ((c : Thread nD τ).loc main_arg2)) shapeCasts_S32_S1x32 := by
    unfold V
    after_results
    rfl
  rw [h]
  pointwise

/-- The logarithm of the logistic function. -/
def logsig (z : EReal) : EReal := -(max (-z) 0 + Ideal.log1p (Ideal.exp (-(max z (-z)))))

/-- The logarithms of the forget gates: the logistic function's of the rows' product with the weights plus the bias. -/
def gates {R : ℕ} (x : (⟨2, ![R, 4096]⟩ : Shape).Idx → EReal) (w : S4096x32.Idx → EReal) (b : S32.Idx → EReal) : (⟨2, ![R, 32]⟩ : Shape).Idx → EReal := fun i =>
  logsig (rows x (fun k d => w (ix2 k d)) i + b (ix1 (i 1)))

/-- The reference's way to the logarithm of the logistic function of `z`: with `n = -z` it takes the larger of `n` and zero plus
    `log (1 + exp (-|n|))`, unless `n - 0` differs from itself, which it never does, and negates that. -/
def stage (z u : EReal) : EReal :=
  -(if BitVec.ofBool (decide (-z - Ideal.ofBits .f32 0x00000000#32 ≠ -z - Ideal.ofBits .f32 0x00000000#32)) = 1#1 then u
    else max (-z) (Ideal.ofBits .f32 0x00000000#32)
      + Ideal.log1p (Ideal.exp (-(max (-z - Ideal.ofBits .f32 0x00000000#32) (-(-z - Ideal.ofBits .f32 0x00000000#32))))))

/-- That way leads to it. -/
theorem stage_eq (z u : EReal) : stage z u = logsig z := by
  unfold stage logsig
  rw [if_neg (by simp), Ideal.ofBits_zero_f32, sub_zero, neg_neg, max_comm (-z) z]

/-- The output array after the run. -/
theorem arr : ((dats m 0 c).arrAt 3 cfg0.N : S8192x32.Idx → EReal)
    = gates (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 8 := lt_of_lt_of_eq t.isLt N_0
  blk_simp
  rw [after0_3]
  frame_out
  pointwise [k0_pay1, gates, rows]
  simp only [Ideal.ofBits_zero_f32, zero_sub]
  refine congrArg logsig (congrArg₂ (fun a b : EReal => a + b) ?_ (Eq.trans ?_ (bias m c _)))
  · blk_point [iblk, V, idx t]
  · blk_point [iblk, idx t]

section
open Cert.ReferenceForgetIdeal.Read
variable (x : S8192x4096.Idx → EReal) (w : S4096x32.Idx → EReal) (b : S32.Idx → EReal) (i : S8192x32.Idx)

/-- The reference's argument of the logistic function. -/
theorem ref_arg : (val_main_v4 (F := Ideal) x w b i : EReal) = rows x (fun k d => w (ix2 k d)) i + b (ix1 (i 1)) := by
  rw [val_main_v4_apply, val_main_v3_apply, val_main_v2_apply]
  refine congrArg₂ (fun a b : EReal => a + b) ((val_main_v1_apply x w i).trans (rows_of x _ i _ _ (fun k => congrArg x ?_) fun k => congrArg w ?_)) (congrArg b ?_)
  · funext a; fin_cases a <;> rfl
  · funext a; fin_cases a <;> rfl
  · funext a; fin_cases a; rfl

/-- The reference takes that way. -/
theorem ref_stage : (val_main_v5 (F := Ideal) x w b i : EReal) = stage (val_main_v4 (F := Ideal) x w b i) (val_main_call0_call0_v6 (F := Ideal) x w b i) := by
  rw [val_main_v5_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_call0_v2_apply, val_main_call0_v0_apply, val_main_call0_call0_v0_apply, val_main_call0_call0_cst_apply]
  generalize val_main_call0_call0_v6 (F := Ideal) x w b i = u
  generalize val_main_v4 (F := Ideal) x w b i = z
  rfl

/-- The reference computes the same. -/
theorem ref : (val_main_v5 (F := Ideal) x w b : S8192x32.Idx → EReal) = gates x w b := by
  funext i
  rw [ref_stage, stage_eq, ref_arg]
  rfl

end

/-- The kernel's run ends, changes no argument and leaves every counter at zero. -/
theorem frame_kernel : Cert.quiescent_KernelForget (hKernelForget := Cert.KernelForget.Gen.facts) := fun m ρ _ => Cert.KernelForget.Gen.frame m ρ

/-- The same for the kernel over the extended reals. -/
theorem frame_ideal : Cert.quiescent_KernelForgetIdeal (hKernelForgetIdeal := Cert.KernelForgetIdeal.Gen.facts) :=
  fun m ρ _ => Cert.KernelForgetIdeal.Gen.frame m ρ

/-- The same for the reference. -/
theorem frame_reference : Cert.quiescent_ReferenceForgetIdeal (hReferenceForgetIdeal := Cert.ReferenceForgetIdeal.Gen.facts) := fun m ρ _ =>
  (θ_run Cert.ReferenceForgetIdeal.defs _ _).mono (fun r h => ⟨fun c => (h c).2, Idealize.ShloMosaic.sem_eq_zero_of_no_sems (by decide) r.2⟩)
    (Cert.ReferenceForgetIdeal.Value.run m ρ)

/-- Reading the kernel over the extended reals rewrites nothing. -/
theorem preserves : Cert.preserves_KernelForget_KernelForgetIdeal := trivial

/-- The kernel and the reference compute the same array. -/
theorem algebraic : Cert.algebraic_KernelForgetIdeal_ReferenceForgetIdeal (hKernelForgetIdeal := Cert.KernelForgetIdeal.Gen.facts)
    (hReferenceForgetIdeal := Cert.ReferenceForgetIdeal.Gen.facts) := fun m ρ m' ρ' _ h => by
  refine ⟨fun c => (dats m 0 c).arrAt 3 cfg0.N, Cert.KernelForgetIdeal.Value.run_blocks m ρ, ?_⟩
  refine (θ_run Cert.ReferenceForgetIdeal.defs _ _).mono (fun r hr c => ⟨?_, (hr c).2⟩) (Cert.ReferenceForgetIdeal.Value.run m' ρ')
  refine (hr c).1.trans ?_
  obtain ⟨h0, h1, h2⟩ := h c
  rw [Cert.ReferenceForgetIdeal.Read.val_main_v5_eq, h0, h1, h2]
  exact (ref _ _ _).trans (arr m c).symm

end Cert.Proof.Forget

end
-- ==== Proof.In.lean ====
module

public import proofs.«01_k».proof.Defs
public import proofs.«01_k».proof.Proof.Dense
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.In

open Cert.KernelInIdeal Cert.KernelInIdeal.Gen Idealize.ShloMosaic Idealize.ShloMosaic.TcCoe Idealize.SL.Sem
open Cert.Proof.Dense

/-- Where the windows lie at point `t`: the matrix has three parts of sixteen blocks of columns each. -/
theorem idx : ∀ t : Fin cfg0.N,
    win0_0.index t = ![t.val % 16, 0] ∧ win0_1.index t = ![0, 0, t.val / 16] ∧ win0_2.index t = ![0, 0, 16 + t.val / 16]
    ∧ win0_3.index t = ![0, 0, 32 + t.val / 16] ∧ win0_4.index t = ![t.val % 16, t.val / 16] ∧ win0_5.index t = ![t.val % 16, t.val / 16] :=
  (by decide +kernel : ∀ t : Fin grid0.N, _)

variable (m : (ℓ : Loc nD τ sig) → Buf (Elt Ideal) ℓ) (c : Dev nD)

/-- Part `j` of the first layer's matrix: the gate's, the other gate's and the stream's columns. -/
def part (j : Fin 3) (w : S2x4096x12288.Idx → EReal) (k d : Fin 4096) : EReal := w (ix3 0 k ⟨4096 * j.val + d.val, by omega⟩)

/-- The columns of part `j` that a scratch holds while the columns' block is `n`. -/
def cols (j : Fin 3) (n : ℕ) : S4096x256.Idx → EReal := fun y =>
  part j (m ((c : Thread nD τ).loc main_arg1)) (y 0) ⟨(256 * n + (y 1).val) % 4096, Nat.mod_lt _ (by decide)⟩

/-- The three scratches hold the current columns of the three parts after every point. -/
theorem carried (n : ℕ) (h : n < cfg0.N) :
    ((outsAt0 m c n h).2.2 : (S4096x256.Idx → EReal) × (S4096x256.Idx → EReal) × (S4096x256.Idx → EReal))
      = (cols m c 0 (n / 16), cols m c 1 (n / 16), cols m c 2 (n / 16)) := by
  refine Dense.held 16 cfg0.N (by decide)
    (fun n h => ((outsAt0 m c n h).2.2 : (S4096x256.Idx → EReal) × (S4096x256.Idx → EReal) × (S4096x256.Idx → EReal)))
    (fun n => (cols m c 0 n, cols m c 1 n, cols m c 2 n)) (fun n h h0 => ?_) (fun n h h0 => ?_) n h
  · have hN : n < 256 := lt_of_lt_of_eq h N_0
    generalize ht : (⟨n, h⟩ : Fin cfg0.N) = t
    obtain rfl : n = t.val := congrArg Fin.val ht
    beta_reduce
    rw [outsAt0_A m c t h0]
    dsimp only
    refine Prod.ext (funext fun y => ?_) (Prod.ext (funext fun y => ?_) (funext fun y => ?_))
    · dsimp only
      frame_out
      pointwise [k0_pay1, cols, part]
      blk_point [iblk, V, idx t]
    · dsimp only
      frame_out
      pointwise [k0_pay2, cols, part]
      blk_point [iblk, V, idx t]
    · dsimp only
      frame_out
      pointwise [k0_pay3, cols, part]
      blk_point [iblk, V, idx t]
  · beta_reduce
    rw [outsAt0_B m c ⟨n + 1, h⟩ h0]
    rfl

/-- The gate: the rows times the first part. -/
theorem arr4 : ((dats m 0 c).arrAt 4 cfg0.N : S8192x4096.Idx → EReal)
    = rows (m ((c : Thread nD τ).loc main_arg0)) (part 0 (m ((c : Thread nD τ).loc main_arg1))) := by
  refine (dats m 0 c).arrAt_eq_of_covers 4 _ (by decide +kernel) fun t hf y => ?_
  have hN : t.val < 256 := lt_of_lt_of_eq t.isLt N_0
  blk_simp
  rw [after0_4]
  by_cases h0 : t.val % 16 = 0
  · rw [outsAt0_A m c t h0]
    dsimp only
    frame_out
    pointwise [k0_pay1, k0_pay4, rows, part]
    blk_point [iblk, V, idx t]
  · have hc := carried m c (t.val - 1) (Nat.lt_of_le_of_lt (Nat.sub_le _ _) t.isLt)
    rw [outsAt0_B m c t h0]
    dsimp only
    rw [hc, pred_div 16 _ h0]
    frame_out
    simp only [read_unread_whole]
    pointwise [k0_pay4, rows, cols, part]
    blk_point [iblk, V, idx t]

/-- The other gate times the stream: the products with the second and the third part, multiplied entry by entry. -/
theorem arr5 : ((dats m 0 c).arrAt 5 cfg0.N : S8192x4096.Idx → EReal)
    = fun i => rows (m ((c : Thread nD τ).loc main_arg0)) (part 1 (m ((c : Thread nD τ).loc main_arg1))) i
      * rows (m ((c : Thread nD τ).loc main_arg0)) (part 2 (m ((c : Thread nD τ).loc main_arg1))) i := by
  refine (dats m 0 c).arrAt_eq_of_covers 5 _ (by decide +kernel) fun t hf y => ?_
  have hN : t.val < 256 := lt_of_lt_of_eq t.isLt N_0
  blk_simp
  rw [after0_5]
  by_cases h0 : t.val % 16 = 0
  · rw [outsAt0_A m c t h0]
    dsimp only
    frame_out
    pointwise [k0_pay2, k0_pay3, k0_pay5, rows, part]
    blk_point [iblk, V, idx t]
  · have hc := carried m c (t.val - 1) (Nat.lt_of_le_of_lt (Nat.sub_le _ _) t.isLt)
    rw [outsAt0_B m c t h0]
    dsimp only
    rw [hc, pred_div 16 _ h0]
    frame_out
    simp only [read_unread_whole]
    pointwise [k0_pay5, rows, cols, part]
    blk_point [iblk, V, idx t]

/-- The number of part `j` at a place of the first layer's matrix given by the flat number of its row and column. -/
theorem part_of (w : S2x4096x12288.Idx → EReal) (j : Fin 3) (k d : Fin 4096) (e : ℕ) (he : e = 4096 * j.val + d.val) (q : S2x4096x12288.Idx)
    (h0 : (q 0).val = 0) (h1 : (q 1).val = (k.val * 12288 + e) / 12288 % 4096) (h2 : (q 2).val = (k.val * 12288 + e) % 12288) :
    w q = part j w k d := by
  have hj := j.isLt
  have hk := k.isLt
  have hd := d.isLt
  refine congrArg w (funext fun a => Fin.ext ?_)
  fin_cases a
  · exact h0
  · show (q 1).val = k.val
    omega
  · show (q 2).val = 4096 * j.val + d.val
    omega

open Cert.ReferenceInIdeal.Read in
/-- The reference's product with the whole matrix, at a column of part `j`. -/
theorem ref (x : S8192x4096.Idx → EReal) (w : S2x4096x12288.Idx → EReal) (j : Fin 3) (i : S8192x4096.Idx) (i' : Cert.ReferenceInIdeal.S8192x12288.Idx)
    (h0 : (i' 0).val = (i 0).val) (h1 : (i' 1).val = 4096 * j.val + (i 1).val) :
    (val_main_v3 (F := Ideal) x w : Cert.ReferenceInIdeal.S8192x12288.Idx → EReal) i' = rows x (part j w) i :=
  (val_main_v3_apply x w i').trans (rows_of x (part j w) i _ _
    (fun k => congrArg x (funext fun a => Fin.ext (by fin_cases a; exacts [h0, rfl])))
    fun k => ((val_main_v2_apply (F := Ideal) w _).trans (val_main_v1_apply (F := Ideal) w _)).trans (part_of w j k (i 1) _ h1 _ rfl rfl rfl))

/-- The reference's first result is the first part's product. -/
theorem ref4 (x : S8192x4096.Idx → EReal) (w : S2x4096x12288.Idx → EReal) :
    (Cert.ReferenceInIdeal.Read.val_main_v4 (F := Ideal) x w : S8192x4096.Idx → EReal) = rows x (part 0 w) := by
  funext i
  rw [Cert.ReferenceInIdeal.Read.val_main_v4_apply]
  exact ref x w 0 i _ rfl (Nat.zero_add _).symm

/-- The reference's second result is the product of the other two parts' products. -/
theorem ref7 (x : S8192x4096.Idx → EReal) (w : S2x4096x12288.Idx → EReal) :
    (Cert.ReferenceInIdeal.Read.val_main_v7 (F := Ideal) x w : S8192x4096.Idx → EReal) = fun i => rows x (part 1 w) i * rows x (part 2 w) i := by
  funext i
  rw [Cert.ReferenceInIdeal.Read.val_main_v7_apply, Cert.ReferenceInIdeal.Read.val_main_v5_apply, Cert.ReferenceInIdeal.Read.val_main_v6_apply]
  exact congrArg₂ (· * ·) (ref x w 1 i _ rfl rfl) (ref x w 2 i _ rfl rfl)

/-- The kernel's run ends, changes no argument and leaves every counter at zero. -/
theorem frame_kernel : Cert.quiescent_KernelIn (hKernelIn := Cert.KernelIn.Gen.facts) := fun m ρ _ => Cert.KernelIn.Gen.frame m ρ

/-- The same for the kernel over the extended reals. -/
theorem frame_ideal : Cert.quiescent_KernelInIdeal (hKernelInIdeal := Cert.KernelInIdeal.Gen.facts) :=
  fun m ρ _ => Cert.KernelInIdeal.Gen.frame m ρ

/-- The same for the reference. -/
theorem frame_reference : Cert.quiescent_ReferenceInIdeal (hReferenceInIdeal := Cert.ReferenceInIdeal.Gen.facts) := fun m ρ _ =>
  (θ_run Cert.ReferenceInIdeal.defs _ _).mono (fun r h => ⟨fun c => (h c).2.2, Idealize.ShloMosaic.sem_eq_zero_of_no_sems (by decide) r.2⟩)
    (Cert.ReferenceInIdeal.Value.run m ρ)

/-- Reading the kernel over the extended reals rewrites nothing. -/
theorem preserves : Cert.preserves_KernelIn_KernelInIdeal := trivial

/-- The kernel and the reference compute the same array. -/
theorem algebraic : Cert.algebraic_KernelInIdeal_ReferenceInIdeal (hKernelInIdeal := Cert.KernelInIdeal.Gen.facts)
    (hReferenceInIdeal := Cert.ReferenceInIdeal.Gen.facts) := fun m ρ m' ρ' _ h => by
  refine ⟨fun c => (dats m 0 c).arrAt 4 cfg0.N, fun c => (dats m 0 c).arrAt 5 cfg0.N, Cert.KernelInIdeal.Value.run_blocks m ρ, ?_⟩
  refine (θ_run Cert.ReferenceInIdeal.defs _ _).mono (fun r hr c => ⟨?_, ?_, (hr c).2.2⟩) (Cert.ReferenceInIdeal.Value.run m' ρ')
  · refine (hr c).1.trans ?_
    obtain ⟨h0, h1⟩ := h c
    rw [Cert.ReferenceInIdeal.Read.val_main_v4_eq, h0, h1]
    exact (ref4 _ _).trans (arr4 m c).symm
  · refine (hr c).2.1.trans ?_
    obtain ⟨h0, h1⟩ := h c
    rw [Cert.ReferenceInIdeal.Read.val_main_v7_eq, h0, h1]
    exact (ref7 _ _).trans (arr5 m c).symm

end Cert.Proof.In

end
-- ==== Proof.Ple.lean ====
module

public import proofs.«01_k».proof.Defs
public import proofs.«01_k».proof.Proof.Dense
public import proofs.«01_k».proof.Proof.Gen.KernelPle.Frame
public import proofs.«01_k».proof.Proof.Gen.KernelPleIdeal.Value
public import proofs.«01_k».proof.Proof.Gen.ReferencePleIdeal.Run
public import proofs.«01_k».proof.Proof.Gen.ReferencePleIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Ple

open Cert.KernelPleIdeal Cert.KernelPleIdeal.Gen Idealize.ShloMosaic Idealize.ShloMosaic.TcCoe Idealize.SL.Sem
open Cert.Proof.Dense

/-- Where the windows lie at point `t`, the columns' block `t / 8` being the slower one. -/
theorem idx : ∀ t : Fin cfg0.N,
    win0_0.index t = ![t.val % 8, 0] ∧ win0_1.index t = ![0, 0, t.val / 8] ∧ win0_2.index t = ![t.val % 8, 0]
    ∧ win0_3.index t = ![0, 0, t.val / 8] ∧ win0_4.index t = ![t.val % 8, t.val / 8] :=
  (by decide +kernel : ∀ t : Fin grid0.N, _)

variable (m : (ℓ : Loc nD τ sig) → Buf (Elt Ideal) ℓ) (c : Dev nD)

/-- The weights' columns that the scratch holds while the columns' block is `n`. -/
def cols (n : ℕ) : S4096x512.Idx → EReal := fun y =>
  (m ((c : Thread nD τ).loc main_arg1) : S4x4096x4096.Idx → EReal) (ix3 0 (y 0) ⟨(512 * n + (y 1).val) % 4096, Nat.mod_lt _ (by decide)⟩)

/-- The scratch holds the current columns after every point: it is filled at the first row block and kept at the others. -/
theorem carried (n : ℕ) (h : n < cfg0.N) : ((outsAt0 m c n h).2 : S4096x512.Idx → EReal) = cols m c (n / 8) := by
  refine Dense.held 8 cfg0.N (by decide) (fun n h => ((outsAt0 m c n h).2 : S4096x512.Idx → EReal)) _ (fun n h h0 => ?_) (fun n h h0 => ?_) n h
  · have hN : n < 64 := lt_of_lt_of_eq h N_0
    generalize ht : (⟨n, h⟩ : Fin cfg0.N) = t
    obtain rfl : n = t.val := congrArg Fin.val ht
    beta_reduce
    rw [outsAt0_A m c t h0]
    funext y
    dsimp only
    frame_out
    pointwise [k0_pay1, cols]
    blk_point [iblk, V, idx t]
  · beta_reduce
    rw [outsAt0_B m c ⟨n + 1, h⟩ h0]
    rfl

/-- The embedding's projection times the logistic function of the gate. -/
def gated (x : S8192x4096.Idx → EReal) (w : S4x4096x4096.Idx → EReal) (p : S8192x256.Idx → EReal) (v : S4x256x4096.Idx → EReal) :
    S8192x4096.Idx → EReal := fun i =>
  (∑ k : Fin 256, p (ix2 (i 0) k) * v (ix3 0 k (i 1))) * Ideal.div 1 (1 + Ideal.exp (-(rows x (fun k d => w (ix3 0 k d)) i)))

/-- The word of the number one. -/
theorem one_word : Ideal.ofBits .f32 0x3F800000#32 = 1 := by
  have h : ¬ BitVec.extractLsb' 31 1 (0x3F800000#32 : BitVec 32) = 1#1 := by decide
  norm_num [Ideal.ofBits, Ideal.ieee, Nat.shiftRight_eq_div_pow, h]

/-- The output array after the run. -/
theorem arr : ((dats m 0 c).arrAt 4 cfg0.N : S8192x4096.Idx → EReal)
    = gated (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hN : t.val < 64 := lt_of_lt_of_eq t.isLt N_0
  blk_simp
  rw [after0_4]
  by_cases h0 : t.val % 8 = 0
  · rw [outsAt0_A m c t h0]
    dsimp only
    frame_out
    pointwise [k0_pay1, k0_pay2, gated, rows]
    simp only [one_word, Ideal.ofBits_zero_f32, zero_sub]
    blk_point [iblk, V, idx t]
  · have hc := carried m c (t.val - 1) (Nat.lt_of_le_of_lt (Nat.sub_le _ _) t.isLt)
    rw [outsAt0_B m c t h0]
    dsimp only
    rw [hc, pred_div 8 _ h0]
    frame_out
    simp only [read_unread_whole]
    pointwise [k0_pay2, gated, rows, cols]
    simp only [one_word, Ideal.ofBits_zero_f32, zero_sub]
    blk_point [iblk, V, idx t]

open Cert.ReferencePleIdeal.Read in
/-- The reference computes the same. -/
theorem ref (x : S8192x4096.Idx → EReal) (w : S4x4096x4096.Idx → EReal) (p : S8192x256.Idx → EReal) (v : S4x256x4096.Idx → EReal) :
    (val_main_v13 (F := Ideal) x w p v : S8192x4096.Idx → EReal) = gated x w p v := by
  funext i
  have e6 : (val_main_v6 (F := Ideal) x w i : EReal) = rows x (fun k d => w (ix3 0 k d)) i := by
    refine (val_main_v6_apply x w i).trans ?_
    unfold rows
    refine Finset.sum_congr rfl fun k _ => ?_
    rw [val_main_v3_apply, val_main_v5_apply, val_main_v4_apply]
    refine congrArg₂ (· * ·) (congrArg x ?_) (congrArg w ?_)
    · funext a; fin_cases a <;> rfl
    · have hs := sheet k.val (i 1).val k.isLt (i 1).isLt
      funext a
      refine Fin.ext ?_
      fin_cases a
      · rfl
      · exact hs.1
      · exact hs.2
  have e2 : (val_main_v2 (F := Ideal) p v i : EReal) = ∑ k : Fin 256, p (ix2 (i 0) k) * v (ix3 0 k (i 1)) := by
    refine (val_main_v2_apply p v i).trans ?_
    refine Finset.sum_congr rfl fun k _ => ?_
    rw [val_main_v1_apply, val_main_v0_apply]
    refine congrArg₂ (· * ·) (congrArg p ?_) (congrArg v ?_)
    · funext a; fin_cases a <;> rfl
    · have hk := k.isLt
      have hi : (i 1).val < 4096 := (i 1).isLt
      funext a
      refine Fin.ext ?_
      fin_cases a
      · rfl
      · show (k.val * 4096 + (i 1).val) / 4096 % 256 = k.val
        omega
      · show (k.val * 4096 + (i 1).val) % 4096 = (i 1).val
        omega
  rw [val_main_v13_apply, val_main_v12_apply, val_main_v11_apply, val_main_cst_0_apply, val_main_v10_apply, val_main_v9_apply, val_main_cst_apply,
    val_main_v8_apply, val_main_v7_apply]
  show (val_main_v2 (F := Ideal) p v i : EReal) * Ideal.div (Ideal.ofBits .f32 0x3F800000#32) (Ideal.ofBits .f32 0x3F800000#32 + Ideal.exp (-(val_main_v6 (F := Ideal) x w i))) = _
  rw [e6, e2, one_word]
  rfl

/-- The kernel's run ends, changes no argument and leaves every counter at zero. -/
theorem frame_kernel : Cert.quiescent_KernelPle (hKernelPle := Cert.KernelPle.Gen.facts) := fun m ρ _ => Cert.KernelPle.Gen.frame m ρ

/-- The same for the kernel over the extended reals. -/
theorem frame_ideal : Cert.quiescent_KernelPleIdeal (hKernelPleIdeal := Cert.KernelPleIdeal.Gen.facts) :=
  fun m ρ _ => Cert.KernelPleIdeal.Gen.frame m ρ

/-- The same for the reference. -/
theorem frame_reference : Cert.quiescent_ReferencePleIdeal (hReferencePleIdeal := Cert.ReferencePleIdeal.Gen.facts) := fun m ρ _ =>
  (θ_run Cert.ReferencePleIdeal.defs _ _).mono (fun r h => ⟨fun c => (h c).2, Idealize.ShloMosaic.sem_eq_zero_of_no_sems (by decide) r.2⟩)
    (Cert.ReferencePleIdeal.Value.run m ρ)

/-- Reading the kernel over the extended reals rewrites nothing. -/
theorem preserves : Cert.preserves_KernelPle_KernelPleIdeal := trivial

/-- The kernel and the reference compute the same array. -/
theorem algebraic : Cert.algebraic_KernelPleIdeal_ReferencePleIdeal (hKernelPleIdeal := Cert.KernelPleIdeal.Gen.facts)
    (hReferencePleIdeal := Cert.ReferencePleIdeal.Gen.facts) := fun m ρ m' ρ' _ h => by
  refine ⟨fun c => (dats m 0 c).arrAt 4 cfg0.N, Cert.KernelPleIdeal.Value.run_blocks m ρ, ?_⟩
  refine (θ_run Cert.ReferencePleIdeal.defs _ _).mono (fun r hr c => ⟨?_, (hr c).2⟩) (Cert.ReferencePleIdeal.Value.run m' ρ')
  refine (hr c).1.trans ?_
  obtain ⟨h0, h1, h2, h3⟩ := h c
  rw [Cert.ReferencePleIdeal.Read.val_main_v13_eq, h0, h1, h2, h3]
  exact (ref _ _ _ _).trans (arr m c).symm

end Cert.Proof.Ple

end
-- ==== Proof.Ln.lean ====
module

public import proofs.«01_k».proof.Defs
public import proofs.«01_k».proof.Proof.Gen.KernelLn.Frame
public import proofs.«01_k».proof.Proof.Gen.KernelLnIdeal.Value
public import proofs.«01_k».proof.Proof.Gen.ReferenceLnIdeal.Run
public import proofs.«01_k».proof.Proof.Gen.ReferenceLnIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Ln

open Cert.KernelLnIdeal Cert.KernelLnIdeal.Gen Idealize.ShloMosaic Idealize.ShloMosaic.TcCoe Idealize.SL.Sem

/-- The residual's factor, the width and the variance's offset, as both programs print them. -/
def alpha : EReal := Ideal.ofBits .f32 0x3FD744FD#32
def width : EReal := Ideal.ofBits .f32 0x45800000#32
def eps : EReal := Ideal.ofBits .f32 0x3727C5AC#32

/-- A row without its mean. -/
def centred (s : Fin 4096 → EReal) (d : Fin 4096) : EReal := s d - Ideal.div (∑ k, s k) width

/-- One over the square root of the row's variance and the offset. -/
def spread (s : Fin 4096 → EReal) : EReal := Ideal.rsqrt (Ideal.div (∑ k, centred s k * centred s k) width + eps)

/-- The norm of a row with its gains and biases. -/
def norm (s g b : Fin 4096 → EReal) (d : Fin 4096) : EReal := centred s d * spread s * g d + b d

/-- A row of the scaled stream and what the layer adds to it. -/
def row {R : ℕ} (x mix : (⟨2, ![R, 4096]⟩ : Shape).Idx → EReal) (r : Fin R) (k : Fin 4096) : EReal := alpha * x (ix2 r k) + mix (ix2 r k)

/-- The result: every row's norm with the last layer's last gains and biases. -/
def result {R : ℕ} (x mix : (⟨2, ![R, 4096]⟩ : Shape).Idx → EReal) (g b : S4x3x4096.Idx → EReal) : (⟨2, ![R, 4096]⟩ : Shape).Idx → EReal := fun i =>
  norm (row x mix (i 0)) (fun d => g (ix3 3 2 d)) (fun d => b (ix3 3 2 d)) (i 1)

/-- A row's norm from blocks of the arguments is the result where the blocks lie. -/
theorem result_of {R R' : ℕ} (xb mb : (⟨2, ![R, 4096]⟩ : Shape).Idx → EReal) (gb bb : (⟨4, ![1, 1, 1, 4096]⟩ : Shape).Idx → EReal)
    (x mix : (⟨2, ![R', 4096]⟩ : Shape).Idx → EReal) (g b : S4x3x4096.Idx → EReal) (r : Fin R) (d : Fin 4096) (i : (⟨2, ![R', 4096]⟩ : Shape).Idx)
    (hd : (i 1).val = d.val) (hx : ∀ k, xb (ix2 r k) = x (ix2 (i 0) k)) (hm : ∀ k, mb (ix2 r k) = mix (ix2 (i 0) k))
    (hg : ∀ k, gb (ix4 0 0 0 k) = g (ix3 3 2 k)) (hb : ∀ k, bb (ix4 0 0 0 k) = b (ix3 3 2 k)) :
    norm (row xb mb r) (fun k => gb (ix4 0 0 0 k)) (fun k => bb (ix4 0 0 0 k)) d = result x mix g b i := by
  have e0 : row xb mb r = row x mix (i 0) := funext fun k => congrArg₂ (fun a b : EReal => alpha * a + b) (hx k) (hm k)
  have e1 : i 1 = d := Fin.ext hd
  unfold result
  rw [e0, funext hg, funext hb, e1]

/-- The result from the stages that lead to it: the row, its sum, the row without its mean, its sum of squares, and the scale. -/
theorem result_of_stages {R : ℕ} (x mix : (⟨2, ![R, 4096]⟩ : Shape).Idx → EReal) (g b : S4x3x4096.Idx → EReal)
    (s ctr spr gain bias out : (⟨2, ![R, 4096]⟩ : Shape).Idx → EReal) (sum squares : (⟨1, ![R]⟩ : Shape).Idx → EReal)
    (hs : ∀ r d, s (ix2 r d) = row x mix r d)
    (hsum : ∀ r, sum (ix1 r) = Ideal.ofBits .f32 0x00000000#32 + ∑ k, s (ix2 r k))
    (hctr : ∀ r d, ctr (ix2 r d) = s (ix2 r d) - Ideal.div (sum (ix1 r)) width)
    (hsquares : ∀ r, squares (ix1 r) = Ideal.ofBits .f32 0x00000000#32 + ∑ k, ctr (ix2 r k) * ctr (ix2 r k))
    (hspr : ∀ r d, spr (ix2 r d) = Ideal.rsqrt (Ideal.div (squares (ix1 r)) width + eps))
    (hgain : ∀ r d, gain (ix2 r d) = g (ix3 3 2 d)) (hbias : ∀ r d, bias (ix2 r d) = b (ix3 3 2 d))
    (hout : ∀ i, out i = ctr i * spr i * gain i + bias i) : out = result x mix g b := by
  have h1 : ∀ r d, ctr (ix2 r d) = centred (row x mix r) d := fun r d => by
    rw [hctr, hsum, hs, Ideal.ofBits_zero_f32, zero_add, Finset.sum_congr rfl fun k _ => hs r k]
    rfl
  have h2 : ∀ r d, spr (ix2 r d) = spread (row x mix r) := fun r d => by
    rw [hspr, hsquares, Ideal.ofBits_zero_f32, zero_add, Finset.sum_congr rfl fun k _ => congrArg₂ (· * ·) (h1 r k) (h1 r k)]
    rfl
  funext i
  obtain ⟨r, d, rfl⟩ : ∃ (r : Fin R) (d : Fin 4096), i = ix2 r d := ⟨i 0, i 1, funext fun a => by fin_cases a <;> rfl⟩
  rw [hout, h1, h2, hgain, hbias]
  rfl

/-- The gains or biases with an axis of one inserted are the same numbers. -/
theorem inserted (g : S4x3x4096.Idx → EReal) (h : S4x3x4096.ShapeCasts S4x3x1x4096) (l : Fin 4) (w : Fin 3) (d : Fin 4096) :
    (shapeCast S4x3x1x4096 g h : S4x3x1x4096.Idx → EReal) (ix4 l w 0 d) = g (ix3 l w d) := by
  refine shapeCast_apply _ _ (ix4 l w 0 d) (ix3 l w d) ?_
  rw [Shape.rowMajor_val_three, Shape.rowMajor_val_four]
  show (l.val * 3 + w.val) * 4096 + d.val = ((l.val * 3 + w.val) * 1 + 0) * 4096 + d.val
  omega

/-- A place in the gains whose first two numbers are the last layer's and the last norm's. -/
theorem last (q : S4x3x4096.Idx) (d : Fin 4096) (h0 : (q 0).val = 3) (h1 : (q 1).val = 2) (h2 : (q 2).val = d.val) : q = ix3 3 2 d :=
  funext fun a => Fin.ext (by fin_cases a; exacts [h0, h1, h2])

/-- Where the windows lie at point `t`. -/
theorem idx : ∀ t : Fin cfg0.N,
    win0_0.index t = ![t.val, 0] ∧ win0_1.index t = ![t.val, 0] ∧ win0_2.index t = ![3, 2, 0, 0] ∧ win0_3.index t = ![3, 2, 0, 0]
    ∧ win0_4.index t = ![t.val, 0] ∧ win0_5.index t = ![t.val, 0] :=
  (by decide +kernel : ∀ t : Fin grid0.N, _)

/-- What a point computes of its rows. -/
theorem pay (x mix : S256x4096.Idx → EReal) (g b : S1x1x1x4096.Idx → EReal) (r : Fin 256) (d : Fin 4096) :
    (k0_pay1 (F := Ideal) x mix g b (ix2 r d) : EReal) = norm (row x mix r) (fun d => g (ix4 0 0 0 d)) (fun d => b (ix4 0 0 0 d)) d := by
  pointwise [k0_pay1, norm, row, centred, spread, alpha, width, eps]

variable (m : (ℓ : Loc nD τ sig) → Buf (Elt Ideal) ℓ) (c : Dev nD)

/-- The gains as the region finds them, the argument's numbers. -/
theorem gains (l : Fin 4) (w : Fin 3) (d : Fin 4096) :
    (V m c main_v0 : S4x3x1x4096.Idx → EReal) (ix4 l w 0 d) = (m ((c : Thread nD τ).loc main_arg2) : S4x3x4096.Idx → EReal) (ix3 l w d) := by
  have h : V m c main_v0 = shapeCast S4x3x1x4096 (m ((c : Thread nD τ).loc main_arg2)) shapeCasts_S4x3x4096_S4x3x1x4096 := by
    unfold V
    after_results
    rfl
  rw [h]
  exact inserted _ _ l w d

/-- The biases likewise. -/
theorem biases (l : Fin 4) (w : Fin 3) (d : Fin 4096) :
    (V m c main_v1 : S4x3x1x4096.Idx → EReal) (ix4 l w 0 d) = (m ((c : Thread nD τ).loc main_arg3) : S4x3x4096.Idx → EReal) (ix3 l w d) := by
  have h : V m c main_v1 = shapeCast S4x3x1x4096 (m ((c : Thread nD τ).loc main_arg3)) shapeCasts_S4x3x4096_S4x3x1x4096 := by
    unfold V
    after_results
    rfl
  rw [h]
  exact inserted _ _ l w d

/-- A point's result is the result's rows under its window. -/
theorem point (t : Fin cfg0.N) (r : Fin 256) (d : Fin 4096) (i : S8192x4096.Idx) (h0 : (i 0).val = 256 * t.val + r.val) (h1 : (i 1).val = d.val) :
    (k0_pay1 (F := Ideal) (iblk m c 0 t) (iblk m c 1 t) (iblk m c 2 t) (iblk m c 3 t) (ix2 r d) : EReal)
      = result (m ((c : Thread nD τ).loc main_arg0)) (m ((c : Thread nD τ).loc main_arg1)) (m ((c : Thread nD τ).loc main_arg2))
        (m ((c : Thread nD τ).loc main_arg3)) i := by
  have hN : t.val < 32 := lt_of_lt_of_eq t.isLt N_0
  rw [pay]
  refine result_of _ _ _ _ _ _ _ _ r d i h1 (fun k => ?_) (fun k => ?_) (fun k => ?_) fun k => ?_
  · blk_point [iblk, V, idx t]
  · blk_point [iblk, V, idx t]
  · refine Eq.trans ?_ (gains m c 3 2 k)
    blk_point [iblk, idx t]
  · refine Eq.trans ?_ (biases m c 3 2 k)
    blk_point [iblk, idx t]

/-- The first output array after the run. -/
theorem arr4 : ((dats m 0 c).arrAt 4 cfg0.N : S8192x4096.Idx → EReal)
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hN : t.val < 32 := lt_of_lt_of_eq t.isLt N_0
  blk_simp
  rw [after0_4]
  frame_out
  obtain ⟨r, d, rfl⟩ : ∃ (r : Fin 256) (d : Fin 4096), y = ix2 r d := ⟨y 0, y 1, funext fun a => by fin_cases a <;> rfl⟩
  refine point m c t r d _ ?_ ?_
  · blk_simp [idx t]
    omega
  · blk_simp [idx t]

/-- The second, the same numbers. -/
theorem arr5 : ((dats m 0 c).arrAt 5 cfg0.N : S8192x4096.Idx → EReal)
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have hN : t.val < 32 := lt_of_lt_of_eq t.isLt N_0
  blk_simp
  rw [after0_5]
  frame_out
  obtain ⟨r, d, rfl⟩ : ∃ (r : Fin 256) (d : Fin 4096), y = ix2 r d := ⟨y 0, y 1, funext fun a => by fin_cases a <;> rfl⟩
  refine point m c t r d _ ?_ ?_
  · blk_simp [idx t]
    omega
  · blk_simp [idx t]

section
open Cert.ReferenceLnIdeal.Read
variable (x mix : S8192x4096.Idx → EReal) (g b : S4x3x4096.Idx → EReal) (r : Fin 8192) (d : Fin 4096)

/-- The reference's rows. -/
theorem ref_row : (val_main_v2 (F := Ideal) x mix (ix2 r d) : EReal) = row x mix r d := by
  rw [val_main_v2_apply, val_main_v1_apply, val_main_v0_apply, val_main_cst_apply]
  rfl

/-- The reference's gains. -/
theorem ref_gain : (val_main_v22 (F := Ideal) g (ix2 r d) : EReal) = g (ix3 3 2 d) := by
  rw [val_main_v22_apply, val_main_v21_apply, val_main_v20_apply, val_main_v19_apply]
  exact congrArg g (last _ d rfl rfl (Nat.mod_eq_of_lt d.isLt))

/-- The reference's biases. -/
theorem ref_bias : (val_main_v27 (F := Ideal) b (ix2 r d) : EReal) = b (ix3 3 2 d) := by
  rw [val_main_v27_apply, val_main_v26_apply, val_main_v25_apply, val_main_v24_apply]
  exact congrArg b (last _ d rfl rfl (Nat.mod_eq_of_lt d.isLt))

/-- The reference computes the same, stage by stage. -/
theorem ref : (val_main_v28 (F := Ideal) x mix g b : S8192x4096.Idx → EReal) = result x mix g b := by
  refine result_of_stages x mix g b (val_main_v2 (F := Ideal) x mix) (val_main_v8 (F := Ideal) x mix) (val_main_v17 (F := Ideal) x mix)
    (val_main_v22 (F := Ideal) g) (val_main_v27 (F := Ideal) b) _ (val_main_v3 (F := Ideal) x mix) (val_main_v10 (F := Ideal) x mix)
    (ref_row x mix) (fun r => ?_) (fun r d => ?_) (fun r => ?_) (fun r d => ?_) (ref_gain g) (ref_bias b) fun i => ?_
  · refine (val_main_v3_apply x mix (ix1 r)).trans (congrArg (_ + ·) (Finset.sum_congr rfl fun k _ => congrArg _ ?_))
    funext a; fin_cases a <;> rfl
  · have e : idx_main_v4 (idx_main_v7 (ix2 r d)) = ix1 r := by
      funext a; fin_cases a; rfl
    rw [val_main_v8_apply, val_main_v7_apply, val_main_v6_apply, val_main_v5_apply, val_main_cst_1_apply, val_main_v4_apply, e]
    rfl
  · refine (val_main_v10_apply x mix (ix1 r)).trans (congrArg (_ + ·) (Finset.sum_congr rfl fun k _ => ?_))
    rw [val_main_v9_apply]
    refine congrArg (fun i => (val_main_v8 (F := Ideal) x mix i : EReal) * val_main_v8 (F := Ideal) x mix i) ?_
    funext a; fin_cases a <;> rfl
  · have e : idx_main_v11 (idx_main_v17 (ix2 r d)) = ix1 r := by
      funext a; fin_cases a; rfl
    rw [val_main_v17_apply, val_main_v16_apply, val_main_v15_apply, val_main_v14_apply, val_main_cst_4_apply, val_main_v13_apply, val_main_v12_apply,
      val_main_cst_3_apply, val_main_v11_apply, e]
    rfl
  · rw [val_main_v28_apply, val_main_v23_apply, val_main_v18_apply]
    rfl

/-- The rounding to bfloat16 changes no extended real. -/
theorem ref_half : (val_main_v29 (F := Ideal) x mix g b : S8192x4096.Idx → EReal) = result x mix g b := by
  funext i
  rw [val_main_v29_apply, ref]
  rfl

end

/-- The kernel's run ends, changes no argument and leaves every counter at zero. -/
theorem frame_kernel : Cert.quiescent_KernelLn (hKernelLn := Cert.KernelLn.Gen.facts) := fun m ρ _ => Cert.KernelLn.Gen.frame m ρ

/-- The same for the kernel over the extended reals. -/
theorem frame_ideal : Cert.quiescent_KernelLnIdeal (hKernelLnIdeal := Cert.KernelLnIdeal.Gen.facts) :=
  fun m ρ _ => Cert.KernelLnIdeal.Gen.frame m ρ

/-- The same for the reference. -/
theorem frame_reference : Cert.quiescent_ReferenceLnIdeal (hReferenceLnIdeal := Cert.ReferenceLnIdeal.Gen.facts) := fun m ρ _ =>
  (θ_run Cert.ReferenceLnIdeal.defs _ _).mono (fun r h => ⟨fun c => (h c).2.2, Idealize.ShloMosaic.sem_eq_zero_of_no_sems (by decide) r.2⟩)
    (Cert.ReferenceLnIdeal.Value.run m ρ)

/-- Reading the kernel over the extended reals rewrites nothing. -/
theorem preserves : Cert.preserves_KernelLn_KernelLnIdeal := trivial

/-- The kernel and the reference compute the same arrays. -/
theorem algebraic : Cert.algebraic_KernelLnIdeal_ReferenceLnIdeal (hKernelLnIdeal := Cert.KernelLnIdeal.Gen.facts)
    (hReferenceLnIdeal := Cert.ReferenceLnIdeal.Gen.facts) := fun m ρ m' ρ' _ h => by
  refine ⟨fun c => (dats m 0 c).arrAt 4 cfg0.N, fun c => (dats m 0 c).arrAt 5 cfg0.N, Cert.KernelLnIdeal.Value.run_blocks m ρ, ?_⟩
  refine (θ_run Cert.ReferenceLnIdeal.defs _ _).mono (fun r hr c => ⟨?_, ?_, (hr c).2.2⟩) (Cert.ReferenceLnIdeal.Value.run m' ρ')
  · refine (hr c).1.trans ?_
    obtain ⟨h0, h1, h2, h3⟩ := h c
    rw [Cert.ReferenceLnIdeal.Read.val_main_v28_eq, h0, h1, h2, h3]
    exact (ref _ _ _ _).trans (arr4 m c).symm
  · refine (hr c).2.1.trans ?_
    obtain ⟨h0, h1, h2, h3⟩ := h c
    rw [Cert.ReferenceLnIdeal.Read.val_main_v29_eq, h0, h1, h2, h3]
    exact (ref_half _ _ _ _).trans (arr5 m c).symm

end Cert.Proof.Ln

end
-- ==== Proof.Heads.lean ====
module

public import proofs.«01_k».proof.Defs
public import proofs.«01_k».proof.Proof.Gen.KernelHeads.Frame
public import proofs.«01_k».proof.Proof.Gen.KernelHeadsIdeal.Value
public import proofs.«01_k».proof.Proof.Gen.ReferenceHeadsIdeal.Run
public import proofs.«01_k».proof.Proof.Gen.ReferenceHeadsIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Heads

open Cert.KernelHeadsIdeal Cert.KernelHeadsIdeal.Gen Idealize.ShloMosaic Idealize.ShloMosaic.TcCoe Idealize.SL.Sem

/-- Where the windows lie at point `t`. -/
theorem idx : ∀ t : Fin cfg0.N, win0_0.index t = ![t.val, 0] ∧ win0_1.index t = ![t.val, 0, 0] :=
  (by decide +kernel : ∀ t : Fin grid0.N, _)

/-- Rows of 4096 numbers cut into 32 heads of 128. -/
def heads {R : ℕ} (x : (⟨2, ![R, 4096]⟩ : Shape).Idx → EReal) : (⟨3, ![R, 32, 128]⟩ : Shape).Idx → EReal := fun i =>
  x (ix2 (i 0) ⟨(128 * (i 1).val + (i 2).val) % 4096, Nat.mod_lt _ (by decide)⟩)

/-- One store of `R` rows: the columns from `k`, head `h`'s, laid out as that head. -/
theorem piece {R : ℕ} (x : Vec Ideal ⟨2, ![R, 4096]⟩ .f32) (h k : ℕ) (hk : k = 128 * h)
    (i1 : ∀ a, ![0, h, 0] a + ![R, 1, 128] a ≤ (⟨3, ![R, 32, 128]⟩ : Shape).size a)
    (i2 : ∀ a, ![0, k] a + ![R, 128] a ≤ (⟨2, ![R, 4096]⟩ : Shape).size a)
    (hc : Shape.ShapeCasts (⟨2, ![R, 128]⟩ : Shape) ⟨3, ![R, 1, 128]⟩) (y : (⟨3, ![R, 1, 128]⟩ : Shape).Idx) :
    (shapeCast ⟨3, ![R, 1, 128]⟩ (View.ld x (Rect.unit (s := ⟨2, ![R, 4096]⟩) ![0, k] ![R, 128] i2)) hc : (⟨3, ![R, 1, 128]⟩ : Shape).Idx → EReal) y
      = heads x ((Rect.unit (s := ⟨3, ![R, 32, 128]⟩) ![0, h, 0] ![R, 1, 128] i1).emb y) := by
  subst hk
  have hh : h + 1 ≤ 32 := i1 1
  have h1 : (y 1).val < 1 := (y 1).isLt
  have h2 : (y 2).val < 128 := (y 2).isLt
  refine (shapeCast_apply _ _ y (ix2 (y 0) (y 2)) ?_).trans ?_
  · rw [Shape.rowMajor_val_two, Shape.rowMajor_val_three]
    show (y 0).val * 128 + (y 2).val = ((y 0).val * 1 + (y 1).val) * 128 + (y 2).val
    omega
  · show x _ = x _
    refine congrArg x (funext fun a => Fin.ext ?_)
    fin_cases a
    · rfl
    · show 128 * h + 1 * (y 2).val = (128 * (h + 1 * (y 1).val) + (0 + 1 * (y 2).val)) % 4096
      omega

/-- Where a number by heads stood: its number in the row-major order, by rows of 4096. -/
theorem flat {R : ℕ} (x : (⟨2, ![R, 4096]⟩ : Shape).Idx → EReal) (i : (⟨3, ![R, 32, 128]⟩ : Shape).Idx) (j : (⟨2, ![R, 4096]⟩ : Shape).Idx)
    (h0 : (j 0).val = (((i 0).val * 32 + (i 1).val) * 128 + (i 2).val) / 4096)
    (h1 : (j 1).val = (((i 0).val * 32 + (i 1).val) * 128 + (i 2).val) % 4096) : x j = heads x i := by
  have e1 : (i 1).val < 32 := (i 1).isLt
  have e2 : (i 2).val < 128 := (i 2).isLt
  refine congrArg x (funext fun a => Fin.ext ?_)
  fin_cases a
  · show (j 0).val = (i 0).val
    omega
  · show (j 1).val = (128 * (i 1).val + (i 2).val) % 4096
    omega

/-- What a point leaves: its rows cut into heads. -/
theorem out_eq (x : Vec Ideal S256x4096 .f32) (y : S256x32x128.Idx) : (out0_1 x y : EReal) = heads x y := by
  unfold out0_1
  refine View.canon_apply_of_pieces (Val := Elt Ideal) (e := .f32) (heads x : S256x32x128.Idx → EReal) _ ?_ y (cover0_1 _ _ _ _ _ _ _ _ _ _ _ _ _ _ _ _ _ _ _ _ _ _ _ _ _ _ _ _ _ _ _ _ y)
  iterate 32
    refine List.forall_mem_cons.2 ⟨fun z => piece x _ _ ?_ ?_ ?_ shapeCasts_S256x128_S256x1x128 z, ?_⟩
    · rfl
    · decide
    · decide
  exact fun pc h => absurd h List.not_mem_nil

variable (m : (ℓ : Loc nD τ sig) → Buf (Elt Ideal) ℓ) (c : Dev nD)

/-- The output array after the run. -/
theorem arr : ((dats m 0 c).arrAt 1 cfg0.N : S8192x32x128.Idx → EReal) = heads (m ((c : Thread nD τ).loc main_arg0)) := by
  refine (dats m 0 c).arrAt_eq_of_covers 1 _ (by decide +kernel) fun t hf y => ?_
  have hN : t.val < 32 := lt_of_lt_of_eq t.isLt N_0
  blk_simp
  rw [after0_1]
  refine (out_eq _ _).trans ?_
  unfold heads
  blk_point [iblk, V, idx t]

/-- The reference computes the same. -/
theorem ref (x : S8192x4096.Idx → EReal) : (Cert.ReferenceHeadsIdeal.Read.val_main_v0 (F := Ideal) x : S8192x32x128.Idx → EReal) = heads x := by
  funext i
  rw [Cert.ReferenceHeadsIdeal.Read.val_main_v0_apply]
  exact flat x i _ rfl rfl

/-- The kernel's run ends, changes no argument and leaves every counter at zero. -/
theorem frame_kernel : Cert.quiescent_KernelHeads (hKernelHeads := Cert.KernelHeads.Gen.facts) := fun m ρ _ => Cert.KernelHeads.Gen.frame m ρ

/-- The same for the kernel over the extended reals. -/
theorem frame_ideal : Cert.quiescent_KernelHeadsIdeal (hKernelHeadsIdeal := Cert.KernelHeadsIdeal.Gen.facts) :=
  fun m ρ _ => Cert.KernelHeadsIdeal.Gen.frame m ρ

/-- The same for the reference. -/
theorem frame_reference : Cert.quiescent_ReferenceHeadsIdeal (hReferenceHeadsIdeal := Cert.ReferenceHeadsIdeal.Gen.facts) := fun m ρ _ =>
  (θ_run Cert.ReferenceHeadsIdeal.defs _ _).mono (fun r h => ⟨fun c => (h c).2, Idealize.ShloMosaic.sem_eq_zero_of_no_sems (by decide) r.2⟩)
    (Cert.ReferenceHeadsIdeal.Value.run m ρ)

/-- Reading the kernel over the extended reals rewrites nothing. -/
theorem preserves : Cert.preserves_KernelHeads_KernelHeadsIdeal := trivial

/-- The kernel and the reference compute the same array. -/
theorem algebraic : Cert.algebraic_KernelHeadsIdeal_ReferenceHeadsIdeal (hKernelHeadsIdeal := Cert.KernelHeadsIdeal.Gen.facts)
    (hReferenceHeadsIdeal := Cert.ReferenceHeadsIdeal.Gen.facts) := fun m ρ m' ρ' _ h => by
  refine ⟨fun c => (dats m 0 c).arrAt 1 cfg0.N, Cert.KernelHeadsIdeal.Value.run_blocks m ρ, ?_⟩
  refine (θ_run Cert.ReferenceHeadsIdeal.defs _ _).mono (fun r hr c => ⟨?_, (hr c).2⟩) (Cert.ReferenceHeadsIdeal.Value.run m' ρ')
  refine (hr c).1.trans ?_
  have h0 := h c
  rw [Cert.ReferenceHeadsIdeal.Read.val_main_v0_eq, h0]
  exact (ref _).trans (arr m c).symm

end Cert.Proof.Heads

end
-- ==== Proof.Conv.lean ====
module

public import proofs.«01_k».proof.Defs
public import proofs.«01_k».proof.Proof.Gen.KernelConv.Frame
public import proofs.«01_k».proof.Proof.Gen.KernelConvIdeal.Value
public import proofs.«01_k».proof.Proof.Gen.ReferenceConvIdeal.Run
public import proofs.«01_k».proof.Proof.Gen.ReferenceConvIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.Conv

open Cert.KernelConvIdeal Cert.KernelConvIdeal.Gen Idealize.ShloMosaic Idealize.ShloMosaic.TcCoe Idealize.SL.Sem

/-- Where the windows lie at point `t`. -/
theorem idx : ∀ t : Fin cfg0.N,
    win0_0.index t = ![t.val, 0, 0] ∧ win0_1.index t = ![t.val, 0, 0] ∧ win0_2.index t = ![t.val, 0, 0] ∧ win0_3.index t = ![0, 0, 0]
    ∧ win0_4.index t = ![t.val, 0, 0] :=
  (by decide +kernel : ∀ t : Fin grid0.N, _)

variable (m : (ℓ : Loc nD τ sig) → Buf (Elt Ideal) ℓ) (c : Dev nD)

/-- The bit of a block that starts a sequence: its number is a multiple of 8. -/
def firsts : IVec S32 1 :=
  let d : IVec S_ 32 := select (cmpi .eq (id (constantI S_ 32 8#32)) (constantI S_ 32 0#32)) (constantI S_ 32 1#32) (id (constantI S_ 32 8#32))
  let r : IVec S32 32 := Host.remsi (iotaInDim S32 32 0) (broadcastInDim S32 ![] bcast_S_S32 d)
  let z : IVec S32 32 := broadcastInDim S32 ![] bcast_S_S32 (constantI S_ 32 0#32)
  cmpi .eq (select (andi (cmpi .ne (cmpi .slt r z) (broadcastInDim S32 ![] bcast_S_S32 (cmpi .slt d (constantI S_ 32 0#32)))) (cmpi .ne r z))
    (addi r (broadcastInDim S32 ![] bcast_S_S32 d)) r) z

theorem firsts_eq : ∀ k : Fin 32, firsts (ix1 k) = if k.val % 8 = 0 then 1 else 0 := by decide +kernel

/-- The two rows before each block as the region finds them: zeros where a sequence starts, the last two of the block before elsewhere. -/
theorem halo_eq : V m c main_v13
    = select (broadcastInDim S32x2x4096 ![0, 1, 2] bcast_S32x1x1_S32x2x4096_0_1_2 (broadcastInDim S32x1x1 ![0] bcast_S32_S32x1x1_0 firsts))
      (shapeCast S32x2x4096 (broadcastInDim S4x8x2x4096 ![0, 2, 3] bcast_S4x2x4096_S4x8x2x4096_0_2_3 (broadcastInDim S4x2x4096 ![] bcast_S_S4x2x4096 (constant (F := Ideal) S_ .f32 0#32)))
        shapeCasts_S4x8x2x4096_S32x2x4096)
      (concatenate S32x2x4096 0 [⟨S1x2x4096, broadcastInDim S1x2x4096 ![] bcast_S_S1x2x4096 (constant (F := Ideal) S_ .f32 0#32)⟩,
        ⟨S31x2x4096, extractStridedSlice S31x2x4096 ![0, 0, 0] (extractStridedSlice S32x2x4096 ![0, 254, 0]
          (shapeCast S32x256x4096 (m ((c : Thread nD τ).loc main_arg1)) shapeCasts_S8192x4096_S32x256x4096) slices_S32x256x4096_S32x2x4096_0_254_0)
          slices_S32x2x4096_S31x2x4096_0_0_0⟩] concatenates_S1x2x4096_S31x2x4096_S32x2x4096_d0) := by
  unfold V
  simp only [hostOps0, hostOps0_1, hostOps0_2, hostOps0_3, hostOps0_4, List.flatten_cons, List.flatten_nil, List.append_nil, List.cons_append, List.nil_append]
  after_results
  rfl

/-- The number `k` rows before row `r` of its sequence, zero before the sequence starts. -/
def back (u : S8192x4096.Idx → EReal) (r k : ℕ) (d : Fin 4096) : EReal :=
  if r % 2048 < k then 0 else u (ix2 ⟨(r - k) % 8192, Nat.mod_lt _ (by decide)⟩ d)

/-- The gate as the region finds it, its rows by block. -/
theorem gate_eq : V m c main_v14 = shapeCast S32x256x4096 (m ((c : Thread nD τ).loc main_arg0)) shapeCasts_S8192x4096_S32x256x4096 := by
  unfold V
  simp only [hostOps0, hostOps0_1, hostOps0_2, hostOps0_3, hostOps0_4, List.flatten_cons, List.flatten_nil, List.append_nil, List.cons_append, List.nil_append]
  after_results
  rfl

/-- The rows as the region finds them, by block. -/
theorem rows_eq : V m c main_v1 = shapeCast S32x256x4096 (m ((c : Thread nD τ).loc main_arg1)) shapeCasts_S8192x4096_S32x256x4096 := by
  unfold V
  simp only [hostOps0, hostOps0_1, hostOps0_2, hostOps0_3, hostOps0_4, List.flatten_cons, List.flatten_nil, List.append_nil, List.cons_append, List.nil_append]
  after_results
  rfl

/-- Rows laid out by block. -/
theorem cut (x : S8192x4096.Idx → EReal) (i : S32x256x4096.Idx) : shapeCast S32x256x4096 x shapeCasts_S8192x4096_S32x256x4096 i
    = x (ix2 ⟨(256 * (i 0).val + (i 1).val) % 8192, Nat.mod_lt _ (by decide)⟩ (i 2)) := by
  have h0 : (i 0).val < 32 := (i 0).isLt
  have h1 : (i 1).val < 256 := (i 1).isLt
  refine shapeCast_apply _ _ i _ ?_
  rw [Shape.rowMajor_val_two, Shape.rowMajor_val_three]
  show (256 * (i 0).val + (i 1).val) % 8192 * 4096 + (i 2).val = ((i 0).val * 256 + (i 1).val) * 4096 + (i 2).val
  omega

theorem iblk0 (t : Fin cfg0.N) (r : Fin 256) (d : Fin 4096) : (iblk m c 0 t : S1x256x4096.Idx → EReal) (ix3 0 r d)
    = (m ((c : Thread nD τ).loc main_arg0) : S8192x4096.Idx → EReal) (ix2 ⟨(256 * t.val + r.val) % 8192, Nat.mod_lt _ (by decide)⟩ d) := by
  have h : (iblk m c 0 t : S1x256x4096.Idx → EReal) (ix3 0 r d) = (V m c main_v14 : S32x256x4096.Idx → EReal) (ix3 ⟨t.val, lt_of_lt_of_eq t.isLt N_0⟩ r d) := by
    blk_ext [iblk, idx t]
  rw [h, gate_eq]
  exact cut _ _

theorem iblk1 (t : Fin cfg0.N) (r : Fin 256) (d : Fin 4096) : (iblk m c 1 t : S1x256x4096.Idx → EReal) (ix3 0 r d)
    = (m ((c : Thread nD τ).loc main_arg1) : S8192x4096.Idx → EReal) (ix2 ⟨(256 * t.val + r.val) % 8192, Nat.mod_lt _ (by decide)⟩ d) := by
  have h : (iblk m c 1 t : S1x256x4096.Idx → EReal) (ix3 0 r d) = (V m c main_v1 : S32x256x4096.Idx → EReal) (ix3 ⟨t.val, lt_of_lt_of_eq t.isLt N_0⟩ r d) := by
    blk_ext [iblk, idx t]
  rw [h, rows_eq]
  exact cut _ _

theorem iblk2 (t : Fin cfg0.N) (r : Fin 2) (d : Fin 4096) : (iblk m c 2 t : S1x2x4096.Idx → EReal) (ix3 0 r d)
    = (V m c main_v13 : S32x2x4096.Idx → EReal) (ix3 ⟨t.val, lt_of_lt_of_eq t.isLt N_0⟩ r d) := by
  blk_ext [iblk, idx t]

theorem iblk3 (t : Fin cfg0.N) (r : Fin 3) (d : Fin 4096) : (iblk m c 3 t : S1x3x4096.Idx → EReal) (ix3 0 r d)
    = (m ((c : Thread nD τ).loc main_arg2) : S2x3x4096.Idx → EReal) (ix3 0 r d) := by
  have h : (iblk m c 3 t : S1x3x4096.Idx → EReal) (ix3 0 r d) = (V m c main_arg2 : S2x3x4096.Idx → EReal) (ix3 0 r d) := by
    blk_ext [iblk, idx t]
  rw [h, V_main_arg2]

theorem halo (i : S32x2x4096.Idx) : (V m c main_v13 : S32x2x4096.Idx → EReal) i
    = back (m ((c : Thread nD τ).loc main_arg1)) (256 * (i 0).val + (i 1).val) 2 (i 2) := by
  have h0 : (i 0).val < 32 := (i 0).isLt
  have h1 : (i 1).val < 2 := (i 1).isLt
  rw [halo_eq, ValueIdx.select_apply]
  have hm : broadcastInDim S32x2x4096 ![0, 1, 2] bcast_S32x1x1_S32x2x4096_0_1_2 (broadcastInDim S32x1x1 ![0] bcast_S32_S32x1x1_0 firsts) i = firsts (ix1 (i 0)) := by
    pointwise
  rw [hm, show firsts (ix1 (i 0)) = _ from firsts_eq (i 0)]
  unfold back Scalar.select
  by_cases h8 : (i 0).val % 8 = 0
  · rw [if_pos h8, if_pos rfl, if_pos (by omega)]
    exact Ideal.ofBits_zero_f32
  · rw [if_neg h8, if_neg (by decide), if_neg (by omega)]
    refine (concatenate_pair_apply_right (s₁ := S1x2x4096) (s₂ := S31x2x4096) _ _ _ _ i rfl rfl (ix3 ⟨(i 0).val - 1, by omega⟩ (i 1) (i 2) : S31x2x4096.Idx) (fun b hb => ?_) ?_).trans ?_
    · fin_cases b
      · exact absurd rfl hb
      · rfl
      · rfl
    · show (i 0).val - 1 + 1 = (i 0).val
      omega
    · refine (extractStridedSlice_apply _ _ _ _ (ix3 ⟨(i 0).val - 1, by omega⟩ (i 1) (i 2) : S32x2x4096.Idx) (fun a => by fin_cases a <;> exact (Nat.zero_add _).symm)).trans ?_
      refine (extractStridedSlice_apply _ _ _ _ (ix3 ⟨(i 0).val - 1, by omega⟩ ⟨254 + (i 1).val, by omega⟩ (i 2) : S32x256x4096.Idx) (fun a => ?_)).trans ?_
      · fin_cases a
        · exact (Nat.zero_add _).symm
        · rfl
        · exact (Nat.zero_add _).symm
      refine (cut _ (ix3 ⟨(i 0).val - 1, by omega⟩ ⟨254 + (i 1).val, by omega⟩ (i 2))).trans ?_
      refine congrArg _ (congrArg (fun n => ix2 n (i 2)) (Fin.ext ?_))
      show (256 * ((i 0).val - 1) + (254 + (i 1).val)) % 8192 = (256 * (i 0).val + (i 1).val - 2) % 8192
      omega

/-- The scratch array: the two rows before the block, then the block. -/
theorem scratch (u : Vec Ideal S1x256x4096 .f32) (h : Vec Ideal S1x2x4096 .f32) (i1 : ∀ a, ![8, 0] a + S256x4096.size a ≤ S264x4096.size a)
    (i2 : ∀ a, ![6, 0] a + S2x4096.size a ≤ S264x4096.size a) (r : Fin 264) (d : Fin 4096) (hr : 6 ≤ r.val) :
    (View.canon (Val := Elt Ideal) (e := .f32) [⟨Rect.unit (s := S264x4096) ![8, 0] S256x4096.size i1, k0_pay3 u⟩,
      ⟨Rect.unit (s := S264x4096) ![6, 0] S2x4096.size i2, k0_pay2 h⟩] (ix2 r d) : EReal)
      = if 8 ≤ r.val then u (ix3 0 ⟨(r.val - 8) % 256, Nat.mod_lt _ (by decide)⟩ d) else h (ix3 0 ⟨(r.val - 6) % 2, Nat.mod_lt _ (by decide)⟩ d) := by
  have hl := r.isLt
  split
  · rename_i h8
    rw [show (ix2 r d : S264x4096.Idx) = (Rect.unit (s := S264x4096) ![8, 0] S256x4096.size i1).emb (ix2 ⟨(r.val - 8) % 256, Nat.mod_lt _ (by decide)⟩ d) from
      funext fun a => Fin.ext (by fin_cases a <;> simp <;> omega), View.canon_cons_emb]
    pointwise [k0_pay3]
  · rename_i h8
    rw [View.canon_cons_of_not_mem _ _ (by rw [Rect.mem_set_unit]; intro hm; have := (hm 0).1; simp at this; omega),
      show (ix2 r d : S264x4096.Idx) = (Rect.unit (s := S264x4096) ![6, 0] S2x4096.size i2).emb (ix2 ⟨(r.val - 6) % 2, Nat.mod_lt _ (by decide)⟩ d) from
      funext fun a => Fin.ext (by fin_cases a <;> simp <;> omega), View.canon_cons_emb]
    pointwise [k0_pay2]

/-- The row `k` before row `r` of block `t`, read in the scratch array. -/
theorem read (t : Fin cfg0.N) (r : Fin 256) (d : Fin 4096) (k : ℕ) (hk : k ≤ 2) (i0 : ∀ a, ![8 - k, 0] a + S256x4096.size a ≤ S264x4096.size a)
    (i1 : ∀ a, ![8, 0] a + S256x4096.size a ≤ S264x4096.size a) (i2 : ∀ a, ![6, 0] a + S2x4096.size a ≤ S264x4096.size a) :
    (View.canon (Val := Elt Ideal) (e := .f32) [⟨Rect.unit (s := S264x4096) ![8, 0] S256x4096.size i1, k0_pay3 (iblk m c 1 t)⟩,
      ⟨Rect.unit (s := S264x4096) ![6, 0] S2x4096.size i2, k0_pay2 (iblk m c 2 t)⟩] ((Rect.unit (s := S264x4096) ![8 - k, 0] S256x4096.size i0).toLoadRect.idx (ix2 r d)) : EReal)
      = back (m ((c : Thread nD τ).loc main_arg1)) (256 * t.val + r.val) k d := by
  have hN : t.val < 32 := lt_of_lt_of_eq t.isLt N_0
  have hr := r.isLt
  rw [show (Rect.unit (s := S264x4096) ![8 - k, 0] S256x4096.size i0).toLoadRect.idx (ix2 r d) = (ix2 ⟨8 - k + r.val, by omega⟩ d : S264x4096.Idx) from
    funext fun a => Fin.ext (by fin_cases a <;> simp), scratch _ _ _ _ _ _ (by simp; omega)]
  unfold back
  by_cases h : k ≤ r.val
  · rw [if_pos (by simp; omega), iblk1, if_neg (by omega)]
    refine congrArg _ (congrArg (fun n => ix2 n d) (Fin.ext ?_))
    simp
    omega
  · rw [if_neg (by simp; omega), iblk2, halo]
    unfold back
    simp only [ix3_0, ix3_1, ix3_2]
    by_cases h8 : (256 * t.val + (8 - k + r.val - 6) % 2) % 2048 < 2
    · exact (if_pos h8).trans (if_pos (by omega)).symm
    · refine (if_neg h8).trans (Eq.trans ?_ (if_neg (by omega)).symm)
      refine congrArg _ (congrArg (fun n => ix2 n d) (Fin.ext ?_))
      simp
      omega

/-- A row's products with the three weights of its column, the gate's number times their sum. -/
theorem pay (w : Vec Ideal S1x3x4096 .f32) (x y z : Vec Ideal S256x4096 .f32) (b : Vec Ideal S1x256x4096 .f32) (i : S1x256x4096.Idx) :
    (k0_pay1 (k0_pay4 w x y z b) i : EReal) = b i * (w (ix3 0 0 (i 2)) * x (ix2 (i 1) (i 2)) + w (ix3 0 1 (i 2)) * y (ix2 (i 1) (i 2)) + w (ix3 0 2 (i 2)) * z (ix2 (i 1) (i 2))) := by
  pointwise [k0_pay1, k0_pay4]

/-- One number of the short convolution: the gate times the sum of its own and the two earlier rows' products with the column's weights. -/
def line (b u : S8192x4096.Idx → EReal) (w : S2x3x4096.Idx → EReal) (r : ℕ) (d : Fin 4096) : EReal :=
  b (ix2 ⟨r % 8192, Nat.mod_lt _ (by decide)⟩ d) * (w (ix3 0 0 d) * back u r 2 d + w (ix3 0 1 d) * back u r 1 d + w (ix3 0 2 d) * back u r 0 d)

/-- The short convolution, its rows by block. -/
def conv (b u : S8192x4096.Idx → EReal) (w : S2x3x4096.Idx → EReal) : S32x256x4096.Idx → EReal := fun i =>
  line b u w (256 * (i 0).val + (i 1).val) (i 2)

/-- The output array after the run. -/
theorem arr : ((dats m 0 c).arrAt 4 cfg0.N : S32x256x4096.Idx → EReal)
    = conv (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 32 := lt_of_lt_of_eq t.isLt N_0
  blk_simp
  rw [after0_4]
  unfold outsAt0
  frame_out
  simp only [View.readCov_eq_canon']
  refine (pay _ _ _ _ _ y).trans ?_
  have y0 : (y 0).val < 1 := (y 0).isLt
  have y1 : (y 1).val < 256 := (y 1).isLt
  have e : ((View.whole main_v15).slice (win0_4.rect t)).emb y = (ix3 ⟨t.val, hN⟩ (y 1) (y 2) : S32x256x4096.Idx) := by
    blk_ext [idx t]
  rw [e]
  rw [show y = (ix3 0 (y 1) (y 2) : S1x256x4096.Idx) from funext fun a => Fin.ext (by fin_cases a <;> first | exact Nat.lt_one_iff.1 y0 | rfl)]
  unfold conv line
  show _ * (_ * _ + _ * _ + _ * _) = _ * (_ * _ + _ * _ + _ * _)
  exact congrArg₂ (· * ·) (iblk0 m c t _ _) (congrArg₂ (· + ·) (congrArg₂ (· + ·) (congrArg₂ (· * ·) (iblk3 m c t 0 _) (read m c t _ _ 2 (by decide) _ _ _))
    (congrArg₂ (· * ·) (iblk3 m c t 1 _) (read m c t _ _ 1 (by decide) _ _ _))) (congrArg₂ (· * ·) (iblk3 m c t 2 _) (read m c t _ _ 0 (by decide) _ _ _)))

open Cert.ReferenceConvIdeal.Read in
/-- The rows with two rows of zeros before each sequence, read `k` rows back. -/
theorem pad (u : S8192x4096.Idx → EReal) (k : ℕ) (hk : k ≤ 2) (j : Cert.ReferenceConvIdeal.S4x2048x4096.Idx) (p : Cert.ReferenceConvIdeal.S4x2050x4096.Idx) (p0 : (p 0).val = (j 0).val)
    (p1 : (p 1).val = 2 - k + (j 1).val) (p2 : (p 2).val = (j 2).val) :
    (val_main_v4 (F := Ideal) u p : EReal) = back u (2048 * (j 0).val + (j 1).val) k (j 2) := by
  have h0 : (j 0).val < 4 := (j 0).isLt
  have h1 : (j 1).val < 2048 := (j 1).isLt
  have h2 : (j 2).val < 4096 := (j 2).isLt
  unfold val_main_v4 back
  by_cases h : (j 1).val < k
  · refine (concatenate_pair_apply_left (s₁ := S4x2x4096) (s₂ := Cert.ReferenceConvIdeal.S4x2048x4096) _ _ _ _ p rfl (ix3 (j 0) ⟨2 - k + (j 1).val, by omega⟩ (j 2)) (fun b => ?_)).trans ?_
    · fin_cases b
      · exact p0.symm
      · exact p1.symm
      · exact p2.symm
    · rw [if_pos (by omega)]
      exact Ideal.ofBits_zero_f32
  · refine (concatenate_pair_apply_right (s₁ := S4x2x4096) (s₂ := Cert.ReferenceConvIdeal.S4x2048x4096) _ _ _ _ p rfl rfl (ix3 (j 0) ⟨(j 1).val - k, by omega⟩ (j 2)) (fun b hb => ?_) ?_).trans ?_
    · fin_cases b
      · exact p0.symm
      · exact absurd rfl hb
      · exact p2.symm
    · show (j 1).val - k + 2 = (p 1).val
      omega
    · rw [if_neg (by omega), val_main_v3_apply]
      refine congrArg u (funext fun a => Fin.ext ?_)
      fin_cases a
      · show (((j 0).val * 2048 + ((j 1).val - k)) * 4096 + (j 2).val) / 4096 = (2048 * (j 0).val + (j 1).val - k) % 8192
        omega
      · show (((j 0).val * 2048 + ((j 1).val - k)) * 4096 + (j 2).val) % 4096 = (j 2).val
        omega

open Cert.ReferenceConvIdeal.Read in
/-- The reference computes the same. -/
theorem ref (b u : S8192x4096.Idx → EReal) (w : S2x3x4096.Idx → EReal) : (val_main_v30 (F := Ideal) b u w : S32x256x4096.Idx → EReal) = conv b u w := by
  funext i
  have h0 : (i 0).val < 32 := (i 0).isLt
  have h1 : (i 1).val < 256 := (i 1).isLt
  have h2 : (i 2).val < 4096 := (i 2).isLt
  refine (val_main_v30_apply (F := Ideal) b u w i).trans ((val_main_v29_apply (F := Ideal) b u w i).trans ?_)
  have hj : 2048 * ((idx_main_v29 i) 0).val + ((idx_main_v29 i) 1).val = 256 * (i 0).val + (i 1).val := by
    show 2048 * ((((i 0).val * 256 + (i 1).val) * 4096 + (i 2).val) / 8388608) + (((i 0).val * 256 + (i 1).val) * 4096 + (i 2).val) / 4096 % 2048 = _
    omega
  have hd : (idx_main_v29 i) 2 = i 2 := Fin.ext (by
    show (((i 0).val * 256 + (i 1).val) * 4096 + (i 2).val) % 4096 = (i 2).val
    omega)
  unfold conv
  rw [← hj, ← hd]
  generalize idx_main_v29 i = j
  have j0 : (j 0).val < 4 := (j 0).isLt
  have j1 : (j 1).val < 2048 := (j 1).isLt
  have j2 : (j 2).val < 4096 := (j 2).isLt
  unfold line
  rw [← pad u 2 (by decide) j (idx_main_v7 j) rfl (by show (j 1).val = 2 - 2 + (j 1).val; omega) rfl, ← pad u 1 (by decide) j (idx_main_v15 j) rfl rfl rfl,
    ← pad u 0 (by decide) j (idx_main_v22 j) rfl rfl rfl]
  have hz : (val_main_v11 (F := Ideal) j : EReal) = 0 := Ideal.ofBits_zero_f32
  have e0 : (val_main_v9 (F := Ideal) w j : EReal) = w (ix3 0 0 (j 2)) := by
    rw [val_main_v9_apply, val_main_v8_apply, val_main_v6_apply, val_main_v5_apply, val_main_v1_apply, val_main_v0_apply]
    refine congrArg w (funext fun a => Fin.ext ?_)
    fin_cases a
    all_goals simp <;> omega
  have e1 : (val_main_v17 (F := Ideal) w j : EReal) = w (ix3 0 1 (j 2)) := by
    rw [val_main_v17_apply, val_main_v16_apply, val_main_v14_apply, val_main_v13_apply, val_main_v1_apply, val_main_v0_apply]
    refine congrArg w (funext fun a => Fin.ext ?_)
    fin_cases a
    all_goals simp <;> omega
  have e2 : (val_main_v24 (F := Ideal) w j : EReal) = w (ix3 0 2 (j 2)) := by
    rw [val_main_v24_apply, val_main_v23_apply, val_main_v21_apply, val_main_v20_apply, val_main_v1_apply, val_main_v0_apply]
    refine congrArg w (funext fun a => Fin.ext ?_)
    fin_cases a
    all_goals simp <;> omega
  have eb : (val_main_v27 (F := Ideal) b j : EReal) = b (ix2 ⟨(2048 * (j 0).val + (j 1).val) % 8192, Nat.mod_lt _ (by decide)⟩ (j 2)) := by
    rw [val_main_v27_apply]
    refine congrArg b (funext fun a => Fin.ext ?_)
    fin_cases a
    · show (((j 0).val * 2048 + (j 1).val) * 4096 + (j 2).val) / 4096 = (2048 * (j 0).val + (j 1).val) % 8192
      omega
    · show (((j 0).val * 2048 + (j 1).val) * 4096 + (j 2).val) % 4096 = (j 2).val
      omega
  rw [← e0, ← e1, ← e2, ← eb, ← val_main_v7_apply, ← val_main_v15_apply, ← val_main_v22_apply]
  show (_ * (val_main_v11 (F := Ideal) j + _ + _ + _) : EReal) = _
  rw [hz, zero_add]
  rfl

/-- The kernel's run ends, changes no argument and leaves every counter at zero. -/
theorem frame_kernel : Cert.quiescent_KernelConv (hKernelConv := Cert.KernelConv.Gen.facts) := fun m ρ _ => Cert.KernelConv.Gen.frame m ρ

/-- The same for the kernel over the extended reals. -/
theorem frame_ideal : Cert.quiescent_KernelConvIdeal (hKernelConvIdeal := Cert.KernelConvIdeal.Gen.facts) :=
  fun m ρ _ => Cert.KernelConvIdeal.Gen.frame m ρ

/-- The same for the reference. -/
theorem frame_reference : Cert.quiescent_ReferenceConvIdeal (hReferenceConvIdeal := Cert.ReferenceConvIdeal.Gen.facts) := fun m ρ _ =>
  (θ_run Cert.ReferenceConvIdeal.defs _ _).mono (fun r h => ⟨fun c => (h c).2, Idealize.ShloMosaic.sem_eq_zero_of_no_sems (by decide) r.2⟩)
    (Cert.ReferenceConvIdeal.Value.run m ρ)

/-- Reading the kernel over the extended reals rewrites nothing. -/
theorem preserves : Cert.preserves_KernelConv_KernelConvIdeal := trivial

/-- The kernel and the reference compute the same array. -/
theorem algebraic : Cert.algebraic_KernelConvIdeal_ReferenceConvIdeal (hKernelConvIdeal := Cert.KernelConvIdeal.Gen.facts)
    (hReferenceConvIdeal := Cert.ReferenceConvIdeal.Gen.facts) := fun m ρ m' ρ' _ h => by
  refine ⟨fun c => (dats m 0 c).arrAt 4 cfg0.N, Cert.KernelConvIdeal.Value.run_blocks m ρ, ?_⟩
  refine (θ_run Cert.ReferenceConvIdeal.defs _ _).mono (fun r hr c => ⟨?_, (hr c).2⟩) (Cert.ReferenceConvIdeal.Value.run m' ρ')
  refine (hr c).1.trans ?_
  obtain ⟨h0, h1, h2⟩ := h c
  rw [Cert.ReferenceConvIdeal.Read.val_main_v30_eq, h0, h1, h2]
  exact (ref _ _ _).trans (arr m c).symm

end Cert.Proof.Conv

end
-- ==== Proof.SampleK.lean ====
module

public import proofs.«01_k».proof.Defs
public import proofs.«01_k».proof.Proof.K
public import proofs.«01_k».proof.Proof.Dense
public import proofs.«01_k».proof.Proof.Gen.KernelSampleK.Frame
public import proofs.«01_k».proof.Proof.Gen.KernelSampleKIdeal.Value
public import proofs.«01_k».proof.Proof.Gen.ReferenceSampleKIdeal.Run
public import proofs.«01_k».proof.Proof.Gen.ReferenceSampleKIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleK

open Cert.KernelSampleKIdeal Cert.KernelSampleKIdeal.Gen Idealize.ShloMosaic Idealize.ShloMosaic.TcCoe Idealize.SL.Sem
open Cert.Proof.Dense
open Cert.Proof.K (half)

/-- What a point computes of its rows and the columns it has rounded: their product. -/
theorem pay (x : S32x4096.Idx → EReal) (w : S4096x512.Idx → EReal) :
    (k0_pay2 (F := Ideal) x (k0_pay1 (F := Ideal) w) : S32x512.Idx → EReal) = prod x w := by
  funext y
  pointwise [k0_pay1, k0_pay2, prod]

/-- The reference's product with the whole matrix, at a column of half `j`. -/
theorem whole (j : Fin 2) (x : S32x4096.Idx → EReal) (w : S4096x8192.Idx → EReal) (i : S32x4096.Idx) (i' : Cert.ReferenceSampleKIdeal.S32x8192.Idx)
    (h0 : (i' 0).val = (i 0).val) (h1 : (i' 1).val = 4096 * j.val + (i 1).val) :
    (Cert.ReferenceSampleKIdeal.Read.val_main_v1 (F := Ideal) x w : Cert.ReferenceSampleKIdeal.S32x8192.Idx → EReal) i' = rows x (half j w) i :=
  (Cert.ReferenceSampleKIdeal.Read.val_main_v1_apply x w i').trans (rows_of x (half j w) i _ _
    (fun k => congrArg x (funext fun a => Fin.ext (by fin_cases a; exacts [h0, rfl])))
    fun k => congrArg w (funext fun a => Fin.ext (by fin_cases a; exacts [rfl, h1])))

/-- Where the windows lie at point `t`: all the rows, the columns' block `t`. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

variable (m : (ℓ : Loc nD τ sig) → Buf (Elt Ideal) ℓ) (c : Dev nD)

/-- A point's block of the product, under the window. -/
theorem block (t : Fin cfg0.N) (y : S32x512.Idx) (i : S32x4096.Idx) (h0 : (i 0).val = (y 0).val) (h1 : (i 1).val = t.val * 512 + (y 1).val) :
    prod (iblk m c 0 t) (iblk m c 1 t) y = rows (m ((c : Thread nD τ).loc main_arg0)) (half 0 (m ((c : Thread nD τ).loc main_arg1))) i := by
  refine prod_eq_rows _ _ _ _ _ _ (fun k => ?_) fun k => ?_
  · blk_point [iblk, V, idx t]
  · unfold half
    blk_point [iblk, V, idx t]

/-- The product kept in float32, after the run. -/
theorem arr2 : ((dats m 0 c).arrAt 2 cfg0.N : S32x4096.Idx → EReal)
    = rows (m ((c : Thread nD τ).loc main_arg0)) (half 0 (m ((c : Thread nD τ).loc main_arg1))) := by
  refine (dats m 0 c).arrAt_eq_of_covers 2 _ (by decide +kernel) fun t hf y => ?_
  blk_simp
  rw [after0_2]
  unfold outsAt0
  frame_out
  refine (congrFun (pay _ _) y).trans (block m c t y _ ?_ ?_) <;> blk_simp [idx t]

/-- The product kept in bfloat16, after the run: the rounding changes no extended real. -/
theorem arr3 : ((dats m 0 c).arrAt 3 cfg0.N : S32x4096.Idx → EReal)
    = rows (m ((c : Thread nD τ).loc main_arg0)) (half 0 (m ((c : Thread nD τ).loc main_arg1))) := by
  refine (dats m 0 c).arrAt_eq_of_covers 3 _ (by decide +kernel) fun t hf y => ?_
  blk_simp
  rw [after0_3]
  unfold outsAt0
  frame_out
  refine (congrFun (pay _ _) y).trans (block m c t y _ ?_ ?_) <;> blk_simp [idx t]

/-- The reference computes the same product. -/
theorem ref (x : S32x4096.Idx → EReal) (w : S4096x8192.Idx → EReal) :
    (Cert.ReferenceSampleKIdeal.Read.val_main_v2 (F := Ideal) x w : S32x4096.Idx → EReal) = rows x (half 0 w) := by
  funext i
  rw [Cert.ReferenceSampleKIdeal.Read.val_main_v2_apply]
  exact whole 0 x w i _ rfl (Nat.zero_add _).symm

/-- The kernel's run ends, changes no argument and leaves every counter at zero. -/
theorem frame_kernel : Cert.quiescent_KernelSampleK (hKernelSampleK := Cert.KernelSampleK.Gen.facts) := fun m ρ _ => Cert.KernelSampleK.Gen.frame m ρ

/-- The same for the kernel over the extended reals. -/
theorem frame_ideal : Cert.quiescent_KernelSampleKIdeal (hKernelSampleKIdeal := Cert.KernelSampleKIdeal.Gen.facts) :=
  fun m ρ _ => Cert.KernelSampleKIdeal.Gen.frame m ρ

/-- The same for the reference. -/
theorem frame_reference : Cert.quiescent_ReferenceSampleKIdeal (hReferenceSampleKIdeal := Cert.ReferenceSampleKIdeal.Gen.facts) := fun m ρ _ =>
  (θ_run Cert.ReferenceSampleKIdeal.defs _ _).mono (fun r h => ⟨fun c => (h c).2.2, Idealize.ShloMosaic.sem_eq_zero_of_no_sems (by decide) r.2⟩)
    (Cert.ReferenceSampleKIdeal.Value.run m ρ)

/-- Reading the kernel over the extended reals rewrites nothing. -/
theorem preserves : Cert.preserves_KernelSampleK_KernelSampleKIdeal := trivial

/-- The kernel and the reference compute the same array. -/
theorem algebraic : Cert.algebraic_KernelSampleKIdeal_ReferenceSampleKIdeal (hKernelSampleKIdeal := Cert.KernelSampleKIdeal.Gen.facts)
    (hReferenceSampleKIdeal := Cert.ReferenceSampleKIdeal.Gen.facts) := fun m ρ m' ρ' _ h => by
  refine ⟨fun c => (dats m 0 c).arrAt 2 cfg0.N, fun c => (dats m 0 c).arrAt 3 cfg0.N, Cert.KernelSampleKIdeal.Value.run_blocks m ρ, ?_⟩
  refine (θ_run Cert.ReferenceSampleKIdeal.defs _ _).mono (fun r hr c => ⟨?_, ?_, (hr c).2.2⟩) (Cert.ReferenceSampleKIdeal.Value.run m' ρ')
  · refine (hr c).1.trans ?_
    obtain ⟨h0, h1⟩ := h c
    rw [Cert.ReferenceSampleKIdeal.Read.val_main_v2_eq, h0, h1]
    exact (ref _ _).trans (arr2 m c).symm
  · refine (hr c).2.1.trans ?_
    obtain ⟨h0, h1⟩ := h c
    rw [Cert.ReferenceSampleKIdeal.Read.val_main_v4_eq, h0, h1]
    exact (ref _ _).trans (arr3 m c).symm

end Cert.Proof.SampleK

end
-- ==== Proof.SampleV.lean ====
module

public import proofs.«01_k».proof.Defs
public import proofs.«01_k».proof.Proof.SampleK
public import proofs.«01_k».proof.Proof.Dense
public import proofs.«01_k».proof.Proof.Gen.KernelSampleV.Frame
public import proofs.«01_k».proof.Proof.Gen.KernelSampleVIdeal.Value
public import proofs.«01_k».proof.Proof.Gen.ReferenceSampleVIdeal.Run
public import proofs.«01_k».proof.Proof.Gen.ReferenceSampleVIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleV

open Cert.KernelSampleVIdeal Cert.KernelSampleVIdeal.Gen Idealize.ShloMosaic Idealize.ShloMosaic.TcCoe Idealize.SL.Sem
open Cert.Proof.Dense
open Cert.Proof.K (half)

/-- Where the windows lie at point `t`; the values' columns begin at the matrix's block 8. -/
theorem idx : ∀ t : Fin cfg0.N,
    win0_0.index t = ![0, 0] ∧ win0_1.index t = ![0, 8 + t.val] ∧ win0_2.index t = ![0, t.val] ∧ win0_3.index t = ![0, t.val] :=
  (by decide +kernel : ∀ t : Fin grid0.N, _)

variable (m : (ℓ : Loc nD τ sig) → Buf (Elt Ideal) ℓ) (c : Dev nD)

/-- A point's block of the product, under the window. -/
theorem block (t : Fin cfg0.N) (y : S32x512.Idx) (i : S32x4096.Idx) (h0 : (i 0).val = (y 0).val) (h1 : (i 1).val = t.val * 512 + (y 1).val) :
    prod (iblk m c 0 t) (iblk m c 1 t) y = rows (m ((c : Thread nD τ).loc main_arg0)) (half 1 (m ((c : Thread nD τ).loc main_arg1))) i := by
  refine prod_eq_rows _ _ _ _ _ _ (fun k => ?_) fun k => ?_
  · blk_point [iblk, V, idx t]
  · unfold half
    blk_point [iblk, V, idx t]

/-- The product kept in float32, after the run; a point computes what one of the keys' does. -/
theorem arr2 : ((dats m 0 c).arrAt 2 cfg0.N : S32x4096.Idx → EReal)
    = rows (m ((c : Thread nD τ).loc main_arg0)) (half 1 (m ((c : Thread nD τ).loc main_arg1))) := by
  refine (dats m 0 c).arrAt_eq_of_covers 2 _ (by decide +kernel) fun t hf y => ?_
  blk_simp
  rw [after0_2]
  unfold outsAt0
  frame_out
  refine (congrFun (SampleK.pay _ _) y).trans (block m c t y _ ?_ ?_) <;> blk_simp [idx t]

/-- The product kept in bfloat16, after the run. -/
theorem arr3 : ((dats m 0 c).arrAt 3 cfg0.N : S32x4096.Idx → EReal)
    = rows (m ((c : Thread nD τ).loc main_arg0)) (half 1 (m ((c : Thread nD τ).loc main_arg1))) := by
  refine (dats m 0 c).arrAt_eq_of_covers 3 _ (by decide +kernel) fun t hf y => ?_
  blk_simp
  rw [after0_3]
  unfold outsAt0
  frame_out
  refine (congrFun (SampleK.pay _ _) y).trans (block m c t y _ ?_ ?_) <;> blk_simp [idx t]

/-- The reference computes the same product: its whole product is the keys' reference's. -/
theorem ref (x : S32x4096.Idx → EReal) (w : S4096x8192.Idx → EReal) :
    (Cert.ReferenceSampleVIdeal.Read.val_main_v3 (F := Ideal) x w : S32x4096.Idx → EReal) = rows x (half 1 w) := by
  funext i
  rw [Cert.ReferenceSampleVIdeal.Read.val_main_v3_apply]
  exact SampleK.whole 1 x w i _ rfl rfl

/-- The kernel's run ends, changes no argument and leaves every counter at zero. -/
theorem frame_kernel : Cert.quiescent_KernelSampleV (hKernelSampleV := Cert.KernelSampleV.Gen.facts) := fun m ρ _ => Cert.KernelSampleV.Gen.frame m ρ

/-- The same for the kernel over the extended reals. -/
theorem frame_ideal : Cert.quiescent_KernelSampleVIdeal (hKernelSampleVIdeal := Cert.KernelSampleVIdeal.Gen.facts) :=
  fun m ρ _ => Cert.KernelSampleVIdeal.Gen.frame m ρ

/-- The same for the reference. -/
theorem frame_reference : Cert.quiescent_ReferenceSampleVIdeal (hReferenceSampleVIdeal := Cert.ReferenceSampleVIdeal.Gen.facts) := fun m ρ _ =>
  (θ_run Cert.ReferenceSampleVIdeal.defs _ _).mono (fun r h => ⟨fun c => (h c).2.2, Idealize.ShloMosaic.sem_eq_zero_of_no_sems (by decide) r.2⟩)
    (Cert.ReferenceSampleVIdeal.Value.run m ρ)

/-- Reading the kernel over the extended reals rewrites nothing. -/
theorem preserves : Cert.preserves_KernelSampleV_KernelSampleVIdeal := trivial

/-- The kernel and the reference compute the same array. -/
theorem algebraic : Cert.algebraic_KernelSampleVIdeal_ReferenceSampleVIdeal (hKernelSampleVIdeal := Cert.KernelSampleVIdeal.Gen.facts)
    (hReferenceSampleVIdeal := Cert.ReferenceSampleVIdeal.Gen.facts) := fun m ρ m' ρ' _ h => by
  refine ⟨fun c => (dats m 0 c).arrAt 2 cfg0.N, fun c => (dats m 0 c).arrAt 3 cfg0.N, Cert.KernelSampleVIdeal.Value.run_blocks m ρ, ?_⟩
  refine (θ_run Cert.ReferenceSampleVIdeal.defs _ _).mono (fun r hr c => ⟨?_, ?_, (hr c).2.2⟩) (Cert.ReferenceSampleVIdeal.Value.run m' ρ')
  · refine (hr c).1.trans ?_
    obtain ⟨h0, h1⟩ := h c
    rw [Cert.ReferenceSampleVIdeal.Read.val_main_v3_eq, h0, h1]
    exact (ref _ _).trans (arr2 m c).symm
  · refine (hr c).2.1.trans ?_
    obtain ⟨h0, h1⟩ := h c
    rw [Cert.ReferenceSampleVIdeal.Read.val_main_v4_eq, h0, h1]
    exact (ref _ _).trans (arr3 m c).symm

end Cert.Proof.SampleV

end
-- ==== Proof.SampleForget.lean ====
module

public import proofs.«01_k».proof.Defs
public import proofs.«01_k».proof.Proof.Forget
public import proofs.«01_k».proof.Proof.Dense
public import proofs.«01_k».proof.Proof.Gen.KernelSampleForget.Frame
public import proofs.«01_k».proof.Proof.Gen.KernelSampleForgetIdeal.Value
public import proofs.«01_k».proof.Proof.Gen.ReferenceSampleForgetIdeal.Run
public import proofs.«01_k».proof.Proof.Gen.ReferenceSampleForgetIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleForget

open Cert.KernelSampleForgetIdeal Cert.KernelSampleForgetIdeal.Gen Idealize.ShloMosaic Idealize.ShloMosaic.TcCoe Idealize.SL.Sem
open Cert.Proof.Dense
open Cert.Proof.Forget (logsig gates)

/-- Where the windows lie at point `t`. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD)

/-- The bias as the region finds it, one row of the bias's numbers. -/
theorem bias (e : Fin 32) : (V m c main_v0 : S1x32.Idx → EReal) (ix2 0 e) = (m ((c : Thread nD τ).loc main_arg2) : S32.Idx → EReal) (ix1 e) := by
  have h : V m c main_v0 = shapeCast S1x32 (m ((c : Thread nD τ).loc main_arg2)) shapeCasts_S32_S1x32 := by
    unfold V
    after_results
    rfl
  rw [h]
  pointwise

/-- The output array after the run. -/
theorem arr : ((dats m 0 c).arrAt 3 cfg0.N : S32x32.Idx → EReal)
    = gates (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 1 := lt_of_lt_of_eq t.isLt N_0
  blk_simp
  rw [after0_3]
  frame_out
  pointwise [k0_pay1, gates, rows]
  simp only [Ideal.ofBits_zero_f32, zero_sub]
  refine congrArg logsig (congrArg₂ (fun a b : EReal => a + b) ?_ (Eq.trans ?_ (bias m c _)))
  · blk_point [iblk, V, idx t]
  · blk_point [iblk, idx t]

open Cert.ReferenceSampleForgetIdeal.Read in
/-- The reference goes the prompt's way at every number, so it computes the same. -/
theorem ref (x : S32x4096.Idx → EReal) (w : S4096x32.Idx → EReal) (b : S32.Idx → EReal) :
    (val_main_v5 (F := Ideal) x w b : S32x32.Idx → EReal) = gates x w b := by
  funext i
  have harg : (val_main_v4 (F := Ideal) x w b i : EReal) = rows x (fun k d => w (ix2 k d)) i + b (ix1 (i 1)) := by
    rw [val_main_v4_apply, val_main_v3_apply, val_main_v2_apply]
    refine congrArg₂ (fun a b : EReal => a + b) ((val_main_v1_apply x w i).trans (rows_of x _ i _ _ (fun k => congrArg x ?_) fun k => congrArg w ?_)) (congrArg b ?_)
    · funext a; fin_cases a <;> rfl
    · funext a; fin_cases a <;> rfl
    · funext a; fin_cases a; rfl
  rw [val_main_v5_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_call0_v2_apply, val_main_call0_v0_apply, val_main_call0_call0_v0_apply, val_main_call0_call0_cst_apply]
  refine Eq.trans ?_ ((Forget.stage_eq _ (val_main_call0_call0_v6 (F := Ideal) x w b i)).trans (congrArg logsig harg))
  generalize val_main_call0_call0_v6 (F := Ideal) x w b i = u
  generalize val_main_v4 (F := Ideal) x w b i = z
  rfl

/-- The kernel's run ends, changes no argument and leaves every counter at zero. -/
theorem frame_kernel : Cert.quiescent_KernelSampleForget (hKernelSampleForget := Cert.KernelSampleForget.Gen.facts) := fun m ρ _ => Cert.KernelSampleForget.Gen.frame m ρ

/-- The same for the kernel over the extended reals. -/
theorem frame_ideal : Cert.quiescent_KernelSampleForgetIdeal (hKernelSampleForgetIdeal := Cert.KernelSampleForgetIdeal.Gen.facts) :=
  fun m ρ _ => Cert.KernelSampleForgetIdeal.Gen.frame m ρ

/-- The same for the reference. -/
theorem frame_reference : Cert.quiescent_ReferenceSampleForgetIdeal (hReferenceSampleForgetIdeal := Cert.ReferenceSampleForgetIdeal.Gen.facts) := fun m ρ _ =>
  (θ_run Cert.ReferenceSampleForgetIdeal.defs _ _).mono (fun r h => ⟨fun c => (h c).2, Idealize.ShloMosaic.sem_eq_zero_of_no_sems (by decide) r.2⟩)
    (Cert.ReferenceSampleForgetIdeal.Value.run m ρ)

/-- Reading the kernel over the extended reals rewrites nothing. -/
theorem preserves : Cert.preserves_KernelSampleForget_KernelSampleForgetIdeal := trivial

/-- The kernel and the reference compute the same array. -/
theorem algebraic : Cert.algebraic_KernelSampleForgetIdeal_ReferenceSampleForgetIdeal (hKernelSampleForgetIdeal := Cert.KernelSampleForgetIdeal.Gen.facts)
    (hReferenceSampleForgetIdeal := Cert.ReferenceSampleForgetIdeal.Gen.facts) := fun m ρ m' ρ' _ h => by
  refine ⟨fun c => (dats m 0 c).arrAt 3 cfg0.N, Cert.KernelSampleForgetIdeal.Value.run_blocks m ρ, ?_⟩
  refine (θ_run Cert.ReferenceSampleForgetIdeal.defs _ _).mono (fun r hr c => ⟨?_, (hr c).2⟩) (Cert.ReferenceSampleForgetIdeal.Value.run m' ρ')
  refine (hr c).1.trans ?_
  obtain ⟨h0, h1, h2⟩ := h c
  rw [Cert.ReferenceSampleForgetIdeal.Read.val_main_v5_eq, h0, h1, h2]
  exact (ref _ _ _).trans (arr m c).symm

end Cert.Proof.SampleForget

end
-- ==== Proof.SampleIn.lean ====
module

public import proofs.«01_k».proof.Defs
public import proofs.«01_k».proof.Proof.In
public import proofs.«01_k».proof.Proof.Dense
public import proofs.«01_k».proof.Proof.Gen.KernelSampleIn.Frame
public import proofs.«01_k».proof.Proof.Gen.KernelSampleInIdeal.Value
public import proofs.«01_k».proof.Proof.Gen.ReferenceSampleInIdeal.Run
public import proofs.«01_k».proof.Proof.Gen.ReferenceSampleInIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleIn

open Cert.KernelSampleInIdeal Cert.KernelSampleInIdeal.Gen Idealize.ShloMosaic Idealize.ShloMosaic.TcCoe Idealize.SL.Sem
open Cert.Proof.Dense
open Cert.Proof.In (part)

/-- Where the windows lie at point `t`: one block of rows, and block `t` of each part's columns. -/
theorem idx : ∀ t : Fin cfg0.N,
    win0_0.index t = ![0, 0] ∧ win0_1.index t = ![0, 0, t.val] ∧ win0_2.index t = ![0, 0, 16 + t.val]
    ∧ win0_3.index t = ![0, 0, 32 + t.val] ∧ win0_4.index t = ![0, t.val] ∧ win0_5.index t = ![0, t.val] :=
  (by decide +kernel : ∀ t : Fin grid0.N, _)

variable (m : (ℓ : Loc nD τ sig) → Buf (Elt Ideal) ℓ) (c : Dev nD)

/-- The gate: the rows times the first part. -/
theorem arr4 : ((dats m 0 c).arrAt 4 cfg0.N : S32x4096.Idx → EReal)
    = rows (m ((c : Thread nD τ).loc main_arg0)) (part 0 (m ((c : Thread nD τ).loc main_arg1))) := by
  refine (dats m 0 c).arrAt_eq_of_covers 4 _ (by decide +kernel) fun t hf y => ?_
  have hN : t.val < 16 := lt_of_lt_of_eq t.isLt N_0
  blk_simp
  rw [after0_4]
  unfold outsAt0
  frame_out
  pointwise [k0_pay1, k0_pay4, rows, part]
  blk_point [iblk, V, idx t]

/-- The other gate times the stream: the products with the second and the third part, multiplied entry by entry. -/
theorem arr5 : ((dats m 0 c).arrAt 5 cfg0.N : S32x4096.Idx → EReal)
    = fun i => rows (m ((c : Thread nD τ).loc main_arg0)) (part 1 (m ((c : Thread nD τ).loc main_arg1))) i * rows (m ((c : Thread nD τ).loc main_arg0)) (part 2 (m ((c : Thread nD τ).loc main_arg1))) i := by
  refine (dats m 0 c).arrAt_eq_of_covers 5 _ (by decide +kernel) fun t hf y => ?_
  have hN : t.val < 16 := lt_of_lt_of_eq t.isLt N_0
  blk_simp
  rw [after0_5]
  unfold outsAt0
  frame_out
  pointwise [k0_pay2, k0_pay3, k0_pay5, rows, part]
  blk_point [iblk, V, idx t]

open Cert.ReferenceSampleInIdeal.Read in
/-- The reference's product with the whole matrix, at a column of part `j`. -/
theorem ref (x : S32x4096.Idx → EReal) (w : S2x4096x12288.Idx → EReal) (j : Fin 3) (i : S32x4096.Idx) (i' : Cert.ReferenceSampleInIdeal.S32x12288.Idx)
    (h0 : (i' 0).val = (i 0).val) (h1 : (i' 1).val = 4096 * j.val + (i 1).val) :
    (val_main_v3 (F := Ideal) x w : Cert.ReferenceSampleInIdeal.S32x12288.Idx → EReal) i' = rows x (part j w) i :=
  (val_main_v3_apply x w i').trans (rows_of x (part j w) i _ _
    (fun k => congrArg x (funext fun a => Fin.ext (by fin_cases a; exacts [h0, rfl])))
    fun k => ((val_main_v2_apply (F := Ideal) w _).trans (val_main_v1_apply (F := Ideal) w _)).trans (In.part_of w j k (i 1) _ h1 _ rfl rfl rfl))

/-- The reference's first result is the first part's product. -/
theorem ref4 (x : S32x4096.Idx → EReal) (w : S2x4096x12288.Idx → EReal) :
    (Cert.ReferenceSampleInIdeal.Read.val_main_v4 (F := Ideal) x w : S32x4096.Idx → EReal) = rows x (part 0 w) := by
  funext i
  rw [Cert.ReferenceSampleInIdeal.Read.val_main_v4_apply]
  exact ref x w 0 i _ rfl (Nat.zero_add _).symm

/-- The reference's second result is the product of the other two parts' products. -/
theorem ref7 (x : S32x4096.Idx → EReal) (w : S2x4096x12288.Idx → EReal) :
    (Cert.ReferenceSampleInIdeal.Read.val_main_v7 (F := Ideal) x w : S32x4096.Idx → EReal) = fun i => rows x (part 1 w) i * rows x (part 2 w) i := by
  funext i
  rw [Cert.ReferenceSampleInIdeal.Read.val_main_v7_apply, Cert.ReferenceSampleInIdeal.Read.val_main_v5_apply, Cert.ReferenceSampleInIdeal.Read.val_main_v6_apply]
  exact congrArg₂ (· * ·) (ref x w 1 i _ rfl rfl) (ref x w 2 i _ rfl rfl)

/-- The kernel's run ends, changes no argument and leaves every counter at zero. -/
theorem frame_kernel : Cert.quiescent_KernelSampleIn (hKernelSampleIn := Cert.KernelSampleIn.Gen.facts) := fun m ρ _ => Cert.KernelSampleIn.Gen.frame m ρ

/-- The same for the kernel over the extended reals. -/
theorem frame_ideal : Cert.quiescent_KernelSampleInIdeal (hKernelSampleInIdeal := Cert.KernelSampleInIdeal.Gen.facts) :=
  fun m ρ _ => Cert.KernelSampleInIdeal.Gen.frame m ρ

/-- The same for the reference. -/
theorem frame_reference : Cert.quiescent_ReferenceSampleInIdeal (hReferenceSampleInIdeal := Cert.ReferenceSampleInIdeal.Gen.facts) := fun m ρ _ =>
  (θ_run Cert.ReferenceSampleInIdeal.defs _ _).mono (fun r h => ⟨fun c => (h c).2.2, Idealize.ShloMosaic.sem_eq_zero_of_no_sems (by decide) r.2⟩)
    (Cert.ReferenceSampleInIdeal.Value.run m ρ)

/-- Reading the kernel over the extended reals rewrites nothing. -/
theorem preserves : Cert.preserves_KernelSampleIn_KernelSampleInIdeal := trivial

/-- The kernel and the reference compute the same array. -/
theorem algebraic : Cert.algebraic_KernelSampleInIdeal_ReferenceSampleInIdeal (hKernelSampleInIdeal := Cert.KernelSampleInIdeal.Gen.facts)
    (hReferenceSampleInIdeal := Cert.ReferenceSampleInIdeal.Gen.facts) := fun m ρ m' ρ' _ h => by
  refine ⟨fun c => (dats m 0 c).arrAt 4 cfg0.N, fun c => (dats m 0 c).arrAt 5 cfg0.N, Cert.KernelSampleInIdeal.Value.run_blocks m ρ, ?_⟩
  refine (θ_run Cert.ReferenceSampleInIdeal.defs _ _).mono (fun r hr c => ⟨?_, ?_, (hr c).2.2⟩) (Cert.ReferenceSampleInIdeal.Value.run m' ρ')
  · refine (hr c).1.trans ?_
    obtain ⟨h0, h1⟩ := h c
    rw [Cert.ReferenceSampleInIdeal.Read.val_main_v4_eq, h0, h1]
    exact (ref4 _ _).trans (arr4 m c).symm
  · refine (hr c).2.1.trans ?_
    obtain ⟨h0, h1⟩ := h c
    rw [Cert.ReferenceSampleInIdeal.Read.val_main_v7_eq, h0, h1]
    exact (ref7 _ _).trans (arr5 m c).symm

end Cert.Proof.SampleIn

end
-- ==== Proof.SampleLn.lean ====
module

public import proofs.«01_k».proof.Defs
public import proofs.«01_k».proof.Proof.Ln
public import proofs.«01_k».proof.Proof.Gen.KernelSampleLn.Frame
public import proofs.«01_k».proof.Proof.Gen.KernelSampleLnIdeal.Value
public import proofs.«01_k».proof.Proof.Gen.ReferenceSampleLnIdeal.Run
public import proofs.«01_k».proof.Proof.Gen.ReferenceSampleLnIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleLn

open Cert.KernelSampleLnIdeal Cert.KernelSampleLnIdeal.Gen Idealize.ShloMosaic Idealize.ShloMosaic.TcCoe Idealize.SL.Sem
open Cert.Proof.Ln (alpha width eps centred spread row result)

/-- Where the windows lie at point `t`. -/
theorem idx : ∀ t : Fin cfg0.N,
    win0_0.index t = ![t.val, 0] ∧ win0_1.index t = ![t.val, 0] ∧ win0_2.index t = ![3, 2, 0, 0] ∧ win0_3.index t = ![3, 2, 0, 0]
    ∧ win0_4.index t = ![t.val, 0] ∧ win0_5.index t = ![t.val, 0] :=
  (by decide +kernel : ∀ t : Fin grid0.N, _)

/-- What a point computes of its rows. -/
theorem pay (x mix : S32x4096.Idx → EReal) (g b : S1x1x1x4096.Idx → EReal) (r : Fin 32) (d : Fin 4096) :
    (k0_pay1 (F := Ideal) x mix g b (ix2 r d) : EReal) = Ln.norm (row x mix r) (fun d => g (ix4 0 0 0 d)) (fun d => b (ix4 0 0 0 d)) d := by
  pointwise [k0_pay1, Ln.norm, row, centred, spread, alpha, width, eps]

variable (m : (ℓ : Loc nD τ sig) → Buf (Elt Ideal) ℓ) (c : Dev nD)

/-- The gains as the region finds them, the argument's numbers. -/
theorem gains (l : Fin 4) (w : Fin 3) (d : Fin 4096) :
    (V m c main_v0 : S4x3x1x4096.Idx → EReal) (ix4 l w 0 d) = (m ((c : Thread nD τ).loc main_arg2) : S4x3x4096.Idx → EReal) (ix3 l w d) := by
  have h : V m c main_v0 = shapeCast S4x3x1x4096 (m ((c : Thread nD τ).loc main_arg2)) shapeCasts_S4x3x4096_S4x3x1x4096 := by
    unfold V
    after_results
    rfl
  rw [h]
  exact Ln.inserted _ _ l w d

/-- The biases likewise. -/
theorem biases (l : Fin 4) (w : Fin 3) (d : Fin 4096) :
    (V m c main_v1 : S4x3x1x4096.Idx → EReal) (ix4 l w 0 d) = (m ((c : Thread nD τ).loc main_arg3) : S4x3x4096.Idx → EReal) (ix3 l w d) := by
  have h : V m c main_v1 = shapeCast S4x3x1x4096 (m ((c : Thread nD τ).loc main_arg3)) shapeCasts_S4x3x4096_S4x3x1x4096 := by
    unfold V
    after_results
    rfl
  rw [h]
  exact Ln.inserted _ _ l w d

/-- A point's result is the result's rows under its window. -/
theorem point (t : Fin cfg0.N) (r : Fin 32) (d : Fin 4096) (i : S32x4096.Idx) (h0 : (i 0).val = 32 * t.val + r.val) (h1 : (i 1).val = d.val) :
    (k0_pay1 (F := Ideal) (iblk m c 0 t) (iblk m c 1 t) (iblk m c 2 t) (iblk m c 3 t) (ix2 r d) : EReal)
      = result (m ((c : Thread nD τ).loc main_arg0)) (m ((c : Thread nD τ).loc main_arg1)) (m ((c : Thread nD τ).loc main_arg2))
        (m ((c : Thread nD τ).loc main_arg3)) i := by
  have hN : t.val < 1 := lt_of_lt_of_eq t.isLt N_0
  rw [pay]
  refine Ln.result_of _ _ _ _ _ _ _ _ r d i h1 (fun k => ?_) (fun k => ?_) (fun k => ?_) fun k => ?_
  · blk_point [iblk, V, idx t]
  · blk_point [iblk, V, idx t]
  · refine Eq.trans ?_ (gains m c 3 2 k)
    blk_point [iblk, idx t]
  · refine Eq.trans ?_ (biases m c 3 2 k)
    blk_point [iblk, idx t]

/-- The first output array after the run. -/
theorem arr4 : ((dats m 0 c).arrAt 4 cfg0.N : S32x4096.Idx → EReal)
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hN : t.val < 1 := lt_of_lt_of_eq t.isLt N_0
  blk_simp
  rw [after0_4]
  frame_out
  obtain ⟨r, d, rfl⟩ : ∃ (r : Fin 32) (d : Fin 4096), y = ix2 r d := ⟨y 0, y 1, funext fun a => by fin_cases a <;> rfl⟩
  refine point m c t r d _ ?_ ?_
  · blk_simp [idx t]
    omega
  · blk_simp [idx t]

/-- The second, the same numbers. -/
theorem arr5 : ((dats m 0 c).arrAt 5 cfg0.N : S32x4096.Idx → EReal)
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have hN : t.val < 1 := lt_of_lt_of_eq t.isLt N_0
  blk_simp
  rw [after0_5]
  frame_out
  obtain ⟨r, d, rfl⟩ : ∃ (r : Fin 32) (d : Fin 4096), y = ix2 r d := ⟨y 0, y 1, funext fun a => by fin_cases a <;> rfl⟩
  refine point m c t r d _ ?_ ?_
  · blk_simp [idx t]
    omega
  · blk_simp [idx t]

section
open Cert.ReferenceSampleLnIdeal.Read
variable (x mix : S32x4096.Idx → EReal) (g b : S4x3x4096.Idx → EReal)

/-- The reference goes through the stages of the norm, so it computes the same. -/
theorem ref : (val_main_v28 (F := Ideal) x mix g b : S32x4096.Idx → EReal) = result x mix g b := by
  have hrow : ∀ r d, (val_main_v2 (F := Ideal) x mix (ix2 r d) : EReal) = row x mix r d := fun r d => by
    rw [val_main_v2_apply, val_main_v1_apply, val_main_v0_apply, val_main_cst_apply]
    rfl
  have hone : ∀ r d, idx_main_v4 (idx_main_v7 (ix2 r d)) = ix1 r ∧ idx_main_v11 (idx_main_v17 (ix2 r d)) = ix1 r :=
    fun r d => ⟨funext fun a => by fin_cases a; rfl, funext fun a => by fin_cases a; rfl⟩
  refine Ln.result_of_stages x mix g b (val_main_v2 (F := Ideal) x mix) (val_main_v8 (F := Ideal) x mix) (val_main_v17 (F := Ideal) x mix)
    (val_main_v22 (F := Ideal) g) (val_main_v27 (F := Ideal) b) _ (val_main_v3 (F := Ideal) x mix) (val_main_v10 (F := Ideal) x mix)
    hrow (fun r => ?_) (fun r d => ?_) (fun r => ?_) (fun r d => ?_) (fun r d => ?_) (fun r d => ?_) fun i => ?_
  · refine (val_main_v3_apply x mix (ix1 r)).trans (congrArg (_ + ·) (Finset.sum_congr rfl fun k _ => congrArg _ ?_))
    funext a; fin_cases a <;> rfl
  · rw [val_main_v8_apply, val_main_v7_apply, val_main_v6_apply, val_main_v5_apply, val_main_cst_1_apply, val_main_v4_apply, (hone r d).1]
    rfl
  · refine (val_main_v10_apply x mix (ix1 r)).trans (congrArg (_ + ·) (Finset.sum_congr rfl fun k _ => ?_))
    rw [val_main_v9_apply]
    refine congrArg (fun i => (val_main_v8 (F := Ideal) x mix i : EReal) * val_main_v8 (F := Ideal) x mix i) ?_
    funext a; fin_cases a <;> rfl
  · rw [val_main_v17_apply, val_main_v16_apply, val_main_v15_apply, val_main_v14_apply, val_main_cst_4_apply, val_main_v13_apply, val_main_v12_apply,
      val_main_cst_3_apply, val_main_v11_apply, (hone r d).2]
    rfl
  · rw [val_main_v22_apply, val_main_v21_apply, val_main_v20_apply, val_main_v19_apply]
    exact congrArg g (Ln.last _ d rfl rfl (Nat.mod_eq_of_lt d.isLt))
  · rw [val_main_v27_apply, val_main_v26_apply, val_main_v25_apply, val_main_v24_apply]
    exact congrArg b (Ln.last _ d rfl rfl (Nat.mod_eq_of_lt d.isLt))
  · rw [val_main_v28_apply, val_main_v23_apply, val_main_v18_apply]
    rfl

/-- The rounding to bfloat16 changes no extended real. -/
theorem ref_half : (val_main_v29 (F := Ideal) x mix g b : S32x4096.Idx → EReal) = result x mix g b := by
  funext i
  rw [val_main_v29_apply, ref]
  rfl

end

/-- The kernel's run ends, changes no argument and leaves every counter at zero. -/
theorem frame_kernel : Cert.quiescent_KernelSampleLn (hKernelSampleLn := Cert.KernelSampleLn.Gen.facts) := fun m ρ _ => Cert.KernelSampleLn.Gen.frame m ρ

/-- The same for the kernel over the extended reals. -/
theorem frame_ideal : Cert.quiescent_KernelSampleLnIdeal (hKernelSampleLnIdeal := Cert.KernelSampleLnIdeal.Gen.facts) :=
  fun m ρ _ => Cert.KernelSampleLnIdeal.Gen.frame m ρ

/-- The same for the reference. -/
theorem frame_reference : Cert.quiescent_ReferenceSampleLnIdeal (hReferenceSampleLnIdeal := Cert.ReferenceSampleLnIdeal.Gen.facts) := fun m ρ _ =>
  (θ_run Cert.ReferenceSampleLnIdeal.defs _ _).mono (fun r h => ⟨fun c => (h c).2.2, Idealize.ShloMosaic.sem_eq_zero_of_no_sems (by decide) r.2⟩)
    (Cert.ReferenceSampleLnIdeal.Value.run m ρ)

/-- Reading the kernel over the extended reals rewrites nothing. -/
theorem preserves : Cert.preserves_KernelSampleLn_KernelSampleLnIdeal := trivial

/-- The kernel and the reference compute the same arrays. -/
theorem algebraic : Cert.algebraic_KernelSampleLnIdeal_ReferenceSampleLnIdeal (hKernelSampleLnIdeal := Cert.KernelSampleLnIdeal.Gen.facts)
    (hReferenceSampleLnIdeal := Cert.ReferenceSampleLnIdeal.Gen.facts) := fun m ρ m' ρ' _ h => by
  refine ⟨fun c => (dats m 0 c).arrAt 4 cfg0.N, fun c => (dats m 0 c).arrAt 5 cfg0.N, Cert.KernelSampleLnIdeal.Value.run_blocks m ρ, ?_⟩
  refine (θ_run Cert.ReferenceSampleLnIdeal.defs _ _).mono (fun r hr c => ⟨?_, ?_, (hr c).2.2⟩) (Cert.ReferenceSampleLnIdeal.Value.run m' ρ')
  · refine (hr c).1.trans ?_
    obtain ⟨h0, h1, h2, h3⟩ := h c
    rw [Cert.ReferenceSampleLnIdeal.Read.val_main_v28_eq, h0, h1, h2, h3]
    exact (ref _ _ _ _).trans (arr4 m c).symm
  · refine (hr c).2.1.trans ?_
    obtain ⟨h0, h1, h2, h3⟩ := h c
    rw [Cert.ReferenceSampleLnIdeal.Read.val_main_v29_eq, h0, h1, h2, h3]
    exact (ref_half _ _ _ _).trans (arr5 m c).symm

end Cert.Proof.SampleLn

end
-- ==== Proof.SampleHeads.lean ====
module

public import proofs.«01_k».proof.Defs
public import proofs.«01_k».proof.Proof.Heads
public import proofs.«01_k».proof.Proof.Gen.KernelSampleHeads.Frame
public import proofs.«01_k».proof.Proof.Gen.KernelSampleHeadsIdeal.Value
public import proofs.«01_k».proof.Proof.Gen.ReferenceSampleHeadsIdeal.Run
public import proofs.«01_k».proof.Proof.Gen.ReferenceSampleHeadsIdeal.Read
public import Idealize.ShloMosaic.Lib.Quiescent
public import Idealize.ShloMosaic.Lib.Pipeline.ValueKit
public import Idealize.ShloMosaic.Lib.Pointwise
public import Idealize.ShloMosaic.Lib.Pipeline.ReadBack
public import Idealize.ShloMosaic.Lib.Pipeline.Covers

@[expose] public section

set_option maxRecDepth 16384

noncomputable section

namespace Cert.Proof.SampleHeads

open Cert.KernelSampleHeadsIdeal Cert.KernelSampleHeadsIdeal.Gen Idealize.ShloMosaic Idealize.ShloMosaic.TcCoe Idealize.SL.Sem
open Cert.Proof.Heads (heads)

/-- Where the windows lie at point `t`. -/
theorem idx : ∀ t : Fin cfg0.N, win0_0.index t = ![t.val, 0] ∧ win0_1.index t = ![t.val, 0, 0] :=
  (by decide +kernel : ∀ t : Fin grid0.N, _)

/-- What a point leaves: its rows cut into heads. -/
theorem out_eq (x : Vec Ideal S32x4096 .f32) (y : S32x32x128.Idx) : (out0_1 x y : EReal) = heads x y := by
  unfold out0_1
  refine View.canon_apply_of_pieces (Val := Elt Ideal) (e := .f32) (heads x : S32x32x128.Idx → EReal) _ ?_ y (cover0_1 _ _ _ _ _ _ _ _ _ _ _ _ _ _ _ _ _ _ _ _ _ _ _ _ _ _ _ _ _ _ _ _ y)
  iterate 32
    refine List.forall_mem_cons.2 ⟨fun z => Heads.piece x _ _ ?_ ?_ ?_ shapeCasts_S32x128_S32x1x128 z, ?_⟩
    · rfl
    · decide
    · decide
  exact fun pc h => absurd h List.not_mem_nil

variable (m : (ℓ : Loc nD τ sig) → Buf (Elt Ideal) ℓ) (c : Dev nD)

/-- The output array after the run. -/
theorem arr : ((dats m 0 c).arrAt 1 cfg0.N : S32x32x128.Idx → EReal) = heads (m ((c : Thread nD τ).loc main_arg0)) := by
  refine (dats m 0 c).arrAt_eq_of_covers 1 _ (by decide +kernel) fun t hf y => ?_
  have hN : t.val < 1 := lt_of_lt_of_eq t.isLt N_0
  blk_simp
  rw [after0_1]
  refine (out_eq _ _).trans ?_
  unfold heads
  blk_point [iblk, V, idx t]

/-- The reference computes the same. -/
theorem ref (x : S32x4096.Idx → EReal) : (Cert.ReferenceSampleHeadsIdeal.Read.val_main_v0 (F := Ideal) x : S32x32x128.Idx → EReal) = heads x := by
  funext i
  rw [Cert.ReferenceSampleHeadsIdeal.Read.val_main_v0_apply]
  exact Heads.flat x i _ rfl rfl

/-- The kernel's run ends, changes no argument and leaves every counter at zero. -/
theorem frame_kernel : Cert.quiescent_KernelSampleHeads (hKernelSampleHeads := Cert.KernelSampleHeads.Gen.facts) := fun m ρ _ => Cert.KernelSampleHeads.Gen.frame m ρ

/-- The same for the kernel over the extended reals. -/
theorem frame_ideal : Cert.quiescent_KernelSampleHeadsIdeal (hKernelSampleHeadsIdeal := Cert.KernelSampleHeadsIdeal.Gen.facts) :=
  fun m ρ _ => Cert.KernelSampleHeadsIdeal.Gen.frame m ρ

/-- The same for the reference. -/
theorem frame_reference : Cert.quiescent_ReferenceSampleHeadsIdeal (hReferenceSampleHeadsIdeal := Cert.ReferenceSampleHeadsIdeal.Gen.facts) := fun m ρ _ =>
  (θ_run Cert.ReferenceSampleHeadsIdeal.defs _ _).mono (fun r h => ⟨fun c => (h c).2, Idealize.ShloMosaic.sem_eq_zero_of_no_sems (by decide) r.2⟩)
    (Cert.ReferenceSampleHeadsIdeal.Value.run m ρ)

/-- Reading the kernel over the extended reals rewrites nothing. -/
theorem preserves : Cert.preserves_KernelSampleHeads_KernelSampleHeadsIdeal := trivial

/-- The kernel and the reference compute the same array. -/
theorem algebraic : Cert.algebraic_KernelSampleHeadsIdeal_ReferenceSampleHeadsIdeal (hKernelSampleHeadsIdeal := Cert.KernelSampleHeadsIdeal.Gen.facts)
    (hReferenceSampleHeadsIdeal := Cert.ReferenceSampleHeadsIdeal.Gen.facts) := fun m ρ m' ρ' _ h => by
  refine ⟨fun c => (dats m 0 c).arrAt 1 cfg0.N, Cert.KernelSampleHeadsIdeal.Value.run_blocks m ρ, ?_⟩
  refine (θ_run Cert.ReferenceSampleHeadsIdeal.defs _ _).mono (fun r hr c => ⟨?_, (hr c).2⟩) (Cert.ReferenceSampleHeadsIdeal.Value.run m' ρ')
  refine (hr c).1.trans ?_
  have h0 := h c
  rw [Cert.ReferenceSampleHeadsIdeal.Read.val_main_v0_eq, h0]
  exact (ref _).trans (arr m c).symm

end Cert.Proof.SampleHeads

end
-- ==== Proof.lean ====
module

public import proofs.«01_k».proof.Defs
public import proofs.«01_k».proof.Proof.Attn
public import proofs.«01_k».proof.Proof.Out
public import proofs.«01_k».proof.Proof.Q
public import proofs.«01_k».proof.Proof.K
public import proofs.«01_k».proof.Proof.V
public import proofs.«01_k».proof.Proof.Forget
public import proofs.«01_k».proof.Proof.In
public import proofs.«01_k».proof.Proof.Ple
public import proofs.«01_k».proof.Proof.Ln
public import proofs.«01_k».proof.Proof.Heads
public import proofs.«01_k».proof.Proof.Conv
public import proofs.«01_k».proof.Proof.SampleK
public import proofs.«01_k».proof.Proof.SampleV
public import proofs.«01_k».proof.Proof.SampleForget
public import proofs.«01_k».proof.Proof.SampleIn
public import proofs.«01_k».proof.Proof.SampleLn
public import proofs.«01_k».proof.Proof.SampleHeads
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelQ.Frame
public import proofs.«01_k».proof.Proof.Gen.KernelQIdeal.Value
public import proofs.«01_k».proof.Proof.Gen.ReferenceQIdeal.Run
public import proofs.«01_k».proof.Proof.Gen.ReferenceQIdeal.Read
public import proofs.«01_k».proof.Proof.Gen.KernelK.Frame
public import proofs.«01_k».proof.Proof.Gen.KernelKIdeal.Value
public import proofs.«01_k».proof.Proof.Gen.ReferenceKIdeal.Run
public import proofs.«01_k».proof.Proof.Gen.ReferenceKIdeal.Read
public import proofs.«01_k».proof.Proof.Gen.KernelV.Frame
public import proofs.«01_k».proof.Proof.Gen.KernelVIdeal.Value
public import proofs.«01_k».proof.Proof.Gen.ReferenceVIdeal.Run
public import proofs.«01_k».proof.Proof.Gen.ReferenceVIdeal.Read
public import proofs.«01_k».proof.Proof.Gen.KernelForget.Frame
public import proofs.«01_k».proof.Proof.Gen.KernelForgetIdeal.Value
public import proofs.«01_k».proof.Proof.Gen.ReferenceForgetIdeal.Run
public import proofs.«01_k».proof.Proof.Gen.ReferenceForgetIdeal.Read
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelPle.Frame
public import proofs.«01_k».proof.Proof.Gen.KernelPleIdeal.Value
public import proofs.«01_k».proof.Proof.Gen.ReferencePleIdeal.Run
public import proofs.«01_k».proof.Proof.Gen.ReferencePleIdeal.Read
public import proofs.«01_k».proof.Proof.Gen.KernelLn.Frame
public import proofs.«01_k».proof.Proof.Gen.KernelLnIdeal.Value
public import proofs.«01_k».proof.Proof.Gen.ReferenceLnIdeal.Run
public import proofs.«01_k».proof.Proof.Gen.ReferenceLnIdeal.Read
public import proofs.«01_k».proof.Proof.Gen.KernelHeads.Frame
public import proofs.«01_k».proof.Proof.Gen.KernelHeadsIdeal.Value
public import proofs.«01_k».proof.Proof.Gen.ReferenceHeadsIdeal.Run
public import proofs.«01_k».proof.Proof.Gen.ReferenceHeadsIdeal.Read
public import proofs.«01_k».proof.Proof.Gen.KernelConv.Frame
public import proofs.«01_k».proof.Proof.Gen.KernelConvIdeal.Value
public import proofs.«01_k».proof.Proof.Gen.ReferenceConvIdeal.Run
public import proofs.«01_k».proof.Proof.Gen.ReferenceConvIdeal.Read
public import proofs.«01_k».proof.Proof.Gen.KernelSampleK.Frame
public import proofs.«01_k».proof.Proof.Gen.KernelSampleKIdeal.Value
public import proofs.«01_k».proof.Proof.Gen.ReferenceSampleKIdeal.Run
public import proofs.«01_k».proof.Proof.Gen.ReferenceSampleKIdeal.Read
public import proofs.«01_k».proof.Proof.Gen.KernelSampleV.Frame
public import proofs.«01_k».proof.Proof.Gen.KernelSampleVIdeal.Value
public import proofs.«01_k».proof.Proof.Gen.ReferenceSampleVIdeal.Run
public import proofs.«01_k».proof.Proof.Gen.ReferenceSampleVIdeal.Read
public import proofs.«01_k».proof.Proof.Gen.KernelSampleForget.Frame
public import proofs.«01_k».proof.Proof.Gen.KernelSampleForgetIdeal.Value
public import proofs.«01_k».proof.Proof.Gen.ReferenceSampleForgetIdeal.Run
public import proofs.«01_k».proof.Proof.Gen.ReferenceSampleForgetIdeal.Read
public import proofs.«01_k».proof.Proof.Gen.KernelSampleIn.Frame
public import proofs.«01_k».proof.Proof.Gen.KernelSampleInIdeal.Value
public import proofs.«01_k».proof.Proof.Gen.ReferenceSampleInIdeal.Run
public import proofs.«01_k».proof.Proof.Gen.ReferenceSampleInIdeal.Read
public import proofs.«01_k».proof.Proof.Gen.KernelSampleLn.Frame
public import proofs.«01_k».proof.Proof.Gen.KernelSampleLnIdeal.Value
public import proofs.«01_k».proof.Proof.Gen.ReferenceSampleLnIdeal.Run
public import proofs.«01_k».proof.Proof.Gen.ReferenceSampleLnIdeal.Read
public import proofs.«01_k».proof.Proof.Gen.KernelSampleHeads.Frame
public import proofs.«01_k».proof.Proof.Gen.KernelSampleHeadsIdeal.Value
public import proofs.«01_k».proof.Proof.Gen.ReferenceSampleHeadsIdeal.Run
public import proofs.«01_k».proof.Proof.Gen.ReferenceSampleHeadsIdeal.Read

@[expose] public section

noncomputable section

namespace Cert.Proof

/-- All the claims. -/
theorem claim : Cert.Claim := ⟨
  Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelQ.Gen.facts, Cert.KernelQIdeal.Gen.facts, Cert.ReferenceQIdeal.Gen.facts,
  Cert.KernelK.Gen.facts, Cert.KernelKIdeal.Gen.facts, Cert.ReferenceKIdeal.Gen.facts,
  Cert.KernelV.Gen.facts, Cert.KernelVIdeal.Gen.facts, Cert.ReferenceVIdeal.Gen.facts,
  Cert.KernelForget.Gen.facts, Cert.KernelForgetIdeal.Gen.facts, Cert.ReferenceForgetIdeal.Gen.facts,
  Cert.KernelIn.Gen.facts, Cert.KernelInIdeal.Gen.facts, Cert.ReferenceInIdeal.Gen.facts,
  Cert.KernelPle.Gen.facts, Cert.KernelPleIdeal.Gen.facts, Cert.ReferencePleIdeal.Gen.facts,
  Cert.KernelLn.Gen.facts, Cert.KernelLnIdeal.Gen.facts, Cert.ReferenceLnIdeal.Gen.facts,
  Cert.KernelHeads.Gen.facts, Cert.KernelHeadsIdeal.Gen.facts, Cert.ReferenceHeadsIdeal.Gen.facts,
  Cert.KernelConv.Gen.facts, Cert.KernelConvIdeal.Gen.facts, Cert.ReferenceConvIdeal.Gen.facts,
  Cert.KernelSampleK.Gen.facts, Cert.KernelSampleKIdeal.Gen.facts, Cert.ReferenceSampleKIdeal.Gen.facts,
  Cert.KernelSampleV.Gen.facts, Cert.KernelSampleVIdeal.Gen.facts, Cert.ReferenceSampleVIdeal.Gen.facts,
  Cert.KernelSampleForget.Gen.facts, Cert.KernelSampleForgetIdeal.Gen.facts, Cert.ReferenceSampleForgetIdeal.Gen.facts,
  Cert.KernelSampleIn.Gen.facts, Cert.KernelSampleInIdeal.Gen.facts, Cert.ReferenceSampleInIdeal.Gen.facts,
  Cert.KernelSampleLn.Gen.facts, Cert.KernelSampleLnIdeal.Gen.facts, Cert.ReferenceSampleLnIdeal.Gen.facts,
  Cert.KernelSampleHeads.Gen.facts, Cert.KernelSampleHeadsIdeal.Gen.facts, Cert.ReferenceSampleHeadsIdeal.Gen.facts,
  Cert.Pre_finite.Gen.facts,
  Attn.frame_kernel, Attn.frame_kernelIdeal, Attn.frame_kernelIdeal_pre, Attn.frame_reference, Attn.frame_reference_pre,
  Out.frame_kernel, Out.frame_ideal, Out.frame_reference,
  Q.frame_kernel, Q.frame_ideal, Q.frame_reference,
  K.frame_kernel, K.frame_ideal, K.frame_reference,
  V.frame_kernel, V.frame_ideal, V.frame_reference,
  Forget.frame_kernel, Forget.frame_ideal, Forget.frame_reference,
  In.frame_kernel, In.frame_ideal, In.frame_reference,
  Ple.frame_kernel, Ple.frame_ideal, Ple.frame_reference,
  Ln.frame_kernel, Ln.frame_ideal, Ln.frame_reference,
  Heads.frame_kernel, Heads.frame_ideal, Heads.frame_reference,
  Conv.frame_kernel, Conv.frame_ideal, Conv.frame_reference,
  SampleK.frame_kernel, SampleK.frame_ideal, SampleK.frame_reference,
  SampleV.frame_kernel, SampleV.frame_ideal, SampleV.frame_reference,
  SampleForget.frame_kernel, SampleForget.frame_ideal, SampleForget.frame_reference,
  SampleIn.frame_kernel, SampleIn.frame_ideal, SampleIn.frame_reference,
  SampleLn.frame_kernel, SampleLn.frame_ideal, SampleLn.frame_reference,
  SampleHeads.frame_kernel, SampleHeads.frame_ideal, SampleHeads.frame_reference,
  Attn.preserves, Attn.algebraic,
  Out.preserves, Out.algebraic,
  Q.preserves, Q.algebraic,
  K.preserves, K.algebraic,
  V.preserves, V.algebraic,
  Forget.preserves, Forget.algebraic,
  In.preserves, In.algebraic,
  Ple.preserves, Ple.algebraic,
  Ln.preserves, Ln.algebraic,
  Heads.preserves, Heads.algebraic,
  Conv.preserves, Conv.algebraic,
  SampleK.preserves, SampleK.algebraic,
  SampleV.preserves, SampleV.algebraic,
  SampleForget.preserves, SampleForget.algebraic,
  SampleIn.preserves, SampleIn.algebraic,
  SampleLn.preserves, SampleLn.algebraic,
  SampleHeads.preserves, SampleHeads.algebraic⟩

end Cert.Proof

end
